-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)) (v11 : (c : Dev Cert.Kernel2Ideal.nD) → Buf (Elt Ideal) ((c.tc : Thread Cert.Kernel2Ideal.nD Cert.Kernel2Ideal.τ).loc Cert.Kernel2Ideal.main_v0_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_v0_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v159) = v0 c
          ∧ r.2.mem ((c.tc : Thread Cert.Reference2Ideal.nD Cert.Reference2Ideal.τ).loc Cert.Reference2Ideal.main_v160) = v1 c
          ∧ r.2.mem ((c.tc : Thread Cert.Reference2Ideal.nD Cert.Reference2Ideal.τ).loc Cert.Reference2Ideal.main_v161) = v2 c
          ∧ r.2.mem ((c.tc : Thread Cert.Reference2Ideal.nD Cert.Reference2Ideal.τ).loc Cert.Reference2Ideal.main_v162) = v3 c
          ∧ r.2.mem ((c.tc : Thread Cert.Reference2Ideal.nD Cert.Reference2Ideal.τ).loc Cert.Reference2Ideal.main_v153) = v4 c
          ∧ r.2.mem ((c.tc : Thread Cert.Reference2Ideal.nD Cert.Reference2Ideal.τ).loc Cert.Reference2Ideal.main_v163) = v5 c
          ∧ r.2.mem ((c.tc : Thread Cert.Reference2Ideal.nD Cert.Reference2Ideal.τ).loc Cert.Reference2Ideal.main_v131) = v6 c
          ∧ r.2.mem ((c.tc : Thread Cert.Reference2Ideal.nD Cert.Reference2Ideal.τ).loc Cert.Reference2Ideal.main_v128) = v7 c
          ∧ r.2.mem ((c.tc : Thread Cert.Reference2Ideal.nD Cert.Reference2Ideal.τ).loc Cert.Reference2Ideal.main_v96) = v8 c
          ∧ r.2.mem ((c.tc : Thread Cert.Reference2Ideal.nD Cert.Reference2Ideal.τ).loc Cert.Reference2Ideal.main_v93) = v9 c
          ∧ r.2.mem ((c.tc : Thread Cert.Reference2Ideal.nD Cert.Reference2Ideal.τ).loc Cert.Reference2Ideal.main_v164) = v10 c
          ∧ r.2.mem ((c.tc : Thread Cert.Reference2Ideal.nD Cert.Reference2Ideal.τ).loc Cert.Reference2Ideal.main_v165) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S4x4096x512 : Shape := ⟨3, ![4, 4096, 512]⟩
abbrev S4096x512 : Shape := ⟨2, ![4096, 512]⟩
abbrev S2x512 : Shape := ⟨2, ![2, 512]⟩
abbrev S3x4096x512 : Shape := ⟨3, ![3, 4096, 512]⟩
abbrev S_ : Shape := ⟨0, ![]⟩

class Facts : Prop where
  slices_S4x4096x512_S3x4096x512_0_0_0 : S4x4096x512.Slices ![0, 0, 0] S3x4096x512
  bcast_S_S3x4096x512 : S_.BroadcastsInDim S3x4096x512 (![] : Fin 0 → Fin S3x4096x512.rank)
  reducesTo_S3x4096x512_S_d0_1_2 : S3x4096x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S4x4096x512 .f32) (main_arg1 : FVec F S4096x512 .f32) (main_arg2 : FVec F S2x512 .f32) : IVec S_ 1 :=
  let main_v0 : FVec F S3x4096x512 .f32 := (extractStridedSlice S3x4096x512 ![0, 0, 0] · slices_S4x4096x512_S3x4096x512_0_0_0) main_arg0
  let main_v1 : FVec F S3x4096x512 .f32 := Host.absf main_v0
  let main_cst : FVec F S_ .f32 := constant S_ .f32 0x7F800000#32
  let main_v2 : FVec F S3x4096x512 .f32 := broadcastInDim S3x4096x512 ![] bcast_S_S3x4096x512 main_cst
  let main_v3 : IVec S3x4096x512 1 := cmpf .olt main_v1 main_v2
  let main_c : IVec S_ 1 := constantI S_ 1 1#1
  let main_v4 : IVec S_ 1 := (fun x v => Host.reduce IntOp.andi x v reducesTo_S3x4096x512_S_d0_1_2 h_S_) main_v3 main_c
  let main_v5 : FVec F S4096x512 .f32 := Host.absf main_arg1
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : IVec S_ 1 := andi main_v4 main_v8
  let main_v10 : FVec F S2x512 .f32 := Host.absf main_arg2
  let main_cst_2 : FVec F S_ .f32 := constant S_ .f32 0x7F800000#32
  let main_v11 : FVec F S2x512 .f32 := broadcastInDim S2x512 ![] bcast_S_S2x512 main_cst_2
  let main_v12 : IVec S2x512 1 := cmpf .olt main_v10 main_v11
  let main_c_3 : IVec S_ 1 := constantI S_ 1 1#1
  let main_v13 : IVec S_ 1 := (fun x v => Host.reduce IntOp.andi x v reducesTo_S2x512_S_d0_1 h_S_) main_v12 main_c_3
  let main_v14 : IVec S_ 1 := andi main_v9 main_v13
  main_v14
-- ==== Pre_finite2.lean ====
abbrev S4096x512 : Shape := ⟨2, ![4096, 512]⟩
abbrev S4096x1024 : Shape := ⟨2, ![4096, 1024]⟩
abbrev S1024x1024 : Shape := ⟨2, ![1024, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_arg10 : FVec F S1x1024 .f32) (main_v48 : IVec S_ 1) (main_v51 : IVec S1x1024 1) (main_c_17 : IVec S_ 1) : IVec S_ 1 :=
  let main_v52 : IVec S_ 1 := (fun x v => Host.reduce IntOp.andi x v reducesTo_S1x1024_S_d0_1 h_S_) main_v51 main_c_17
  let main_v53 : IVec S_ 1 := andi main_v48 main_v52
  let main_v54 : FVec F S1x1024 .f32 := Host.absf main_arg10
  let main_cst_18 : FVec F S_ .f32 := constant S_ .f32 0x7F800000#32
  let main_v55 : FVec F S1x1024 .f32 := broadcastInDim S1x1024 ![] bcast_S_S1x1024 main_cst_18
  let main_v56 : IVec S1x1024 1 := cmpf .olt main_v54 main_v55
  let main_c_19 : IVec S_ 1 := constantI S_ 1 1#1
  let main_v57 : IVec S_ 1 := (fun x v => Host.reduce IntOp.andi x v reducesTo_S1x1024_S_d0_1 h_S_) main_v56 main_c_19
  let main_v58 : IVec S_ 1 := andi main_v53 main_v57
  main_v58

def fn_part2 {F : FTy → Type} [FloatOps F] (main_arg7 : FVec F S1x1024 .f32) (main_arg8 : FVec F S1x1024 .f32) (main_arg9 : FVec F S1x1024 .f32) (main_arg10 : FVec F S1x1024 .f32) (main_v32 : IVec S_ 1) (main_v34 : FVec F S4096x1024 .f32) (main_cst_10 : FVec F S_ .f32) : IVec S_ 1 :=
  let main_v35 : FVec F S4096x1024 .f32 := broadcastInDim S4096x1024 ![] bcast_S_S4096x1024 main_cst_10
  let main_v36 : IVec S4096x1024 1 := cmpf .olt main_v34 main_v35
  let main_c_11 : IVec S_ 1 := constantI S_ 1 1#1
  let main_v37 : IVec S_ 1 := (fun x v => Host.reduce IntOp.andi x v reducesTo_S4096x1024_S_d0_1 h_S_) main_v36 main_c_11
  let main_v38 : IVec S_ 1 := andi main_v32 main_v37
  let main_v39 : FVec F S1x1024 .f32 := Host.absf main_arg7
  let main_cst_12 : FVec F S_ .f32 := constant S_ .f32 0x7F800000#32
  let main_v40 : FVec F S1x1024 .f32 := broadcastInDim S1x1024 ![] bcast_S_S1x1024 main_cst_12
  let main_v41 : IVec S1x1024 1 := cmpf .olt main_v39 main_v40
  let main_c_13 : IVec S_ 1 := constantI S_ 1 1#1
  let main_v42 : IVec S_ 1 := (fun x v => Host.reduce IntOp.andi x v reducesTo_S1x1024_S_d0_1 h_S_) main_v41 main_c_13
  let main_v43 : IVec S_ 1 := andi main_v38 main_v42
  let main_v44 : FVec F S1x1024 .f32 := Host.absf main_arg8
  let main_cst_14 : FVec F S_ .f32 := constant S_ .f32 0x7F800000#32
  let main_v45 : FVec F S1x1024 .f32 := broadcastInDim S1x1024 ![] bcast_S_S1x1024 main_cst_14
  let main_v46 : IVec S1x1024 1 := cmpf .olt main_v44 main_v45
  let main_c_15 : IVec S_ 1 := constantI S_ 1 1#1
  let main_v47 : IVec S_ 1 := (fun x v => Host.reduce IntOp.andi x v reducesTo_S1x1024_S_d0_1 h_S_) main_v46 main_c_15
  let main_v48 : IVec S_ 1 := andi main_v43 main_v47
  let main_v49 : FVec F S1x1024 .f32 := Host.absf main_arg9
  let main_cst_16 : FVec F S_ .f32 := constant S_ .f32 0x7F800000#32
  let main_v50 : FVec F S1x1024 .f32 := broadcastInDim S1x1024 ![] bcast_S_S1x1024 main_cst_16
  let main_v51 : IVec S1x1024 1 := cmpf .olt main_v49 main_v50
  let main_c_17 : IVec S_ 1 := constantI S_ 1 1#1
  fn_part3 (F := F) main_arg10 main_v48 main_v51 main_c_17

def fn_part1 {F : FTy → Type} [FloatOps F] (main_arg4 : FVec F S1024x1024 .bf16) (main_arg5 : FVec F S1024x4096 .bf16) (main_arg6 : FVec F S4096x1024 .bf16) (main_arg7 : FVec F S1x1024 .f32) (main_arg8 : FVec F S1x1024 .f32) (main_arg9 : FVec F S1x1024 .f32) (main_arg10 : FVec F S1x1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1024x1024 .f32 := (extf .f32 · bitsLt_bf16_f32) main_arg4
  let main_v22 : FVec F S1024x1024 .f32 := Host.absf main_v21
  let main_cst_6 : FVec F S_ .f32 := constant S_ .f32 0x7F800000#32
  let main_v23 : FVec F S1024x1024 .f32 := broadcastInDim S1024x1024 ![] bcast_S_S1024x1024 main_cst_6
  let main_v24 : IVec S1024x1024 1 := cmpf .olt main_v22 main_v23
  let main_c_7 : IVec S_ 1 := constantI S_ 1 1#1
  let main_v25 : IVec S_ 1 := (fun x v => Host.reduce IntOp.andi x v reducesTo_S1024x1024_S_d0_1 h_S_) main_v24 main_c_7
  let main_v26 : IVec S_ 1 := andi main_v20 main_v25
  let main_v27 : FVec F S1024x4096 .f32 := (extf .f32 · bitsLt_bf16_f32) main_arg5
  let main_v28 : FVec F S1024x4096 .f32 := Host.absf main_v27
  let main_cst_8 : FVec F S_ .f32 := constant S_ .f32 0x7F800000#32
  let main_v29 : FVec F S1024x4096 .f32 := broadcastInDim S1024x4096 ![] bcast_S_S1024x4096 main_cst_8
  let main_v30 : IVec S1024x4096 1 := cmpf .olt main_v28 main_v29
  let main_c_9 : IVec S_ 1 := constantI S_ 1 1#1
  let main_v31 : IVec S_ 1 := (fun x v => Host.reduce IntOp.andi x v reducesTo_S1024x4096_S_d0_1 h_S_) main_v30 main_c_9
  let main_v32 : IVec S_ 1 := andi main_v26 main_v31
  let main_v33 : FVec F S4096x1024 .f32 := (extf .f32 · bitsLt_bf16_f32) main_arg6
  let main_v34 : FVec F S4096x1024 .f32 := Host.absf main_v33
  let main_cst_10 : FVec F S_ .f32 := constant S_ .f32 0x7F800000#32
  fn_part2 (F := F) main_arg7 main_arg8 main_arg9 main_arg10 main_v32 main_v34 main_cst_10

def fn {F : FTy → Type} [FloatOps F] (main_arg0 : FVec F S4096x512 .bf16) (main_arg1 : FVec F S4096x512 .bf16) (main_arg2 : FVec F S4096x1024 .f32) (main_arg3 : FVec F S4096x1024 .f32) (main_arg4 : FVec F S1024x1024 .bf16) (main_arg5 : FVec F S1024x4096 .bf16) (main_arg6 : FVec F S4096x1024 .bf16) (main_arg7 : FVec F S1x1024 .f32) (main_arg8 : FVec F S1x1024 .f32) (main_arg9 : FVec F S1x1024 .f32) (main_arg10 : FVec F S1x1024 .f32) : IVec S_ 1 :=
  let main_v0 : FVec F S4096x1024 .f32 := Host.absf main_arg2
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := (extf .f32 · bitsLt_bf16_f32) main_arg0
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : IVec S_ 1 := andi main_v3 main_v8
  let main_v10 : FVec F S4096x512 .f32 := (extf .f32 · bitsLt_bf16_f32) main_arg1
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : IVec S_ 1 := andi main_v9 main_v14
  let main_v16 : FVec F S4096x1024 .f32 := Host.absf main_arg3
  let main_cst_4 : FVec F S_ .f32 := constant S_ .f32 0x7F800000#32
  fn_part1 (F := F) main_arg4 main_arg5 main_arg6 main_arg7 main_arg8 main_arg9 main_arg10 main_v15 main_v16 main_cst_4
-- ==== Kernel.lean ====
abbrev S4x4096x512 : Shape := ⟨3, ![4, 4096, 512]⟩
abbrev S4096x512 : Shape := ⟨2, ![4096, 512]⟩
abbrev S2x512 : Shape := ⟨2, ![2, 512]⟩
abbrev S1x4096x512 : Shape := ⟨3, ![1, 4096, 512]⟩
abbrev S_ : Shape := ⟨0, ![]⟩
abbrev S512 : Shape := ⟨1, ![512]⟩
abbrev S1x512 : Shape := ⟨2, ![1, 512]⟩
abbrev S64x4096 : Shape := ⟨2, ![64, 4096]⟩
abbrev S63x512 : Shape := ⟨2, ![63, 512]⟩
abbrev S64x512 : Shape := ⟨2, ![64, 512]⟩
abbrev S64x4096x1 : Shape := ⟨3, ![64, 4096, 1]⟩
abbrev S64x1x512 : Shape := ⟨3, ![64, 1, 512]⟩
abbrev S64x4096x512 : Shape := ⟨3, ![64, 4096, 512]⟩
abbrev S64x4096x4x128 : Shape := ⟨4, ![64, 4096, 4, 128]⟩
abbrev S4096x4x128 : Shape := ⟨3, ![4096, 4, 128]⟩
abbrev S4x128x64x128 : Shape := ⟨4, ![4, 128, 64, 128]⟩
abbrev S64x128x4x128 : Shape := ⟨4, ![64, 128, 4, 128]⟩
abbrev S64x128x512 : Shape := ⟨3, ![64, 128, 512]⟩
abbrev S8x128 : Shape := ⟨2, ![8, 128]⟩
abbrev S3x4096x512 : Shape := ⟨3, ![3, 4096, 512]⟩
abbrev S1x512x512 : Shape := ⟨3, ![1, 512, 512]⟩
abbrev S512x512 : Shape := ⟨2, ![512, 512]⟩
abbrev S8x128x512 : Shape := ⟨3, ![8, 128, 512]⟩
abbrev S3x512x512 : Shape := ⟨3, ![3, 512, 512]⟩
abbrev S128x512 : Shape := ⟨2, ![128, 512]⟩
abbrev S64x64 : Shape := ⟨2, ![64, 64]⟩
abbrev S1x64x512 : Shape := ⟨3, ![1, 64, 512]⟩
abbrev S1x128x512 : Shape := ⟨3, ![1, 128, 512]⟩
abbrev S64x128 : Shape := ⟨2, ![64, 128]⟩
abbrev S128x128 : Shape := ⟨2, ![128, 128]⟩

abbrev nBuf : Space → Nat
  | .hbm => 84
  | .vmem => 16
  | .smem => 0
  | _ => 0

abbrev bufTy : (tb : Table) → Fin (tcTables nBuf tb) → BufTy
  | .hbm, ⟨0, _⟩ => ⟨S4x4096x512, .f32⟩
  | .hbm, ⟨1, _⟩ => ⟨S4096x512, .f32⟩
  | .hbm, ⟨2, _⟩ => ⟨S2x512, .f32⟩
  | .hbm, ⟨3, _⟩ => ⟨S1x4096x512, .f32⟩
  | .hbm, ⟨4, _⟩ => ⟨S4096x512, .f32⟩
  | .hbm, ⟨5, _⟩ => ⟨S1x4096x512, .f32⟩
  | .hbm, ⟨6, _⟩ => ⟨S4096x512, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S2x512, .f32⟩
  | .hbm, ⟨20, _⟩ => ⟨S2x512, .f32⟩
  | .hbm, ⟨21, _⟩ => ⟨S_, .f32⟩
  | .hbm, ⟨22, _⟩ => ⟨S_, .f32⟩
  | .hbm, ⟨23, _⟩ => ⟨S2x512, .f32⟩
  | .hbm, ⟨24, _⟩ => ⟨S1x512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S1x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S_, .f32⟩
  | .hbm, ⟨49, _⟩ => ⟨S4096x512, .f32⟩
  | .hbm, ⟨50, _⟩ => ⟨S64x4096, .i32⟩
  | .hbm, ⟨51, _⟩ => ⟨S_, .i32⟩
  | .hbm, ⟨52, _⟩ => ⟨S64x4096, .i32⟩
  | .hbm, ⟨53, _⟩ => ⟨S64x4096, .i32⟩
  | .hbm, ⟨54, _⟩ => ⟨S64x4096, .i32⟩
  | .hbm, ⟨55, _⟩ => ⟨S64x4096, .i1⟩
  | .hbm, ⟨56, _⟩ => ⟨S_, .f32⟩
  | .hbm, ⟨57, _⟩ => ⟨S1x512, .f32⟩
  | .hbm, ⟨58, _⟩ => ⟨S63x512, .f32⟩
  | .hbm, ⟨59, _⟩ => ⟨S64x512, .f32⟩
  | .hbm, ⟨60, _⟩ => ⟨S64x4096x1, .i1⟩
  | .hbm, ⟨61, _⟩ => ⟨S1x4096x512, .f32⟩
  | .hbm, ⟨62, _⟩ => ⟨S64x1x512, .f32⟩
  | .hbm, ⟨63, _⟩ => ⟨S1x4096x512, .f32⟩
  | .hbm, ⟨64, _⟩ => ⟨S64x4096x512, .f32⟩
  | .hbm, ⟨65, _⟩ => ⟨S64x4096x512, .f32⟩
  | .hbm, ⟨66, _⟩ => ⟨S64x4096x512, .f32⟩
  | .hbm, ⟨67, _⟩ => ⟨S64x4096x512, .f32⟩
  | .hbm, ⟨68, _⟩ => ⟨S64x4096x512, .f32⟩
  | .hbm, ⟨69, _⟩ => ⟨S64x4096x512, .f32⟩
  | .hbm, ⟨70, _⟩ => ⟨S_, .f32⟩
  | .hbm, ⟨71, _⟩ => ⟨S_, .f32⟩
  | .hbm, ⟨72, _⟩ => ⟨S64x4096x512, .i1⟩
  | .hbm, ⟨73, _⟩ => ⟨S64x4096x512, .f32⟩
  | .hbm, ⟨74, _⟩ => ⟨S64x4096x512, .f32⟩
  | .hbm, ⟨75, _⟩ => ⟨S64x4096x4x128, .f32⟩
  | .hbm, ⟨76, _⟩ => ⟨S4096x4x128, .f32⟩
  | .hbm, ⟨77, _⟩ => ⟨S4x128x64x128, .f32⟩
  | .hbm, ⟨78, _⟩ => ⟨S64x128x4x128, .f32⟩
  | .hbm, ⟨79, _⟩ => ⟨S64x128x512, .f32⟩
  | .hbm, ⟨80, _⟩ => ⟨S_, .f32⟩
  | .hbm, ⟨81, _⟩ => ⟨S8x128, .f32⟩
  | .hbm, ⟨82, _⟩ => ⟨S3x4096x512, .bf16⟩
  | .hbm, ⟨83, _⟩ => ⟨S2x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S8x128x512, .f32⟩
  | .local _ .vmem, ⟨9, _⟩ => ⟨S8x128x512, .f32⟩
  | .local _ .vmem, ⟨10, _⟩ => ⟨S2x512, .f32⟩
  | .local _ .vmem, ⟨11, _⟩ => ⟨S3x512x512, .bf16⟩
  | .local _ .vmem, ⟨12, _⟩ => ⟨S3x512x512, .bf16⟩
  | .local _ .vmem, ⟨13, _⟩ => ⟨S2x512, .f32⟩
  | .local _ .vmem, ⟨14, _⟩ => ⟨S128x512, .f32⟩
  | .local _ .vmem, ⟨15, _⟩ => ⟨S1x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_call0_cst : Ref sig .tc := ⟨.hbm, 47, rfl⟩
abbrev main_call1_call0_v0 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61_0 : Ref sig .tc := ⟨.hbm, 82, rfl⟩
abbrev main_v61_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v2492 : BitVec 1 := Scalar.cmpi .eq arg0 c7_i32
  let v2493 : BitVec 32 := Scalar.extui v2492
  let c0_i32_623 : BitVec 32 := 0#32
  let v2494 : BitVec 1 := Scalar.cmpi .ne v2493 c0_i32_623
  v2494

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  let c0_i32_0 : BitVec 32 := 0#32
  ![c2_i32.toNat, v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x4096x512 : Shape := ⟨3, ![4, 4096, 512]⟩
abbrev S4096x512 : Shape := ⟨2, ![4096, 512]⟩
abbrev S2x512 : Shape := ⟨2, ![2, 512]⟩
abbrev S1x4096x512 : Shape := ⟨3, ![1, 4096, 512]⟩
abbrev S_ : Shape := ⟨0, ![]⟩
abbrev S512 : Shape := ⟨1, ![512]⟩
abbrev S1x512 : Shape := ⟨2, ![1, 512]⟩
abbrev S4096x4x128 : Shape := ⟨3, ![4096, 4, 128]⟩
abbrev S4096x4096 : Shape := ⟨2, ![4096, 4096]⟩
abbrev S4096x4096x1x1 : Shape := ⟨4, ![4096, 4096, 1, 1]⟩
abbrev S4096x1x4x128 : Shape := ⟨4, ![4096, 1, 4, 128]⟩
abbrev S1x4096x4x128 : Shape := ⟨4, ![1, 4096, 4, 128]⟩
abbrev S4096x4096x4x128 : Shape := ⟨4, ![4096, 4096, 4, 128]⟩
abbrev S4096x4096x4 : Shape := ⟨3, ![4096, 4096, 4]⟩
abbrev S4x128x4096 : Shape := ⟨3, ![4, 128, 4096]⟩
abbrev S4x4096x4096 : Shape := ⟨3, ![4, 4096, 4096]⟩
abbrev S3x4096x512 : Shape := ⟨3, ![3, 4096, 512]⟩

abbrev nBuf : Space → Nat
  | .hbm => 210
  | .vmem => 0
  | .smem => 0
  | _ => 0

abbrev hbmTy0_0 (i : Nat) : BufTy := match i % 128 with
  | 0 => ⟨S4x4096x512, .f32⟩
  | 1 => ⟨S4096x512, .f32⟩
  | 2 => ⟨S2x512, .f32⟩
  | 3 => ⟨S1x4096x512, .f32⟩
  | 4 => ⟨S4096x512, .f32⟩
  | 5 => ⟨S1x4096x512, .f32⟩
  | 6 => ⟨S4096x512, .f32⟩
  | 7 => ⟨S1x4096x512, .f32⟩
  | 8 => ⟨S4096x512, .f32⟩
  | 9 => ⟨S_, .f32⟩
  | 10 => ⟨S512, .f32⟩
  | 11 => ⟨S1x512, .f32⟩
  | 12 => ⟨S2x512, .f32⟩
  | 13 => ⟨S2x512, .i1⟩
  | 14 => ⟨S2x512, .f32⟩
  | 15 => ⟨S_, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .i1⟩
  | 23 => ⟨S_, .f32⟩
  | 24 => ⟨S512, .f32⟩
  | 25 => ⟨S512, .i1⟩
  | 26 => ⟨S_, .f32⟩
  | 27 => ⟨S512, .f32⟩
  | 28 => ⟨S_, .f32⟩
  | 29 => ⟨S512, .f32⟩
  | 30 => ⟨S_, .f32⟩
  | 31 => ⟨S512, .f32⟩
  | 32 => ⟨S512, .f32⟩
  | 33 => ⟨S512, .f32⟩
  | 34 => ⟨S1x512, .f32⟩
  | 35 => ⟨S2x512, .f32⟩
  | 36 => ⟨S2x512, .f32⟩
  | 37 => ⟨S2x512, .f32⟩
  | 38 => ⟨S_, .f32⟩
  | 39 => ⟨S512, .f32⟩
  | 40 => ⟨S1x512, .f32⟩
  | 41 => ⟨S2x512, .f32⟩
  | 42 => ⟨S2x512, .f32⟩
  | 43 => ⟨S1x512, .f32⟩
  | 44 => ⟨S_, .f32⟩
  | 45 => ⟨S1x512, .f32⟩
  | 46 => ⟨S1x512, .f32⟩
  | 47 => ⟨S_, .f32⟩
  | 48 => ⟨S_, .f32⟩
  | 49 => ⟨S2x512, .f32⟩
  | 50 => ⟨S1x512, .f32⟩
  | 51 => ⟨S512, .f32⟩
  | 52 => ⟨S_, .f32⟩
  | 53 => ⟨S512, .f32⟩
  | 54 => ⟨S512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S4096x512, .f32⟩
  | 67 => ⟨S1x512, .f32⟩
  | 68 => ⟨S4096x512, .f32⟩
  | 69 => ⟨S4096x512, .f32⟩
  | 70 => ⟨S1x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S_, .f32⟩
  | 78 => ⟨S_, .f32⟩
  | 79 => ⟨S4096x512, .f32⟩
  | 80 => ⟨S4096x4x128, .f32⟩
  | 81 => ⟨S4096x4x128, .f32⟩
  | 82 => ⟨S4096x4x128, .f32⟩
  | 83 => ⟨S4096x4x128, .f32⟩
  | 84 => ⟨S_, .i1⟩
  | 85 => ⟨S4096x4096, .i1⟩
  | 86 => ⟨S4096x4096, .i32⟩
  | 87 => ⟨S_, .i32⟩
  | 88 => ⟨S4096x4096, .i32⟩
  | 89 => ⟨S4096x4096, .i32⟩
  | 90 => ⟨S4096x4096, .i32⟩
  | 91 => ⟨S4096x4096, .i1⟩
  | 92 => ⟨S_, .i1⟩
  | 93 => ⟨S4096x4096, .i1⟩
  | 94 => ⟨S4096x4096, .i1⟩
  | 95 => ⟨S4096x4096x1x1, .i1⟩
  | 96 => ⟨S4096x1x4x128, .f32⟩
  | 97 => ⟨S1x4096x4x128, .f32⟩
  | 98 => ⟨S4096x4096x4x128, .f32⟩
  | 99 => ⟨S4096x4096x4x128, .f32⟩
  | 100 => ⟨S4096x4096x4x128, .f32⟩
  | 101 => ⟨S_, .f32⟩
  | 102 => ⟨S_, .f32⟩
  | 103 => ⟨S4096x4096x4x128, .i1⟩
  | 104 => ⟨S4096x4096x4x128, .f32⟩
  | 105 => ⟨S4096x4096x4x128, .f32⟩
  | 106 => ⟨S_, .f32⟩
  | 107 => ⟨S4096x4096x4x128, .f32⟩
  | 108 => ⟨S4096x4096x4x128, .f32⟩
  | 109 => ⟨S4096x1x4x128, .f32⟩
  | 110 => ⟨S1x4096x4x128, .f32⟩
  | 111 => ⟨S4096x4096x4x128, .f32⟩
  | 112 => ⟨S4096x4096x4x128, .f32⟩
  | 113 => ⟨S4096x4096x4x128, .f32⟩
  | 114 => ⟨S4096x4096x4x128, .f32⟩
  | 115 => ⟨S_, .f32⟩
  | 116 => ⟨S4096x4096x4, .f32⟩
  | 117 => ⟨S4x128x4096, .f32⟩
  | 118 => ⟨S4096x4x128, .f32⟩
  | 119 => ⟨S4096x512, .f32⟩
  | 120 => ⟨S4096x4x128, .f32⟩
  | 121 => ⟨S4x128x4096, .f32⟩
  | 122 => ⟨S4x4096x4096, .f32⟩
  | 123 => ⟨S4096x4096x4, .f32⟩
  | 124 => ⟨S4x128x4096, .f32⟩
  | 125 => ⟨S4096x4x128, .f32⟩
  | 126 => ⟨S4096x4096x4x128, .f32⟩
  | 127 => ⟨S4096x4096x4x128, .f32⟩
  | _ => ⟨S4x4096x512, .f32⟩

abbrev hbmTy0_1 (i : Nat) : BufTy := match i % 128 with
  | 0 => ⟨S4096x4096x4x128, .f32⟩
  | 1 => ⟨S4096x4096x4x128, .f32⟩
  | 2 => ⟨S4096x4096x4x128, .f32⟩
  | 3 => ⟨S_, .f32⟩
  | 4 => ⟨S4096x4x128, .f32⟩
  | 5 => ⟨S1x4096x4x128, .f32⟩
  | 6 => ⟨S4096x4096x4x128, .f32⟩
  | 7 => ⟨S4096x4096x4x128, .f32⟩
  | 8 => ⟨S_, .f32⟩
  | 9 => ⟨S4096x4x128, .f32⟩
  | 10 => ⟨S4096x1x4x128, .f32⟩
  | 11 => ⟨S_, .f32⟩
  | 12 => ⟨S4096x4x128, .f32⟩
  | 13 => ⟨S_, .f32⟩
  | 14 => ⟨S4096x4x128, .f32⟩
  | 15 => ⟨S4096x4096x4x128, .f32⟩
  | 16 => ⟨S_, .f32⟩
  | 17 => ⟨S4096x4096x4x128, .f32⟩
  | 18 => ⟨S4096x4096x4x128, .f32⟩
  | 19 => ⟨S_, .f32⟩
  | 20 => ⟨S4096x4x128, .f32⟩
  | 21 => ⟨S4096x1x4x128, .f32⟩
  | 22 => ⟨S4096x4096x4x128, .f32⟩
  | 23 => ⟨S_, .f32⟩
  | 24 => ⟨S4096x4x128, .f32⟩
  | 25 => ⟨S1x4096x4x128, .f32⟩
  | 26 => ⟨S_, .f32⟩
  | 27 => ⟨S4096x4x128, .f32⟩
  | 28 => ⟨S_, .f32⟩
  | 29 => ⟨S4096x4x128, .f32⟩
  | 30 => ⟨S4096x4x128, .f32⟩
  | 31 => ⟨S4096x512, .f32⟩
  | 32 => ⟨S4096x512, .f32⟩
  | 33 => ⟨S4096x512, .f32⟩
  | 34 => ⟨S4096x512, .f32⟩
  | 35 => ⟨S_, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S512, .f32⟩
  | 43 => ⟨S1x512, .f32⟩
  | 44 => ⟨S_, .f32⟩
  | 45 => ⟨S512, .f32⟩
  | 46 => ⟨S4096x512, .f32⟩
  | 47 => ⟨S4096x512, .f32⟩
  | 48 => ⟨S4096x512, .f32⟩
  | 49 => ⟨S_, .f32⟩
  | 50 => ⟨S512, .f32⟩
  | 51 => ⟨S1x512, .f32⟩
  | 52 => ⟨S_, .f32⟩
  | 53 => ⟨S512, .f32⟩
  | 54 => ⟨S4096x512, .f32⟩
  | 55 => ⟨S512, .f32⟩
  | 56 => ⟨S512, .f32⟩
  | 57 => ⟨S1x512, .f32⟩
  | 58 => ⟨S_, .f32⟩
  | 59 => ⟨S2x512, .f32⟩
  | 60 => ⟨S_, .f32⟩
  | 61 => ⟨S_, .f32⟩
  | 62 => ⟨S2x512, .f32⟩
  | 63 => ⟨S2x512, .f32⟩
  | 64 => ⟨S2x512, .f32⟩
  | 65 => ⟨S2x512, .f32⟩
  | 66 => ⟨S_, .f32⟩
  | 67 => ⟨S512, .f32⟩
  | 68 => ⟨S1x512, .f32⟩
  | 69 => ⟨S1x512, .f32⟩
  | 70 => ⟨S2x512, .f32⟩
  | 71 => ⟨S2x512, .f32⟩
  | 72 => ⟨S_, .f32⟩
  | 73 => ⟨S512, .f32⟩
  | 74 => ⟨S2x512, .f32⟩
  | 75 => ⟨S2x512, .f32⟩
  | 76 => ⟨S2x512, .f32⟩
  | 77 => ⟨S1x4096x512, .f32⟩
  | 78 => ⟨S1x4096x512, .f32⟩
  | 79 => ⟨S1x4096x512, .f32⟩
  | 80 => ⟨S3x4096x512, .f32⟩
  | 81 => ⟨S3x4096x512, .bf16⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_call0_call0_cst : Ref sig .tc := ⟨.hbm, 47, rfl⟩
abbrev main_call0_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call1_call0_cst : Ref sig .tc := ⟨.hbm, 77, rfl⟩
abbrev main_call1_call0_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c : Ref sig .tc := ⟨.hbm, 84, rfl⟩
abbrev main_v62 : Ref sig .tc := ⟨.hbm, 85, rfl⟩
abbrev main_call2_v0 : Ref sig .tc := ⟨.hbm, 86, rfl⟩
abbrev main_call2_c : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_0 : Ref sig .tc := ⟨.hbm, 92, rfl⟩
abbrev main_call2_v5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_call3_v0 : Ref sig .tc := ⟨.hbm, 102, rfl⟩
abbrev main_v70_1 : Ref sig .tc := ⟨.hbm, 103, rfl⟩
abbrev main_call3_v2 : Ref sig .tc := ⟨.hbm, 104, rfl⟩
abbrev main_v70_0 : Ref sig .tc := ⟨.hbm, 105, rfl⟩
abbrev main_call3_cst : Ref sig .tc := ⟨.hbm, 106, rfl⟩
abbrev main_v70_2 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_16 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_17 : Ref sig .tc := ⟨.hbm, 136, rfl⟩
abbrev main_v97 : Ref sig .tc := ⟨.hbm, 137, rfl⟩
abbrev main_v98 : Ref sig .tc := ⟨.hbm, 138, rfl⟩
abbrev main_cst_18 : Ref sig .tc := ⟨.hbm, 139, rfl⟩
abbrev main_v99 : Ref sig .tc := ⟨.hbm, 140, rfl⟩
abbrev main_cst_19 : Ref sig .tc := ⟨.hbm, 141, rfl⟩
abbrev main_v100 : Ref sig .tc := ⟨.hbm, 142, rfl⟩
abbrev main_v101 : Ref sig .tc := ⟨.hbm, 143, rfl⟩
abbrev main_call4_cst : Ref sig .tc := ⟨.hbm, 144, rfl⟩
abbrev main_call4_v0 : Ref sig .tc := ⟨.hbm, 145, rfl⟩
abbrev main_v102 : Ref sig .tc := ⟨.hbm, 146, rfl⟩
abbrev main_cst_20 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_21 : Ref sig .tc := ⟨.hbm, 151, rfl⟩
abbrev main_v106 : Ref sig .tc := ⟨.hbm, 152, rfl⟩
abbrev main_v107 : Ref sig .tc := ⟨.hbm, 153, rfl⟩
abbrev main_cst_22 : Ref sig .tc := ⟨.hbm, 154, rfl⟩
abbrev main_v108 : Ref sig .tc := ⟨.hbm, 155, rfl⟩
abbrev main_cst_23 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_call5_call0_cst : Ref sig .tc := ⟨.hbm, 163, rfl⟩
abbrev main_call5_call0_v0 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_24 : Ref sig .tc := ⟨.hbm, 169, rfl⟩
abbrev main_v119 : Ref sig .tc := ⟨.hbm, 170, rfl⟩
abbrev main_v120 : Ref sig .tc := ⟨.hbm, 171, rfl⟩
abbrev main_cst_25 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_26 : Ref sig .tc := ⟨.hbm, 177, rfl⟩
abbrev main_v125 : Ref sig .tc := ⟨.hbm, 178, rfl⟩
abbrev main_v126 : Ref sig .tc := ⟨.hbm, 179, rfl⟩
abbrev main_cst_27 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_28 : Ref sig .tc := ⟨.hbm, 186, rfl⟩
abbrev main_v132 : Ref sig .tc := ⟨.hbm, 187, rfl⟩
abbrev main_call6_call0_cst : Ref sig .tc := ⟨.hbm, 188, rfl⟩
abbrev main_call6_call0_v0 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_29 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_30 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩

abbrev nD : Nat := 1
abbrev τ : Topo := Topo.v7x

variable {F : FTy → Type} [FloatOps F]
-- ==== Kernel2.lean ====
abbrev S4096x512 : Shape := ⟨2, ![4096, 512]⟩
abbrev S4096x1024 : Shape := ⟨2, ![4096, 1024]⟩
abbrev S1024x1024 : Shape := ⟨2, ![1024, 1024]⟩
abbrev S1024x4096 : Shape := ⟨2, ![1024, 4096]⟩
abbrev S1x1024 : Shape := ⟨2, ![1, 1024]⟩
abbrev S4096x4096 : Shape := ⟨2, ![4096, 4096]⟩
abbrev S8x128 : Shape := ⟨2, ![8, 128]⟩
abbrev S256x512 : Shape := ⟨2, ![256, 512]⟩
abbrev S256x1024 : Shape := ⟨2, ![256, 1024]⟩
abbrev S256x4096 : Shape := ⟨2, ![256, 4096]⟩
abbrev S1 : Shape := ⟨1, ![1]⟩
abbrev S512x1024 : Shape := ⟨2, ![512, 1024]⟩
abbrev S256 : Shape := ⟨1, ![256]⟩
abbrev S256x1 : Shape := ⟨2, ![256, 1]⟩
abbrev S1x256x1 : Shape := ⟨3, ![1, 256, 1]⟩
abbrev S1x1x1 : Shape := ⟨3, ![1, 1, 1]⟩
abbrev S1024 : Shape := ⟨1, ![1024]⟩
abbrev S_ : Shape := ⟨0, ![]⟩

abbrev nBuf : Space → Nat
  | .hbm => 23
  | .vmem => 34
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S4096x1024, .f32⟩
  | .hbm, ⟨4, _⟩ => ⟨S1024x1024, .bf16⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S4096x4096, .bf16⟩
  | .hbm, ⟨13, _⟩ => ⟨S4096x4096, .bf16⟩
  | .hbm, ⟨14, _⟩ => ⟨S4096x1024, .bf16⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x128, .f32⟩
  | .hbm, ⟨22, _⟩ => ⟨S1024x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S8x128, .f32⟩
  | .local _ .vmem, ⟨32, _⟩ => ⟨S1024x1024, .f32⟩
  | .local _ .vmem, ⟨33, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v0_10 : Ref sig .tc := ⟨.hbm, 21, rfl⟩
abbrev main_v0_11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference2Ideal.lean ====
abbrev S4096x512 : Shape := ⟨2, ![4096, 512]⟩
abbrev S4096x1024 : Shape := ⟨2, ![4096, 1024]⟩
abbrev S1024x1024 : Shape := ⟨2, ![1024, 1024]⟩
abbrev S1024x4096 : Shape := ⟨2, ![1024, 4096]⟩
abbrev S1x1024 : Shape := ⟨2, ![1, 1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 226
  | .vmem => 0
  | .smem => 0
  | _ => 0

abbrev hbmTy0_0 (i : Nat) : BufTy := match i % 128 with
  | 0 => ⟨S4096x512, .bf16⟩
  | 1 => ⟨S4096x512, .bf16⟩
  | 2 => ⟨S4096x1024, .f32⟩
  | 3 => ⟨S4096x1024, .f32⟩
  | 4 => ⟨S1024x1024, .bf16⟩
  | 5 => ⟨S1024x4096, .bf16⟩
  | 6 => ⟨S4096x1024, .bf16⟩
  | 7 => ⟨S1x1024, .f32⟩
  | 8 => ⟨S1x1024, .f32⟩
  | 9 => ⟨S1x1024, .f32⟩
  | 10 => ⟨S1x1024, .f32⟩
  | 11 => ⟨S4096x512, .f32⟩
  | 12 => ⟨S4096x512, .f32⟩
  | 13 => ⟨S1024x1024, .f32⟩
  | 14 => ⟨S1024x4096, .f32⟩
  | 15 => ⟨S4096x1024, .f32⟩
  | 16 => ⟨S_, .f32⟩
  | 17 => ⟨S4096x1024, .f32⟩
  | 18 => ⟨S_, .f32⟩
  | 19 => ⟨S4096x4096, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x4096, .f32⟩
  | 60 => ⟨S4096x4096, .f32⟩
  | 61 => ⟨S_, .f32⟩
  | 62 => ⟨S4096x4096, .f32⟩
  | 63 => ⟨S4096x4096, .f32⟩
  | 64 => ⟨S_, .f32⟩
  | 65 => ⟨S4096x4096, .f32⟩
  | 66 => ⟨S4096x4096, .i1⟩
  | 67 => ⟨S_, .f32⟩
  | 68 => ⟨S4096x4096, .f32⟩
  | 69 => ⟨S4096x4096, .f32⟩
  | 70 => ⟨S_, .f32⟩
  | 71 => ⟨S4096x4096, .f32⟩
  | 72 => ⟨S4096x4096, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S4096x1024, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096, .f32⟩
  | 118 => ⟨S_, .f32⟩
  | 119 => ⟨S4096, .f32⟩
  | 120 => ⟨S4096, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x512, .bf16⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S_, .f32⟩
  | 11 => ⟨S1024, .f32⟩
  | 12 => ⟨S1x1024, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S4096x1024, .f32⟩
  | 20 => ⟨S4096x1024, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096, .f32⟩
  | 39 => ⟨S4096x1024, .f32⟩
  | 40 => ⟨S4096x1024, .f32⟩
  | 41 => ⟨S4096x4096, .f32⟩
  | 42 => ⟨S_, .f32⟩
  | 43 => ⟨S4096x1024, .f32⟩
  | 44 => ⟨S4096x1024, .f32⟩
  | 45 => ⟨S4096x4096, .f32⟩
  | 46 => ⟨S_, .f32⟩
  | 47 => ⟨S4096x4096, .f32⟩
  | 48 => ⟨S4096x4096, .f32⟩
  | 49 => ⟨S4096x1024, .f32⟩
  | 50 => ⟨S4096x1024, .f32⟩
  | 51 => ⟨S_, .f32⟩
  | 52 => ⟨S1024, .f32⟩
  | 53 => ⟨S1x1024, .f32⟩
  | 54 => ⟨S4096x1024, .f32⟩
  | 55 => ⟨S_, .f32⟩
  | 56 => ⟨S1024, .f32⟩
  | 57 => ⟨S1x1024, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S4096x1024, .f32⟩
  | 65 => ⟨S4096x1024, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x1024, .f32⟩
  | 85 => ⟨S4096x1024, .f32⟩
  | 86 => ⟨S1024x1024, .f32⟩
  | 87 => ⟨S1024x1024, .f32⟩
  | 88 => ⟨S4096x1024, .f32⟩
  | 89 => ⟨S4096x512, .f32⟩
  | 90 => ⟨S4096x512, .f32⟩
  | 91 => ⟨S4096x1024, .bf16⟩
  | 92 => ⟨S4096x4096, .bf16⟩
  | 93 => ⟨S4096x4096, .bf16⟩
  | 94 => ⟨S4096x1024, .bf16⟩
  | 95 => ⟨S4096x1024, .f32⟩
  | 96 => ⟨S8x128, .f32⟩
  | 97 => ⟨S1024x1024, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_cst_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_cst_16 : Ref sig .tc := ⟨.hbm, 91, rfl⟩
abbrev main_v61 : Ref sig .tc := ⟨.hbm, 92, rfl⟩
abbrev main_v62 : Ref sig .tc := ⟨.hbm, 93, rfl⟩
abbrev main_cst_17 : Ref sig .tc := ⟨.hbm, 94, rfl⟩
abbrev main_v63 : Ref sig .tc := ⟨.hbm, 95, rfl⟩
abbrev main_v64 : Ref sig .tc := ⟨.hbm, 96, rfl⟩
abbrev main_cst_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_20 : Ref sig .tc := ⟨.hbm, 113, rfl⟩
abbrev main_v79 : Ref sig .tc := ⟨.hbm, 114, rfl⟩
abbrev main_v80 : Ref sig .tc := ⟨.hbm, 115, rfl⟩
abbrev main_cst_21 : Ref sig .tc := ⟨.hbm, 116, rfl⟩
abbrev main_v81 : Ref sig .tc := ⟨.hbm, 117, rfl⟩
abbrev main_cst_22 : Ref sig .tc := ⟨.hbm, 118, rfl⟩
abbrev main_v82 : Ref sig .tc := ⟨.hbm, 119, rfl⟩
abbrev main_v83 : Ref sig .tc := ⟨.hbm, 120, rfl⟩
abbrev main_cst_23 : Ref sig .tc := ⟨.hbm, 121, rfl⟩
abbrev main_v84 : Ref sig .tc := ⟨.hbm, 122, rfl⟩
abbrev main_cst_24 : Ref sig .tc := ⟨.hbm, 123, rfl⟩
abbrev main_v85 : Ref sig .tc := ⟨.hbm, 124, rfl⟩
abbrev main_cst_25 : Ref sig .tc := ⟨.hbm, 125, rfl⟩
abbrev main_cst_26 : Ref sig .tc := ⟨.hbm, 126, rfl⟩
abbrev main_v86 : Ref sig .tc := ⟨.hbm, 127, rfl⟩
abbrev main_v87 : Ref sig .tc := ⟨.hbm, 128, rfl⟩
abbrev main_cst_27 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_28 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_29 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_30 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_31 : Ref sig .tc := ⟨.hbm, 150, rfl⟩
abbrev main_v105 : Ref sig .tc := ⟨.hbm, 151, rfl⟩
abbrev main_v106 : Ref sig .tc := ⟨.hbm, 152, rfl⟩
abbrev main_cst_32 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_33 : Ref sig .tc := ⟨.hbm, 159, rfl⟩
abbrev main_v112 : Ref sig .tc := ⟨.hbm, 160, rfl⟩
abbrev main_v113 : Ref sig .tc := ⟨.hbm, 161, rfl⟩
abbrev main_cst_34 : Ref sig .tc := ⟨.hbm, 162, rfl⟩
abbrev main_v114 : Ref sig .tc := ⟨.hbm, 163, rfl⟩
abbrev main_v115 : Ref sig .tc := ⟨.hbm, 164, rfl⟩
abbrev main_cst_35 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_36 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_37 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_38 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_39 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_40 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_cst_41 : Ref sig .tc := ⟨.hbm, 195, rfl⟩
abbrev main_v140 : Ref sig .tc := ⟨.hbm, 196, rfl⟩
abbrev main_v141 : Ref sig .tc := ⟨.hbm, 197, rfl⟩
abbrev main_cst_42 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_43 : Ref sig .tc := ⟨.hbm, 204, rfl⟩
abbrev main_v147 : Ref sig .tc := ⟨.hbm, 205, rfl⟩
abbrev main_v148 : Ref sig .tc := ⟨.hbm, 206, rfl⟩
abbrev main_cst_44 : Ref sig .tc := ⟨.hbm, 207, rfl⟩
abbrev main_v149 : Ref sig .tc := ⟨.hbm, 208, rfl⟩
abbrev main_v150 : Ref sig .tc := ⟨.hbm, 209, rfl⟩
abbrev main_cst_45 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩

abbrev nD : Nat := 1
abbrev τ : Topo := Topo.v7x

variable {F : FTy → Type} [FloatOps F]
-- ==== Proof.Chunk.lean ====
/- What one grid point of the kernel computes, written once for a chunk of 64 rows: the same vector
   operations the printed body spells eight times over. -/
module

public import proofs.«01_k».proof.Proof.Gen.KernelIdeal

@[expose] public section

noncomputable section

namespace Cert.KernelIdeal.Chunk

open Cert.KernelIdeal Cert.KernelIdeal.Gen Idealize.ShloMosaic Idealize.SL.Sem

variable {F : FTy → Type} [FloatOps F]

/-! ### Constants, masks, the two rows of the softmax -/

def one64 : FVec F S64x512 .f32 := broadcast S64x512 (Scalar.ofBits .f32 0x3F800000#32)
def zero64 : FVec F S64x512 .f32 := broadcast S64x512 (Scalar.ofBits .f32 0x00000000#32)
def one1 : FVec F S1x512 .f32 := broadcast S1x512 (Scalar.ofBits .f32 0x3F800000#32)
def zero1 : FVec F S1x512 .f32 := broadcast S1x512 (Scalar.ofBits .f32 0x00000000#32)

def causal : IVec S64x64 1 := cmpi .sge (iota .tc S64x64 32 [0] iota_S64x64_d0_w32) (iota .tc S64x64 32 [1] iota_S64x64_d1_w32)
def anti : IVec S64x64 1 := cmpi .sle (iota .tc S64x64 32 [0] iota_S64x64_d0_w32) (iota .tc S64x64 32 [1] iota_S64x64_d1_w32)

/-- The exponentials of the two rows of logits, less their maximum. -/
def expo (l : FVec F S2x512 .f32) : FVec F S2x512 .f32 :=
  exp (subf l (broadcastTo S2x512 (shapeCast S1x512 (multiReduction .maximumf [0] S512 l 0xFF800000#32 reduces_S2x512_S512 (.inl rfl) rfl)
    shapeCasts_S512_S1x512) broadcasts_S1x512_S2x512))

/-- The softmax of the two rows. -/
def soft (l : FVec F S2x512 .f32) : FVec F S2x512 .f32 :=
  divf (expo l) (broadcastTo S2x512 (shapeCast S1x512 (multiReduction .add [0] S512 (expo l) 0x00000000#32 reduces_S2x512_S512 (.inl rfl) rfl)
    shapeCasts_S512_S1x512) broadcasts_S1x512_S2x512)

def low (l : FVec F S2x512 .f32) : FVec F S1x512 .f32 := extractStridedSlice S1x512 ![0, 0] (soft l) slices_S2x512_o0_0_S1x512
def high (l : FVec F S2x512 .f32) : FVec F S1x512 .f32 := extractStridedSlice S1x512 ![1, 0] (soft l) slices_S2x512_o1_0_S1x512

/-- A row, repeated over a chunk. -/
def rep (r : FVec F S1x512 .f32) : FVec F S64x512 .f32 := broadcastTo S64x512 r broadcasts_S1x512_S64x512

/-- The column sums of a chunk, and of a state. -/
def sum64 (x : FVec F S64x512 .f32) : FVec F S1x512 .f32 :=
  shapeCast S1x512 (multiReduction .add [0] S512 x 0x00000000#32 reduces_S64x512_S512 (.inl rfl) rfl) shapeCasts_S512_S1x512
def sum128 (x : FVec F S128x512 .f32) : FVec F S1x512 .f32 :=
  shapeCast S1x512 (multiReduction .add [0] S512 x 0x00000000#32 reduces_S128x512_S512 (.inl rfl) rfl) shapeCasts_S512_S1x512

/-- The product of a mask of ones with a chunk whose entries are split into three bf16 parts. -/
def exactDot (mask : IVec S64x64 1) (x : FVec F S64x512 .f32) : FVec F S64x512 .f32 :=
  let ones := truncf .bf16 (sitofp .f32 (extui 32 mask natLt_1_32)) bitsLt_bf16_f32
  let hi := truncf .bf16 x bitsLt_bf16_f32
  let rest := subf x (extf .f32 hi bitsLt_bf16_f32)
  let mid := truncf .bf16 rest bitsLt_bf16_f32
  let lo := truncf .bf16 (subf rest (extf .f32 mid bitsLt_bf16_f32)) bitsLt_bf16_f32
  let z := constant S64x512 .f32 0x00000000#32
  addf (addf (addf zero64 (matmul dot_S64x64_S64x512_S64x512_1_0_0_1_n_n none ones hi z))
    (matmul dot_S64x64_S64x512_S64x512_1_0_0_1_n_n none ones mid z)) (matmul dot_S64x64_S64x512_S64x512_1_0_0_1_n_n none ones lo z)

/-! ### The four heads of a chunk and of a state -/

def h0 (x : FVec F S64x512 .f32) : FVec F S64x128 .f32 := extractStridedSlice S64x128 ![0, 0] x slices_S64x512_o0_0_S64x128
def h1 (x : FVec F S64x512 .f32) : FVec F S64x128 .f32 := extractStridedSlice S64x128 ![0, 128] x slices_S64x512_o0_128_S64x128
def h2 (x : FVec F S64x512 .f32) : FVec F S64x128 .f32 := extractStridedSlice S64x128 ![0, 256] x slices_S64x512_o0_256_S64x128
def h3 (x : FVec F S64x512 .f32) : FVec F S64x128 .f32 := extractStridedSlice S64x128 ![0, 384] x slices_S64x512_o0_384_S64x128
def g0 (x : FVec F S128x512 .f32) : FVec F S128x128 .f32 := extractStridedSlice S128x128 ![0, 0] x slices_S128x512_o0_0_S128x128
def g1 (x : FVec F S128x512 .f32) : FVec F S128x128 .f32 := extractStridedSlice S128x128 ![0, 128] x slices_S128x512_o0_128_S128x128
def g2 (x : FVec F S128x512 .f32) : FVec F S128x128 .f32 := extractStridedSlice S128x128 ![0, 256] x slices_S128x512_o0_256_S128x128
def g3 (x : FVec F S128x512 .f32) : FVec F S128x128 .f32 := extractStridedSlice S128x128 ![0, 384] x slices_S128x512_o0_384_S128x128

def cat64 (a b c d : FVec F S64x128 .f32) : FVec F S64x512 .f32 :=
  concatenate S64x512 1 [⟨S64x128, a⟩, ⟨S64x128, b⟩, ⟨S64x128, c⟩, ⟨S64x128, d⟩] concatenates_S64x128_S64x128_S64x128_S64x128_S64x512_d1
def cat128 (a b c d : FVec F S128x128 .f32) : FVec F S128x512 .f32 :=
  concatenate S128x512 1 [⟨S128x128, a⟩, ⟨S128x128, b⟩, ⟨S128x128, c⟩, ⟨S128x128, d⟩] concatenates_S128x128_S128x128_S128x128_S128x128_S128x512_d1

def bf64 (x : FVec F S64x128 .f32) : FVec F S64x128 .bf16 := truncf .bf16 x bitsLt_bf16_f32
def bf128 (x : FVec F S128x128 .f32) : FVec F S128x128 .bf16 := truncf .bf16 x bitsLt_bf16_f32

/-- `a bᵀ` of two heads, kept on and below the diagonal. -/
def score (a b : FVec F S64x128 .f32) : FVec F S64x64 .f32 :=
  select causal (matmul dot_S64x128_S64x128_S64x64_1_1_0_0_n_n none (bf64 a) (bf64 b) (constant S64x64 .f32 0x00000000#32))
    (broadcast S64x64 (Scalar.ofBits .f32 0x00000000#32))
/-- `s b`, `sᵀ b`: scores with the rows of a head. -/
def mixNN (s : FVec F S64x64 .f32) (b : FVec F S64x128 .f32) : FVec F S64x128 .f32 :=
  matmul dot_S64x64_S64x128_S64x128_1_0_0_1_n_n none (truncf .bf16 s bitsLt_bf16_f32) (bf64 b) (constant S64x128 .f32 0x00000000#32)
def mixTN (s : FVec F S64x64 .f32) (b : FVec F S64x128 .f32) : FVec F S64x128 .f32 :=
  matmul dot_S64x64_S64x128_S64x128_0_0_1_1_n_n none (truncf .bf16 s bitsLt_bf16_f32) (bf64 b) (constant S64x128 .f32 0x00000000#32)
/-- `a m`, `a mᵀ`: the rows of a head with a state. -/
def stNN (a : FVec F S64x128 .f32) (m : FVec F S128x128 .f32) : FVec F S64x128 .f32 :=
  matmul dot_S64x128_S128x128_S64x128_1_0_0_1_n_n none (bf64 a) (bf128 m) (constant S64x128 .f32 0x00000000#32)
def stNT (a : FVec F S64x128 .f32) (m : FVec F S128x128 .f32) : FVec F S64x128 .f32 :=
  matmul dot_S64x128_S128x128_S64x128_1_1_0_0_n_n none (bf64 a) (bf128 m) (constant S64x128 .f32 0x00000000#32)
/-- `aᵀ b`: a state from the rows of two heads. -/
def upTN (a b : FVec F S64x128 .f32) : FVec F S128x128 .f32 :=
  matmul dot_S64x128_S64x128_S128x128_0_0_1_1_n_n none (bf64 a) (bf64 b) (constant S128x128 .f32 0x00000000#32)

def scoresNN (a b o : FVec F S64x512 .f32) : FVec F S64x512 .f32 :=
  cat64 (mixNN (score (h0 a) (h0 b)) (h0 o)) (mixNN (score (h1 a) (h1 b)) (h1 o)) (mixNN (score (h2 a) (h2 b)) (h2 o)) (mixNN (score (h3 a) (h3 b)) (h3 o))
def scoresTN (a b o : FVec F S64x512 .f32) : FVec F S64x512 .f32 :=
  cat64 (mixTN (score (h0 a) (h0 b)) (h0 o)) (mixTN (score (h1 a) (h1 b)) (h1 o)) (mixTN (score (h2 a) (h2 b)) (h2 o)) (mixTN (score (h3 a) (h3 b)) (h3 o))
def withState (a : FVec F S64x512 .f32) (m : FVec F S128x512 .f32) : FVec F S64x512 .f32 :=
  cat64 (stNN (h0 a) (g0 m)) (stNN (h1 a) (g1 m)) (stNN (h2 a) (g2 m)) (stNN (h3 a) (g3 m))
def withStateT (a : FVec F S64x512 .f32) (m : FVec F S128x512 .f32) : FVec F S64x512 .f32 :=
  cat64 (stNT (h0 a) (g0 m)) (stNT (h1 a) (g1 m)) (stNT (h2 a) (g2 m)) (stNT (h3 a) (g3 m))
def outer (a b : FVec F S64x512 .f32) : FVec F S128x512 .f32 :=
  cat128 (upTN (h0 a) (h0 b)) (upTN (h1 a) (h1 b)) (upTN (h2 a) (h2 b)) (upTN (h3 a) (h3 b))

/-! ### One chunk

   `lb` the lower bound's row, `q fp v d` the chunk's rows of the queries, the gate's pre-activation, the values and the
   output's cotangent, `st` the state before the chunk, `ds` the cotangent of the state after it. -/

def sgm (fp : FVec F S64x512 .f32) : FVec F S64x512 .f32 := divf one64 (addf one64 (exp (subf zero64 fp)))
def gate (lb : FVec F S1x512 .f32) (fp : FVec F S64x512 .f32) : FVec F S64x512 .f32 :=
  addf (rep lb) (mulf (rep (subf one1 lb)) (sgm fp))
def key (lb : FVec F S1x512 .f32) (fp : FVec F S64x512 .f32) : FVec F S64x512 .f32 := subf one64 (gate lb fp)
/-- The running sum of the gate's logarithm. -/
def cum (lb : FVec F S1x512 .f32) (fp : FVec F S64x512 .f32) : FVec F S64x512 .f32 := exactDot causal (log (gate lb fp))
def mid (b : FVec F S64x512 .f32) : FVec F S1x512 .f32 := extractStridedSlice S1x512 ![32, 0] b slices_S64x512_o32_0_S1x512
def last (b : FVec F S64x512 .f32) : FVec F S1x512 .f32 := extractStridedSlice S1x512 ![63, 0] b slices_S64x512_o63_0_S1x512
def expQ (b : FVec F S64x512 .f32) : FVec F S64x512 .f32 := exp (subf b (rep (mid b)))
def expK (b : FVec F S64x512 .f32) : FVec F S64x512 .f32 := exp (subf (rep (mid b)) b)
def expS (b : FVec F S64x512 .f32) : FVec F S64x512 .f32 := exp (subf (rep (last b)) b)
def dec (b : FVec F S64x512 .f32) : FVec F S1x512 .f32 := exp (last b)

def dq (lb : FVec F S1x512 .f32) (fp v d : FVec F S64x512 .f32) (st : FVec F S128x512 .f32) : FVec F S64x512 .f32 :=
  addf (mulf (scoresNN d v (mulf (key lb fp) (expK (cum lb fp)))) (expQ (cum lb fp))) (mulf (withState d st) (exp (cum lb fp)))
/-- The cotangent of the keys weighted to the chunk's end. -/
def dks (v : FVec F S64x512 .f32) (ds : FVec F S128x512 .f32) : FVec F S64x512 .f32 := withState v ds
def dk (lb : FVec F S1x512 .f32) (q fp v d : FVec F S64x512 .f32) (ds : FVec F S128x512 .f32) : FVec F S64x512 .f32 :=
  addf (mulf (scoresTN d v (mulf q (expQ (cum lb fp)))) (expK (cum lb fp))) (mulf (dks v ds) (expS (cum lb fp)))
def dv (lb : FVec F S1x512 .f32) (q fp d : FVec F S64x512 .f32) (ds : FVec F S128x512 .f32) : FVec F S64x512 .f32 :=
  addf (scoresTN (mulf q (expQ (cum lb fp))) (mulf (key lb fp) (expK (cum lb fp))) d) (withStateT (mulf (key lb fp) (expS (cum lb fp))) ds)
/-- The cotangent of the state before the chunk. -/
def back (lb : FVec F S1x512 .f32) (q fp d : FVec F S64x512 .f32) (ds : FVec F S128x512 .f32) : FVec F S128x512 .f32 :=
  addf (mulf (broadcastTo S128x512 (dec (cum lb fp)) broadcasts_S1x512_S128x512) ds) (outer d (mulf q (exp (cum lb fp))))
/-- The cotangent of the running sum: its own part, and the part of its last row. -/
def db (lb : FVec F S1x512 .f32) (q fp v d : FVec F S64x512 .f32) (st ds : FVec F S128x512 .f32) : FVec F S64x512 .f32 :=
  subf (mulf q (dq lb fp v d st)) (mulf (key lb fp) (dk lb q fp v d ds))
def dbLast (lb : FVec F S1x512 .f32) (fp v : FVec F S64x512 .f32) (st ds : FVec F S128x512 .f32) : FVec F S1x512 .f32 :=
  addf (sum64 (mulf (dks v ds) (mulf (key lb fp) (expS (cum lb fp))))) (mulf (sum128 (mulf ds st)) (dec (cum lb fp)))
def dg (lb : FVec F S1x512 .f32) (q fp v d : FVec F S64x512 .f32) (st ds : FVec F S128x512 .f32) : FVec F S64x512 .f32 :=
  addf (exactDot anti (db lb q fp v d st ds)) (rep (dbLast lb fp v st ds))
def df (lb : FVec F S1x512 .f32) (q fp v d : FVec F S64x512 .f32) (st ds : FVec F S128x512 .f32) : FVec F S64x512 .f32 :=
  subf (divf (dg lb q fp v d st ds) (gate lb fp)) (dk lb q fp v d ds)
def dfp (lb : FVec F S1x512 .f32) (q fp v d : FVec F S64x512 .f32) (st ds : FVec F S128x512 .f32) : FVec F S64x512 .f32 :=
  mulf (mulf (mulf (df lb q fp v d st ds) (rep (subf one1 lb))) (sgm fp)) (subf one64 (sgm fp))
/-- The chunk's part of the lower bound's cotangent. -/
def dlb (lb : FVec F S1x512 .f32) (q fp v d : FVec F S64x512 .f32) (st ds : FVec F S128x512 .f32) : FVec F S1x512 .f32 :=
  sum64 (mulf (df lb q fp v d st ds) (subf one64 (sgm fp)))

/-! ### A block of eight chunks -/

def rows (x : FVec F S1x64x512 .f32) : FVec F S64x512 .f32 := shapeCast S64x512 x shapeCasts_S1x64x512_S64x512
def plane (x : FVec F S1x128x512 .f32) : FVec F S128x512 .f32 := shapeCast S128x512 x shapeCasts_S1x128x512_S128x512
def pack (x0 x1 x2 x3 x4 x5 x6 x7 : FVec F S64x512 .f32) : FVec F S1x512x512 .bf16 :=
  shapeCast S1x512x512 (truncf .bf16 (concatenate S512x512 0 [⟨S64x512, x0⟩, ⟨S64x512, x1⟩, ⟨S64x512, x2⟩, ⟨S64x512, x3⟩, ⟨S64x512, x4⟩, ⟨S64x512, x5⟩, ⟨S64x512, x6⟩, ⟨S64x512, x7⟩]
    concatenates_S64x512_S64x512_S64x512_S64x512_S64x512_S64x512_S64x512_S64x512_S512x512_d0) bitsLt_bf16_f32) shapeCasts_S512x512_S1x512x512
/-- What a grid point works on: the lower bound's row, eight chunks' rows, the states before them, and what the points
    before it left: the cotangent of the state after the block, and the sum so far of the lower bound's cotangent. -/
structure Block (F : FTy → Type) where
  lb : FVec F S1x512 .f32
  q : Fin 8 → FVec F S64x512 .f32
  fp : Fin 8 → FVec F S64x512 .f32
  v : Fin 8 → FVec F S64x512 .f32
  d : Fin 8 → FVec F S64x512 .f32
  st : Fin 8 → FVec F S128x512 .f32
  ds : FVec F S128x512 .f32
  acc : FVec F S1x512 .f32

namespace Block

variable (b : Block F)

def step (c : Fin 8) (ds : FVec F S128x512 .f32) : FVec F S128x512 .f32 := back b.lb (b.q c) (b.fp c) (b.d c) ds
/-- The cotangent of the state after each chunk, the last chunk first, and before the first one. -/
def d7 : FVec F S128x512 .f32 := b.ds
def d6 : FVec F S128x512 .f32 := b.step 7 b.d7
def d5 : FVec F S128x512 .f32 := b.step 6 b.d6
def d4 : FVec F S128x512 .f32 := b.step 5 b.d5
def d3 : FVec F S128x512 .f32 := b.step 4 b.d4
def d2 : FVec F S128x512 .f32 := b.step 3 b.d3
def d1 : FVec F S128x512 .f32 := b.step 2 b.d2
def d0 : FVec F S128x512 .f32 := b.step 1 b.d1
def out : FVec F S128x512 .f32 := b.step 0 b.d0

def oq (c : Fin 8) : FVec F S64x512 .f32 := dq b.lb (b.fp c) (b.v c) (b.d c) (b.st c)
def ov (c : Fin 8) (ds : FVec F S128x512 .f32) : FVec F S64x512 .f32 := dv b.lb (b.q c) (b.fp c) (b.d c) ds
def ofp (c : Fin 8) (ds : FVec F S128x512 .f32) : FVec F S64x512 .f32 := dfp b.lb (b.q c) (b.fp c) (b.v c) (b.d c) (b.st c) ds
def olb (c : Fin 8) (ds : FVec F S128x512 .f32) : FVec F S1x512 .f32 := dlb b.lb (b.q c) (b.fp c) (b.v c) (b.d c) (b.st c) ds

/-- The three planes a point stores, and the two carried values it leaves. -/
def planeQ : FVec F S1x512x512 .bf16 := pack (b.oq 0) (b.oq 1) (b.oq 2) (b.oq 3) (b.oq 4) (b.oq 5) (b.oq 6) (b.oq 7)
def planeF : FVec F S1x512x512 .bf16 :=
  pack (b.ofp 0 b.d0) (b.ofp 1 b.d1) (b.ofp 2 b.d2) (b.ofp 3 b.d3) (b.ofp 4 b.d4) (b.ofp 5 b.d5) (b.ofp 6 b.d6) (b.ofp 7 b.d7)
def planeV : FVec F S1x512x512 .bf16 :=
  pack (b.ov 0 b.d0) (b.ov 1 b.d1) (b.ov 2 b.d2) (b.ov 3 b.d3) (b.ov 4 b.d4) (b.ov 5 b.d5) (b.ov 6 b.d6) (b.ov 7 b.d7)
def sumLb : FVec F S1x512 .f32 :=
  addf b.acc (addf (addf (addf (addf (addf (addf (addf (addf zero1 (b.olb 0 b.d0)) (b.olb 1 b.d1)) (b.olb 2 b.d2)) (b.olb 3 b.d3))
    (b.olb 4 b.d4)) (b.olb 5 b.d5)) (b.olb 6 b.d6)) (b.olb 7 b.d7))

end Block

end Cert.KernelIdeal.Chunk

end
-- ==== Proof.Bridge.lean ====
module

public import proofs.«01_k».proof.Proof.Chunk
public import proofs.«01_k».proof.Proof.Gen.KernelIdeal.Frame
public import Idealize.ShloMosaic.Lib.Pipeline.ValueKit

@[expose] public section

noncomputable section

namespace Cert.KernelIdeal.Chunk

open Cert.KernelIdeal Cert.KernelIdeal.Gen Idealize.ShloMosaic Idealize.ShloMosaic.TcCoe Idealize.ShloMosaic.Tactic Idealize.SL.Sem

variable {F : FTy → Type} [FloatOps F]

/-- The loads of a point: a chunk of 64 rows of a staged block, the rows of the output's cotangent, a state. -/
def ldRows (a : Memref sig .tc .vmem S1x512x512 .f32) (ha : a.IsWhole) (x : Vec F S1x512x512 .f32) (o : Fin 3 → ℕ)
    (inb : ∀ a, o a + S1x64x512.size a ≤ S1x512x512.size a) : FVec F S64x512 .f32 :=
  rows (View.readAt (Elt F) a.view (Rect.unit o S1x64x512.size inb : Rect S1x512x512).toLoadRect (ha.unread x))
def ldOut (a : Memref sig .tc .vmem S512x512 .f32) (ha : a.IsWhole) (x : Vec F S512x512 .f32) (o : Fin 2 → ℕ)
    (inb : ∀ a, o a + S64x512.size a ≤ S512x512.size a) : FVec F S64x512 .f32 :=
  View.readAt (Elt F) a.view (Rect.unit o S64x512.size inb : Rect S512x512).toLoadRect (ha.unread x)
def ldState (a : Memref sig .tc .vmem S8x128x512 .f32) (ha : a.IsWhole) (x : Vec F S8x128x512 .f32) (o : Fin 3 → ℕ)
    (inb : ∀ a, o a + S1x128x512.size a ≤ S8x128x512.size a) : FVec F S128x512 .f32 :=
  plane (View.readAt (Elt F) a.view (Rect.unit o S1x128x512.size inb : Rect S8x128x512).toLoadRect (ha.unread x))

def ldLogits (a : Memref sig .tc .vmem S2x512 .f32) (ha : a.IsWhole) (x : Vec F S2x512 .f32) : FVec F S2x512 .f32 :=
  View.readAt (Elt F) a.view (Rect.unit ![0, 0] S2x512.size inb_S2x512_S2x512_0_0).toLoadRect (ha.unread x)

/-- What a point's loads give. -/
def loads (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S8x128x512 .f32) (harg5 : arg5.IsWhole) (arg6 : Memref sig .tc .vmem S2x512 .f32) (harg6 : arg6.IsWhole) (x0 : Vec F S1x512x512 .f32) (x1 : Vec F S1x512x512 .f32) (x2 : Vec F S1x512x512 .f32) (x3 : Vec F S512x512 .f32) (x4 : Vec F S8x128x512 .f32) (x5 : Vec F S2x512 .f32) (ds : FVec F S128x512 .f32) (acc : FVec F S1x512 .f32) : Block F where
  lb := low (ldLogits arg6 harg6 x5)
  q := ![ldRows arg1 harg1 x0 ![0, 0, 0] inb_S1x512x512_S1x64x512_0_0_0, ldRows arg1 harg1 x0 ![0, 64, 0] inb_S1x512x512_S1x64x512_0_64_0, ldRows arg1 harg1 x0 ![0, 128, 0] inb_S1x512x512_S1x64x512_0_128_0, ldRows arg1 harg1 x0 ![0, 192, 0] inb_S1x512x512_S1x64x512_0_192_0, ldRows arg1 harg1 x0 ![0, 256, 0] inb_S1x512x512_S1x64x512_0_256_0, ldRows arg1 harg1 x0 ![0, 320, 0] inb_S1x512x512_S1x64x512_0_320_0, ldRows arg1 harg1 x0 ![0, 384, 0] inb_S1x512x512_S1x64x512_0_384_0, ldRows arg1 harg1 x0 ![0, 448, 0] inb_S1x512x512_S1x64x512_0_448_0]
  fp := ![ldRows arg2 harg2 x1 ![0, 0, 0] inb_S1x512x512_S1x64x512_0_0_0, ldRows arg2 harg2 x1 ![0, 64, 0] inb_S1x512x512_S1x64x512_0_64_0, ldRows arg2 harg2 x1 ![0, 128, 0] inb_S1x512x512_S1x64x512_0_128_0, ldRows arg2 harg2 x1 ![0, 192, 0] inb_S1x512x512_S1x64x512_0_192_0, ldRows arg2 harg2 x1 ![0, 256, 0] inb_S1x512x512_S1x64x512_0_256_0, ldRows arg2 harg2 x1 ![0, 320, 0] inb_S1x512x512_S1x64x512_0_320_0, ldRows arg2 harg2 x1 ![0, 384, 0] inb_S1x512x512_S1x64x512_0_384_0, ldRows arg2 harg2 x1 ![0, 448, 0] inb_S1x512x512_S1x64x512_0_448_0]
  v := ![ldRows arg3 harg3 x2 ![0, 0, 0] inb_S1x512x512_S1x64x512_0_0_0, ldRows arg3 harg3 x2 ![0, 64, 0] inb_S1x512x512_S1x64x512_0_64_0, ldRows arg3 harg3 x2 ![0, 128, 0] inb_S1x512x512_S1x64x512_0_128_0, ldRows arg3 harg3 x2 ![0, 192, 0] inb_S1x512x512_S1x64x512_0_192_0, ldRows arg3 harg3 x2 ![0, 256, 0] inb_S1x512x512_S1x64x512_0_256_0, ldRows arg3 harg3 x2 ![0, 320, 0] inb_S1x512x512_S1x64x512_0_320_0, ldRows arg3 harg3 x2 ![0, 384, 0] inb_S1x512x512_S1x64x512_0_384_0, ldRows arg3 harg3 x2 ![0, 448, 0] inb_S1x512x512_S1x64x512_0_448_0]
  d := ![ldOut arg4 harg4 x3 ![0, 0] inb_S512x512_S64x512_0_0, ldOut arg4 harg4 x3 ![64, 0] inb_S512x512_S64x512_64_0, ldOut arg4 harg4 x3 ![128, 0] inb_S512x512_S64x512_128_0, ldOut arg4 harg4 x3 ![192, 0] inb_S512x512_S64x512_192_0, ldOut arg4 harg4 x3 ![256, 0] inb_S512x512_S64x512_256_0, ldOut arg4 harg4 x3 ![320, 0] inb_S512x512_S64x512_320_0, ldOut arg4 harg4 x3 ![384, 0] inb_S512x512_S64x512_384_0, ldOut arg4 harg4 x3 ![448, 0] inb_S512x512_S64x512_448_0]
  st := ![ldState arg5 harg5 x4 ![0, 0, 0] inb_S8x128x512_S1x128x512_0_0_0, ldState arg5 harg5 x4 ![1, 0, 0] inb_S8x128x512_S1x128x512_1_0_0, ldState arg5 harg5 x4 ![2, 0, 0] inb_S8x128x512_S1x128x512_2_0_0, ldState arg5 harg5 x4 ![3, 0, 0] inb_S8x128x512_S1x128x512_3_0_0, ldState arg5 harg5 x4 ![4, 0, 0] inb_S8x128x512_S1x128x512_4_0_0, ldState arg5 harg5 x4 ![5, 0, 0] inb_S8x128x512_S1x128x512_5_0_0, ldState arg5 harg5 x4 ![6, 0, 0] inb_S8x128x512_S1x128x512_6_0_0, ldState arg5 harg5 x4 ![7, 0, 0] inb_S8x128x512_S1x128x512_7_0_0]
  ds := ds
  acc := acc

/-- The same loads, off the blocks themselves. -/
def getRows (x : Vec F S1x512x512 .f32) (o : Fin 3 → ℕ) (inb : ∀ a, o a + S1x64x512.size a ≤ S1x512x512.size a) : FVec F S64x512 .f32 :=
  rows (View.ld (Val := Elt F) (e' := .f32) x (Rect.unit o S1x64x512.size inb : Rect S1x512x512))
def getOut (x : Vec F S512x512 .f32) (o : Fin 2 → ℕ) (inb : ∀ a, o a + S64x512.size a ≤ S512x512.size a) : FVec F S64x512 .f32 :=
  View.ld (Val := Elt F) (e' := .f32) x (Rect.unit o S64x512.size inb : Rect S512x512)
def getState (x : Vec F S8x128x512 .f32) (o : Fin 3 → ℕ) (inb : ∀ a, o a + S1x128x512.size a ≤ S8x128x512.size a) : FVec F S128x512 .f32 :=
  plane (View.ld (Val := Elt F) (e' := .f32) x (Rect.unit o S1x128x512.size inb : Rect S8x128x512))

/-- What a point works on, from its input blocks and the two carried values. -/
def blockOf (x0 x1 x2 : Vec F S1x512x512 .f32) (x3 : Vec F S512x512 .f32) (x4 : Vec F S8x128x512 .f32) (x5 : Vec F S2x512 .f32) (ds : FVec F S128x512 .f32) (acc : FVec F S1x512 .f32) : Block F where
  lb := low x5
  q := ![getRows x0 ![0, 0, 0] inb_S1x512x512_S1x64x512_0_0_0, getRows x0 ![0, 64, 0] inb_S1x512x512_S1x64x512_0_64_0, getRows x0 ![0, 128, 0] inb_S1x512x512_S1x64x512_0_128_0, getRows x0 ![0, 192, 0] inb_S1x512x512_S1x64x512_0_192_0, getRows x0 ![0, 256, 0] inb_S1x512x512_S1x64x512_0_256_0, getRows x0 ![0, 320, 0] inb_S1x512x512_S1x64x512_0_320_0, getRows x0 ![0, 384, 0] inb_S1x512x512_S1x64x512_0_384_0, getRows x0 ![0, 448, 0] inb_S1x512x512_S1x64x512_0_448_0]
  fp := ![getRows x1 ![0, 0, 0] inb_S1x512x512_S1x64x512_0_0_0, getRows x1 ![0, 64, 0] inb_S1x512x512_S1x64x512_0_64_0, getRows x1 ![0, 128, 0] inb_S1x512x512_S1x64x512_0_128_0, getRows x1 ![0, 192, 0] inb_S1x512x512_S1x64x512_0_192_0, getRows x1 ![0, 256, 0] inb_S1x512x512_S1x64x512_0_256_0, getRows x1 ![0, 320, 0] inb_S1x512x512_S1x64x512_0_320_0, getRows x1 ![0, 384, 0] inb_S1x512x512_S1x64x512_0_384_0, getRows x1 ![0, 448, 0] inb_S1x512x512_S1x64x512_0_448_0]
  v := ![getRows x2 ![0, 0, 0] inb_S1x512x512_S1x64x512_0_0_0, getRows x2 ![0, 64, 0] inb_S1x512x512_S1x64x512_0_64_0, getRows x2 ![0, 128, 0] inb_S1x512x512_S1x64x512_0_128_0, getRows x2 ![0, 192, 0] inb_S1x512x512_S1x64x512_0_192_0, getRows x2 ![0, 256, 0] inb_S1x512x512_S1x64x512_0_256_0, getRows x2 ![0, 320, 0] inb_S1x512x512_S1x64x512_0_320_0, getRows x2 ![0, 384, 0] inb_S1x512x512_S1x64x512_0_384_0, getRows x2 ![0, 448, 0] inb_S1x512x512_S1x64x512_0_448_0]
  d := ![getOut x3 ![0, 0] inb_S512x512_S64x512_0_0, getOut x3 ![64, 0] inb_S512x512_S64x512_64_0, getOut x3 ![128, 0] inb_S512x512_S64x512_128_0, getOut x3 ![192, 0] inb_S512x512_S64x512_192_0, getOut x3 ![256, 0] inb_S512x512_S64x512_256_0, getOut x3 ![320, 0] inb_S512x512_S64x512_320_0, getOut x3 ![384, 0] inb_S512x512_S64x512_384_0, getOut x3 ![448, 0] inb_S512x512_S64x512_448_0]
  st := ![getState x4 ![0, 0, 0] inb_S8x128x512_S1x128x512_0_0_0, getState x4 ![1, 0, 0] inb_S8x128x512_S1x128x512_1_0_0, getState x4 ![2, 0, 0] inb_S8x128x512_S1x128x512_2_0_0, getState x4 ![3, 0, 0] inb_S8x128x512_S1x128x512_3_0_0, getState x4 ![4, 0, 0] inb_S8x128x512_S1x128x512_4_0_0, getState x4 ![5, 0, 0] inb_S8x128x512_S1x128x512_5_0_0, getState x4 ![6, 0, 0] inb_S8x128x512_S1x128x512_6_0_0, getState x4 ![7, 0, 0] inb_S8x128x512_S1x128x512_7_0_0]
  ds := ds
  acc := acc

theorem ldRows_eq (a : Memref sig .tc .vmem S1x512x512 .f32) (ha : a.IsWhole) (x : Vec F S1x512x512 .f32) (o : Fin 3 → ℕ)
    (inb : ∀ a, o a + S1x64x512.size a ≤ S1x512x512.size a) : ldRows a ha x o inb = getRows x o inb := by
  unfold ldRows getRows
  rw [View.readAt_eq_ld, ha.read_unread]
theorem ldOut_eq (a : Memref sig .tc .vmem S512x512 .f32) (ha : a.IsWhole) (x : Vec F S512x512 .f32) (o : Fin 2 → ℕ)
    (inb : ∀ a, o a + S64x512.size a ≤ S512x512.size a) : ldOut a ha x o inb = getOut x o inb := by
  unfold ldOut getOut
  rw [View.readAt_eq_ld, ha.read_unread]
theorem ldState_eq (a : Memref sig .tc .vmem S8x128x512 .f32) (ha : a.IsWhole) (x : Vec F S8x128x512 .f32) (o : Fin 3 → ℕ)
    (inb : ∀ a, o a + S1x128x512.size a ≤ S8x128x512.size a) : ldState a ha x o inb = getState x o inb := by
  unfold ldState getState
  rw [View.readAt_eq_ld, ha.read_unread]

theorem readAt_whole (a : Memref sig .tc .vmem S128x512 .f32) (ha : a.IsWhole) (x : Vec F S128x512 .f32) :
    View.readAt (Elt F) a.view (Rect.unit ![0, 0] S128x512.size inb_S128x512_S128x512_0_0).toLoadRect (ha.unread x) = x := by
  rw [View.readAt_eq_ld, ha.read_unread]; exact View.ld_unit_lit _ _ (by decide)
theorem readAt_row (a : Memref sig .tc .vmem S1x512 .f32) (ha : a.IsWhole) (x : Vec F S1x512 .f32) :
    View.readAt (Elt F) a.view (Rect.unit ![0, 0] S1x512.size inb_S1x512_S1x512_0_0).toLoadRect (ha.unread x) = x := by
  rw [View.readAt_eq_ld, ha.read_unread]; exact View.ld_unit_lit _ _ (by decide)
theorem ldLogits_eq (a : Memref sig .tc .vmem S2x512 .f32) (ha : a.IsWhole) (x : Vec F S2x512 .f32) : ldLogits a ha x = x := by
  unfold ldLogits
  rw [View.readAt_eq_ld, ha.read_unread]; exact View.ld_unit_lit _ _ (by decide)
theorem readAt_logits (a : Memref sig .tc .vmem S2x512 .f32) (ha : a.IsWhole) (x : Vec F S2x512 .f32) :
    View.readAt (Elt F) a.view (Rect.unit ![0, 0] S2x512.size inb_S2x512_S2x512_0_0).toLoadRect (ha.unread x) = x := by
  rw [View.readAt_eq_ld, ha.read_unread]; exact View.ld_unit_lit _ _ (by decide)

section
variable (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S8x128x512 .f32) (harg5 : arg5.IsWhole) (arg6 : Memref sig .tc .vmem S2x512 .f32) (harg6 : arg6.IsWhole) (arg8 : Memref sig .tc .vmem S3x512x512 .bf16) (harg8 : arg8.IsWhole) (arg9 : Memref sig .tc .vmem S2x512 .f32) (harg9 : arg9.IsWhole) (arg10 : Memref sig .tc .vmem S128x512 .f32) (harg10 : arg10.IsWhole) (arg11 : Memref sig .tc .vmem S1x512 .f32) (harg11 : arg11.IsWhole) (x0 x1 x2 : Vec F S1x512x512 .f32) (x3 : Vec F S512x512 .f32) (x4 : Vec F S8x128x512 .f32) (x5 : Vec F S2x512 .f32) (ds : FVec F S128x512 .f32) (acc : FVec F S1x512 .f32)

theorem loads_eq : loads arg1 harg1 arg2 harg2 arg3 harg3 arg4 harg4 arg5 harg5 arg6 harg6 x0 x1 x2 x3 x4 x5 ds acc = blockOf x0 x1 x2 x3 x4 x5 ds acc := by
  simp only [loads, blockOf, ldRows_eq, ldOut_eq, ldState_eq, ldLogits_eq]

/-- A point's three planes of results, as the pieces it stores. -/
def planes (b : Block F) : List (View.Piece (Elt F) S3x512x512 .bf16) :=
  [⟨Rect.unit ![2, 0, 0] ![1, 512, 512] inb_S3x512x512_S1x512x512_2_0_0, b.planeV⟩,
   ⟨Rect.unit ![1, 0, 0] ![1, 512, 512] inb_S3x512x512_S1x512x512_1_0_0, b.planeF⟩,
   ⟨Rect.unit ![0, 0, 0] S1x512x512.size inb_S3x512x512_S1x512x512_0_0_0, b.planeQ⟩]
def carry (b : Block F) : List (View.Piece (Elt F) S128x512 .f32) :=
  [⟨Rect.unit ![0, 0] S128x512.size inb_S128x512_S128x512_0_0, shapeCast S128x512 b.out shapeCasts_S128x512_S128x512⟩]
def total (b : Block F) : List (View.Piece (Elt F) S1x512 .f32) :=
  [⟨Rect.unit ![0, 0] S1x512.size inb_S1x512_S1x512_0_0, shapeCast S1x512 b.sumLb shapeCasts_S1x512_S1x512⟩]
/-- The two rows of the logits' cotangent, of the lower bound's cotangent `t`. -/
def finalLow (l : FVec F S2x512 .f32) (t : FVec F S1x512 .f32) : FVec F S1x512 .f32 := mulf (mulf t (low l)) (subf one1 (low l))
def finalHigh (l : FVec F S2x512 .f32) (t : FVec F S1x512 .f32) : FVec F S1x512 .f32 := mulf (mulf (subf zero1 t) (low l)) (high l)
def logits (l : FVec F S2x512 .f32) (t : FVec F S1x512 .f32) : List (View.Piece (Elt F) S2x512 .f32) :=
  [⟨Rect.unit ![1, 0] ![1, 512] inb_S2x512_S1x512_1_0, finalHigh l t⟩,
   ⟨Rect.unit ![0, 0] ![1, 512] inb_S2x512_S1x512_0_0, finalLow l t⟩]
end

def zeroState : FVec F S128x512 .f32 := broadcast S128x512 (Scalar.ofBits .f32 0x00000000#32)
def zeroRow : FVec F S1x512 .f32 := broadcast S1x512 (Scalar.ofBits .f32 0x00000000#32)

theorem start_state (c : Dev nD) (a : Memref sig .tc .vmem S128x512 .f32) : kernelRun0_A.sl.v1683 (F := F) c a = zeroState := by
  unfold kernelRun0_A.sl.v1683 kernelRun0_A.sl.HS0_1
  rw [View.readCov_cons_toLoadRect]
  exact shapeCast_self _ _
theorem start_row (c : Dev nD) (a : Memref sig .tc .vmem S1x512 .f32) : kernelRun0_A.sl.v2351 (F := F) c a = zeroRow := by
  unfold kernelRun0_A.sl.v2351 kernelRun0_A.sl.HS1_1
  rw [View.readCov_cons_toLoadRect]
  exact shapeCast_self _ _

section
variable (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S8x128x512 .f32) (harg5 : arg5.IsWhole) (arg6 : Memref sig .tc .vmem S2x512 .f32) (harg6 : arg6.IsWhole) (arg8 : Memref sig .tc .vmem S3x512x512 .bf16) (harg8 : arg8.IsWhole) (arg9 : Memref sig .tc .vmem S2x512 .f32) (harg9 : arg9.IsWhole) (arg10 : Memref sig .tc .vmem S128x512 .f32) (harg10 : arg10.IsWhole) (arg11 : Memref sig .tc .vmem S1x512 .f32) (harg11 : arg11.IsWhole) (hc0 : cond0_0 i) (hc1 : ¬cond0_1 i) (x0 x1 x2 : Vec F S1x512x512 .f32) (x3 : Vec F S512x512 .f32) (x4 : Vec F S8x128x512 .f32) (x5 : Vec F S2x512 .f32)

theorem planes_A : (kernelRun0_A c i arg1 harg1 arg2 harg2 arg3 harg3 arg4 harg4 arg5 harg5 arg6 harg6 arg8 harg8 arg9 harg9 arg10 harg10 arg11 harg11 hc0 hc1 x0 x1 x2 x3 x4 x5).1 = planes (loads arg1 harg1 arg2 harg2 arg3 harg3 arg4 harg4 arg5 harg5 arg6 harg6 x0 x1 x2 x3 x4 x5 (kernelRun0_A.sl.v1683 c arg10) (kernelRun0_A.sl.v2351 c arg11)) := by sl_kernel_rfl
theorem carry_A : (kernelRun0_A c i arg1 harg1 arg2 harg2 arg3 harg3 arg4 harg4 arg5 harg5 arg6 harg6 arg8 harg8 arg9 harg9 arg10 harg10 arg11 harg11 hc0 hc1 x0 x1 x2 x3 x4 x5).2.2.1 = carry (loads arg1 harg1 arg2 harg2 arg3 harg3 arg4 harg4 arg5 harg5 arg6 harg6 x0 x1 x2 x3 x4 x5 (kernelRun0_A.sl.v1683 c arg10) (kernelRun0_A.sl.v2351 c arg11)) ++ kernelRun0_A.sl.HS0_1 := by sl_kernel_rfl
theorem total_A : (kernelRun0_A c i arg1 harg1 arg2 harg2 arg3 harg3 arg4 harg4 arg5 harg5 arg6 harg6 arg8 harg8 arg9 harg9 arg10 harg10 arg11 harg11 hc0 hc1 x0 x1 x2 x3 x4 x5).2.2.2.1 = total (loads arg1 harg1 arg2 harg2 arg3 harg3 arg4 harg4 arg5 harg5 arg6 harg6 x0 x1 x2 x3 x4 x5 (kernelRun0_A.sl.v1683 c arg10) (kernelRun0_A.sl.v2351 c arg11)) ++ kernelRun0_A.sl.HS1_1 := by sl_kernel_rfl

theorem out6_A : out0_A_6 c i arg1 harg1 arg2 harg2 arg3 harg3 arg4 harg4 arg5 harg5 arg6 harg6 arg8 harg8 arg9 harg9 arg10 harg10 arg11 harg11 hc0 hc1 x0 x1 x2 x3 x4 x5 = View.canon (planes (blockOf x0 x1 x2 x3 x4 x5 zeroState zeroRow)) := by
  unfold out0_A_6
  rw [View.read_writes_junk_eq_canon, planes_A, loads_eq, start_state, start_row]
theorem state_A : sout0_A_0 c i arg1 harg1 arg2 harg2 arg3 harg3 arg4 harg4 arg5 harg5 arg6 harg6 arg8 harg8 arg9 harg9 arg10 harg10 arg11 harg11 hc0 hc1 x0 x1 x2 x3 x4 x5 = (blockOf x0 x1 x2 x3 x4 x5 zeroState zeroRow).out := by
  unfold sout0_A_0
  rw [View.read_writes_junk_eq_canon, carry_A, loads_eq, start_state, start_row]
  exact (View.canon_cons_unit_lit _ _ _ (by decide)).trans (shapeCast_self _ _)
theorem row_A : sout0_A_1 c i arg1 harg1 arg2 harg2 arg3 harg3 arg4 harg4 arg5 harg5 arg6 harg6 arg8 harg8 arg9 harg9 arg10 harg10 arg11 harg11 hc0 hc1 x0 x1 x2 x3 x4 x5 = (blockOf x0 x1 x2 x3 x4 x5 zeroState zeroRow).sumLb := by
  unfold sout0_A_1
  rw [View.read_writes_junk_eq_canon, total_A, loads_eq, start_state, start_row]
  exact (View.canon_cons_unit_lit _ _ _ (by decide)).trans (shapeCast_self _ _)
end

section
variable (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S8x128x512 .f32) (harg5 : arg5.IsWhole) (arg6 : Memref sig .tc .vmem S2x512 .f32) (harg6 : arg6.IsWhole) (arg8 : Memref sig .tc .vmem S3x512x512 .bf16) (harg8 : arg8.IsWhole) (arg9 : Memref sig .tc .vmem S2x512 .f32) (harg9 : arg9.IsWhole) (arg10 : Memref sig .tc .vmem S128x512 .f32) (harg10 : arg10.IsWhole) (arg11 : Memref sig .tc .vmem S1x512 .f32) (harg11 : arg11.IsWhole) (hc0 : ¬cond0_0 i) (hc1 : ¬cond0_1 i) (x0 x1 x2 : Vec F S1x512x512 .f32) (x3 : Vec F S512x512 .f32) (x4 : Vec F S8x128x512 .f32) (x5 : Vec F S2x512 .f32) (xs0 : Vec F S128x512 .f32) (xs1 : Vec F S1x512 .f32)

theorem planes_B : (kernelRun0_B c i arg1 harg1 arg2 harg2 arg3 harg3 arg4 harg4 arg5 harg5 arg6 harg6 arg8 harg8 arg9 harg9 arg10 harg10 arg11 harg11 hc0 hc1 x0 x1 x2 x3 x4 x5 xs0 xs1).1 = planes (loads arg1 harg1 arg2 harg2 arg3 harg3 arg4 harg4 arg5 harg5 arg6 harg6 x0 x1 x2 x3 x4 x5 (View.readAt (Elt F) arg10.view (Rect.unit ![0, 0] S128x512.size inb_S128x512_S128x512_0_0).toLoadRect (harg10.unread xs0)) (View.readAt (Elt F) arg11.view (Rect.unit ![0, 0] S1x512.size inb_S1x512_S1x512_0_0).toLoadRect (harg11.unread xs1))) := by sl_kernel_rfl
theorem carry_B : (kernelRun0_B c i arg1 harg1 arg2 harg2 arg3 harg3 arg4 harg4 arg5 harg5 arg6 harg6 arg8 harg8 arg9 harg9 arg10 harg10 arg11 harg11 hc0 hc1 x0 x1 x2 x3 x4 x5 xs0 xs1).2.2.1 = carry (loads arg1 harg1 arg2 harg2 arg3 harg3 arg4 harg4 arg5 harg5 arg6 harg6 x0 x1 x2 x3 x4 x5 (View.readAt (Elt F) arg10.view (Rect.unit ![0, 0] S128x512.size inb_S128x512_S128x512_0_0).toLoadRect (harg10.unread xs0)) (View.readAt (Elt F) arg11.view (Rect.unit ![0, 0] S1x512.size inb_S1x512_S1x512_0_0).toLoadRect (harg11.unread xs1))) := by sl_kernel_rfl
theorem total_B : (kernelRun0_B c i arg1 harg1 arg2 harg2 arg3 harg3 arg4 harg4 arg5 harg5 arg6 harg6 arg8 harg8 arg9 harg9 arg10 harg10 arg11 harg11 hc0 hc1 x0 x1 x2 x3 x4 x5 xs0 xs1).2.2.2.1 = total (loads arg1 harg1 arg2 harg2 arg3 harg3 arg4 harg4 arg5 harg5 arg6 harg6 x0 x1 x2 x3 x4 x5 (View.readAt (Elt F) arg10.view (Rect.unit ![0, 0] S128x512.size inb_S128x512_S128x512_0_0).toLoadRect (harg10.unread xs0)) (View.readAt (Elt F) arg11.view (Rect.unit ![0, 0] S1x512.size inb_S1x512_S1x512_0_0).toLoadRect (harg11.unread xs1))) := by sl_kernel_rfl

theorem out6_B : out0_B_6 c i arg1 harg1 arg2 harg2 arg3 harg3 arg4 harg4 arg5 harg5 arg6 harg6 arg8 harg8 arg9 harg9 arg10 harg10 arg11 harg11 hc0 hc1 x0 x1 x2 x3 x4 x5 xs0 xs1 = View.canon (planes (blockOf x0 x1 x2 x3 x4 x5 xs0 xs1)) := by
  unfold out0_B_6
  rw [View.read_writes_junk_eq_canon, planes_B, loads_eq, readAt_whole, readAt_row]
theorem state_B : sout0_B_0 c i arg1 harg1 arg2 harg2 arg3 harg3 arg4 harg4 arg5 harg5 arg6 harg6 arg8 harg8 arg9 harg9 arg10 harg10 arg11 harg11 hc0 hc1 x0 x1 x2 x3 x4 x5 xs0 xs1 = (blockOf x0 x1 x2 x3 x4 x5 xs0 xs1).out := by
  unfold sout0_B_0
  rw [View.read_writes_junk_eq_canon, carry_B, loads_eq, readAt_whole, readAt_row]
  exact (View.canon_cons_unit_lit _ _ _ (by decide)).trans (shapeCast_self _ _)
theorem row_B : sout0_B_1 c i arg1 harg1 arg2 harg2 arg3 harg3 arg4 harg4 arg5 harg5 arg6 harg6 arg8 harg8 arg9 harg9 arg10 harg10 arg11 harg11 hc0 hc1 x0 x1 x2 x3 x4 x5 xs0 xs1 = (blockOf x0 x1 x2 x3 x4 x5 xs0 xs1).sumLb := by
  unfold sout0_B_1
  rw [View.read_writes_junk_eq_canon, total_B, loads_eq, readAt_whole, readAt_row]
  exact (View.canon_cons_unit_lit _ _ _ (by decide)).trans (shapeCast_self _ _)
end

section
variable (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S8x128x512 .f32) (harg5 : arg5.IsWhole) (arg6 : Memref sig .tc .vmem S2x512 .f32) (harg6 : arg6.IsWhole) (arg8 : Memref sig .tc .vmem S3x512x512 .bf16) (harg8 : arg8.IsWhole) (arg9 : Memref sig .tc .vmem S2x512 .f32) (harg9 : arg9.IsWhole) (arg10 : Memref sig .tc .vmem S128x512 .f32) (harg10 : arg10.IsWhole) (arg11 : Memref sig .tc .vmem S1x512 .f32) (harg11 : arg11.IsWhole) (hc0 : ¬cond0_0 i) (hc1 : cond0_1 i) (x0 x1 x2 : Vec F S1x512x512 .f32) (x3 : Vec F S512x512 .f32) (x4 : Vec F S8x128x512 .f32) (x5 : Vec F S2x512 .f32) (xs0 : Vec F S128x512 .f32) (xs1 : Vec F S1x512 .f32)

theorem planes_C : (kernelRun0_C c i arg1 harg1 arg2 harg2 arg3 harg3 arg4 harg4 arg5 harg5 arg6 harg6 arg8 harg8 arg9 harg9 arg10 harg10 arg11 harg11 hc0 hc1 x0 x1 x2 x3 x4 x5 xs0 xs1).1 = planes (loads arg1 harg1 arg2 harg2 arg3 harg3 arg4 harg4 arg5 harg5 arg6 harg6 x0 x1 x2 x3 x4 x5 (View.readAt (Elt F) arg10.view (Rect.unit ![0, 0] S128x512.size inb_S128x512_S128x512_0_0).toLoadRect (harg10.unread xs0)) (View.readAt (Elt F) arg11.view (Rect.unit ![0, 0] S1x512.size inb_S1x512_S1x512_0_0).toLoadRect (harg11.unread xs1))) := by sl_kernel_rfl
theorem carry_C : (kernelRun0_C c i arg1 harg1 arg2 harg2 arg3 harg3 arg4 harg4 arg5 harg5 arg6 harg6 arg8 harg8 arg9 harg9 arg10 harg10 arg11 harg11 hc0 hc1 x0 x1 x2 x3 x4 x5 xs0 xs1).2.2.1 = carry (loads arg1 harg1 arg2 harg2 arg3 harg3 arg4 harg4 arg5 harg5 arg6 harg6 x0 x1 x2 x3 x4 x5 (View.readAt (Elt F) arg10.view (Rect.unit ![0, 0] S128x512.size inb_S128x512_S128x512_0_0).toLoadRect (harg10.unread xs0)) (View.readAt (Elt F) arg11.view (Rect.unit ![0, 0] S1x512.size inb_S1x512_S1x512_0_0).toLoadRect (harg11.unread xs1))) := by sl_kernel_rfl
theorem total_C : (kernelRun0_C c i arg1 harg1 arg2 harg2 arg3 harg3 arg4 harg4 arg5 harg5 arg6 harg6 arg8 harg8 arg9 harg9 arg10 harg10 arg11 harg11 hc0 hc1 x0 x1 x2 x3 x4 x5 xs0 xs1).2.2.2.1 = total (loads arg1 harg1 arg2 harg2 arg3 harg3 arg4 harg4 arg5 harg5 arg6 harg6 x0 x1 x2 x3 x4 x5 (View.readAt (Elt F) arg10.view (Rect.unit ![0, 0] S128x512.size inb_S128x512_S128x512_0_0).toLoadRect (harg10.unread xs0)) (View.readAt (Elt F) arg11.view (Rect.unit ![0, 0] S1x512.size inb_S1x512_S1x512_0_0).toLoadRect (harg11.unread xs1))) := by sl_kernel_rfl

theorem out6_C : out0_C_6 c i arg1 harg1 arg2 harg2 arg3 harg3 arg4 harg4 arg5 harg5 arg6 harg6 arg8 harg8 arg9 harg9 arg10 harg10 arg11 harg11 hc0 hc1 x0 x1 x2 x3 x4 x5 xs0 xs1 = View.canon (planes (blockOf x0 x1 x2 x3 x4 x5 xs0 xs1)) := by
  unfold out0_C_6
  rw [View.read_writes_junk_eq_canon, planes_C, loads_eq, readAt_whole, readAt_row]
theorem state_C : sout0_C_0 c i arg1 harg1 arg2 harg2 arg3 harg3 arg4 harg4 arg5 harg5 arg6 harg6 arg8 harg8 arg9 harg9 arg10 harg10 arg11 harg11 hc0 hc1 x0 x1 x2 x3 x4 x5 xs0 xs1 = (blockOf x0 x1 x2 x3 x4 x5 xs0 xs1).out := by
  unfold sout0_C_0
  rw [View.read_writes_junk_eq_canon, carry_C, loads_eq, readAt_whole, readAt_row]
  exact (View.canon_cons_unit_lit _ _ _ (by decide)).trans (shapeCast_self _ _)
theorem row_C : sout0_C_1 c i arg1 harg1 arg2 harg2 arg3 harg3 arg4 harg4 arg5 harg5 arg6 harg6 arg8 harg8 arg9 harg9 arg10 harg10 arg11 harg11 hc0 hc1 x0 x1 x2 x3 x4 x5 xs0 xs1 = (blockOf x0 x1 x2 x3 x4 x5 xs0 xs1).sumLb := by
  unfold sout0_C_1
  rw [View.read_writes_junk_eq_canon, total_C, loads_eq, readAt_whole, readAt_row]
  exact (View.canon_cons_unit_lit _ _ _ (by decide)).trans (shapeCast_self _ _)

theorem logits_C : (kernelRun0_C c i arg1 harg1 arg2 harg2 arg3 harg3 arg4 harg4 arg5 harg5 arg6 harg6 arg8 harg8 arg9 harg9 arg10 harg10 arg11 harg11 hc0 hc1 x0 x1 x2 x3 x4 x5 xs0 xs1).2.1 = logits (View.readAt (Elt F) arg6.view (Rect.unit ![0, 0] S2x512.size inb_S2x512_S2x512_0_0).toLoadRect (harg6.unread x5)) (kernelRun0_C.sl.v2495 c arg1 harg1 arg2 harg2 arg3 harg3 arg4 harg4 arg5 harg5 arg6 harg6 arg10 harg10 arg11 harg11 x0 x1 x2 x3 x4 x5 xs0 xs1) := by
  sl_kernel_rfl
theorem reread_C : (kernelRun0_C.sl.v2495 c arg1 harg1 arg2 harg2 arg3 harg3 arg4 harg4 arg5 harg5 arg6 harg6 arg10 harg10 arg11 harg11 x0 x1 x2 x3 x4 x5 xs0 xs1) = arg11.view.readCov (total (loads arg1 harg1 arg2 harg2 arg3 harg3 arg4 harg4 arg5 harg5 arg6 harg6 x0 x1 x2 x3 x4 x5 (View.readAt (Elt F) arg10.view (Rect.unit ![0, 0] S128x512.size inb_S128x512_S128x512_0_0).toLoadRect (harg10.unread xs0)) (View.readAt (Elt F) arg11.view (Rect.unit ![0, 0] S1x512.size inb_S1x512_S1x512_0_0).toLoadRect (harg11.unread xs1)))) (Rect.unit ![0, 0] S1x512.size inb_S1x512_S1x512_0_0).toLoadRect := by
  sl_kernel_rfl
theorem out7_C : out0_C_7 c i arg1 harg1 arg2 harg2 arg3 harg3 arg4 harg4 arg5 harg5 arg6 harg6 arg8 harg8 arg9 harg9 arg10 harg10 arg11 harg11 hc0 hc1 x0 x1 x2 x3 x4 x5 xs0 xs1 = View.canon (logits x5 (blockOf x0 x1 x2 x3 x4 x5 xs0 xs1).sumLb) := by
  unfold out0_C_7
  rw [View.read_writes_junk_eq_canon, logits_C, readAt_logits, reread_C, loads_eq, readAt_whole, readAt_row]
  have e : arg11.view.readCov (total (blockOf x0 x1 x2 x3 x4 x5 xs0 xs1)) (Rect.unit ![0, 0] S1x512.size inb_S1x512_S1x512_0_0).toLoadRect = (blockOf x0 x1 x2 x3 x4 x5 xs0 xs1).sumLb :=
    (View.readCov_unit_lit _ _ _ (by decide)).trans (shapeCast_self _ _)
  rw [e]
end

end Cert.KernelIdeal.Chunk

end
-- ==== Proof.Real.lean ====
/- The layer over the real numbers: a gated linear attention and its gradients as plain sums over the rows of a
   sequence, and the same sums taken a chunk of 64 rows at a time with a state carried between the chunks. -/
module

public import Idealize.ShloMosaic.Lib.Pointwise
public import Mathlib.Algebra.BigOperators.Intervals
public import Mathlib.Analysis.SpecialFunctions.Exp
public import Mathlib.Tactic.Ring
public import Mathlib.Tactic.Linarith

@[expose] public section

noncomputable section

namespace Cert.Attn

open Finset

/-- The first column of the head of column `j`. -/
def hb (j : ℕ) : ℕ := 128 * (j / 128)

/-- The running sum of the gates' logarithms over the first `n` rows. -/
def Bs (g : ℕ → ℕ → ℝ) (n j : ℕ) : ℝ := ∑ s ∈ range n, g s j

/-- How much of row `s` is left at row `t`. -/
def W (g : ℕ → ℕ → ℝ) (t s j : ℕ) : ℝ := Real.exp (Bs g (t + 1) j - Bs g (s + 1) j)

/-- The cotangent of the score of `t` with `s` in the head of column `j`. -/
def P (o v : ℕ → ℕ → ℝ) (t s j : ℕ) : ℝ := ∑ u ∈ range 128, o t (hb j + u) * v s (hb j + u)

/-- The score itself. -/
def A (q k g : ℕ → ℕ → ℝ) (t s j : ℕ) : ℝ := ∑ l ∈ range 128, q t (hb j + l) * k s (hb j + l) * W g t s (hb j + l)

def dQ (k g v o : ℕ → ℕ → ℝ) (t j : ℕ) : ℝ := ∑ s ∈ range (t + 1), P o v t s j * (k s j * W g t s j)
def dK (T : ℕ) (q g v o : ℕ → ℕ → ℝ) (s j : ℕ) : ℝ := ∑ t ∈ Ico s T, P o v t s j * (q t j * W g t s j)
def dV (T : ℕ) (q k g o : ℕ → ℕ → ℝ) (s j : ℕ) : ℝ := ∑ t ∈ Ico s T, A q k g t s j * o t j

/-- The cotangent of the running sum at row `t`. -/
def dB (T : ℕ) (q k g v o : ℕ → ℕ → ℝ) (t j : ℕ) : ℝ := q t j * dQ k g v o t j - k t j * dK T q g v o t j

/-- The state before row `n`, its rows the lanes of the values, and the cotangent of the state before row `n`. -/
def St (k g v : ℕ → ℕ → ℝ) (n u j : ℕ) : ℝ := ∑ s ∈ range n, Real.exp (Bs g n j - Bs g (s + 1) j) * k s j * v s (hb j + u)
def Ds (T : ℕ) (q g o : ℕ → ℕ → ℝ) (n u j : ℕ) : ℝ := ∑ t ∈ Ico n T, q t j * Real.exp (Bs g (t + 1) j - Bs g n j) * o t (hb j + u)

theorem hb_add (j l : ℕ) (hl : l < 128) : hb (hb j + l) = hb j := by
  unfold hb; omega

/-! ### One chunk of 64 rows, from row `n` on

  `b r` the running sum inside the chunk, `M` any number: the kernel takes `b` at its middle row. -/

variable {T : ℕ} {q k g v o : ℕ → ℕ → ℝ} {n : ℕ}

/-- The running sum inside the chunk that begins at row `n`. -/
def Bc (g : ℕ → ℕ → ℝ) (n r j : ℕ) : ℝ := Bs g (n + r + 1) j - Bs g n j

theorem Bc_eq (g : ℕ → ℕ → ℝ) (n r j : ℕ) : Bc g n r j = ∑ s ∈ range (r + 1), g (n + s) j := by
  unfold Bc Bs
  rw [show n + r + 1 = n + (r + 1) from rfl, sum_range_add]; ring

theorem sum_le_ite (f : ℕ → ℝ) (r m : ℕ) (hr : r < m) : (∑ s ∈ range m, if s ≤ r then f s else 0) = ∑ s ∈ range (r + 1), f s := by
  rw [← sum_filter]
  refine sum_congr ?_ fun _ _ => rfl
  ext s; simp; omega

theorem sum_ge_ite (f : ℕ → ℝ) (r m : ℕ) : (∑ s ∈ range m, if r ≤ s then f s else 0) = ∑ s ∈ Ico r m, f s := by
  rw [← sum_filter]
  refine sum_congr ?_ fun _ _ => rfl
  ext s; simp [and_comm]

theorem sum_Ico_shift (f : ℕ → ℝ) (n a b : ℕ) : ∑ t ∈ Ico (n + a) (n + b), f t = ∑ t ∈ Ico a b, f (n + t) := by
  rw [add_comm n a, add_comm n b, ← sum_Ico_add' f a b n]
  exact sum_congr rfl fun _ _ => by rw [add_comm]

/-- A product of two exponentials whose exponents add up. -/
theorem exp_mul {a b c : ℝ} (h : a + b = c) : Real.exp a * Real.exp b = Real.exp c := by rw [← Real.exp_add, h]

/-- The gradient of the queries: the chunk's own rows, and the state before the chunk. -/
theorem chunk_dQ (M : ℕ → ℝ) (r j : ℕ) (hr : r < 64) :
    (∑ s ∈ range 64, (if s ≤ r then P o v (n + r) (n + s) j else 0) * (k (n + s) j * Real.exp (M j - Bc g n s j))) * Real.exp (Bc g n r j - M j)
      + (∑ u ∈ range 128, o (n + r) (hb j + u) * St k g v n u j) * Real.exp (Bc g n r j) = dQ k g v o (n + r) j := by
  unfold dQ
  rw [show n + r + 1 = n + (r + 1) from rfl, sum_range_add, add_comm]
  congr 1
  · unfold St
    simp only [mul_sum, sum_mul]
    rw [sum_comm]
    refine sum_congr rfl fun s _ => ?_
    unfold P W
    rw [sum_mul]
    refine sum_congr rfl fun u _ => ?_
    have e : Real.exp (Bs g n j - Bs g (s + 1) j) * Real.exp (Bc g n r j) = Real.exp (Bs g (n + r + 1) j - Bs g (s + 1) j) :=
      exp_mul (by unfold Bc; ring)
    linear_combination (o (n + r) (hb j + u) * k s j * v s (hb j + u)) * e
  · have : ∀ s, (if s ≤ r then P o v (n + r) (n + s) j else 0) * (k (n + s) j * Real.exp (M j - Bc g n s j))
        = if s ≤ r then P o v (n + r) (n + s) j * (k (n + s) j * Real.exp (M j - Bc g n s j)) else 0 := fun s => by split_ifs <;> simp
    simp only [this]
    rw [sum_le_ite _ r 64 hr, sum_mul]
    refine sum_congr rfl fun s _ => ?_
    unfold W
    have e : Real.exp (M j - Bc g n s j) * Real.exp (Bc g n r j - M j) = Real.exp (Bs g (n + r + 1) j - Bs g (n + s + 1) j) :=
      exp_mul (by unfold Bc; ring)
    linear_combination (P o v (n + r) (n + s) j * k (n + s) j) * e

/-- The gradient of the keys: the chunk's own rows, and the cotangent of the state after the chunk. -/
theorem chunk_dK (M : ℕ → ℝ) (r j : ℕ) (hr : r < 64) (hT : n + 64 ≤ T) :
    (∑ t ∈ range 64, (if r ≤ t then P o v (n + t) (n + r) j else 0) * (q (n + t) j * Real.exp (Bc g n t j - M j))) * Real.exp (M j - Bc g n r j)
      + (∑ u ∈ range 128, v (n + r) (hb j + u) * Ds T q g o (n + 64) u j) * Real.exp (Bc g n 63 j - Bc g n r j) = dK T q g v o (n + r) j := by
  unfold dK
  rw [← sum_Ico_consecutive _ (show n + r ≤ n + 64 by omega) hT]
  congr 1
  · have : ∀ t, (if r ≤ t then P o v (n + t) (n + r) j else 0) * (q (n + t) j * Real.exp (Bc g n t j - M j))
        = if r ≤ t then P o v (n + t) (n + r) j * (q (n + t) j * Real.exp (Bc g n t j - M j)) else 0 := fun t => by split_ifs <;> simp
    simp only [this]
    rw [sum_ge_ite, sum_Ico_shift, sum_mul]
    refine sum_congr rfl fun t _ => ?_
    unfold W
    have e : Real.exp (Bc g n t j - M j) * Real.exp (M j - Bc g n r j) = Real.exp (Bs g (n + t + 1) j - Bs g (n + r + 1) j) :=
      exp_mul (by unfold Bc; ring)
    linear_combination (P o v (n + t) (n + r) j * q (n + t) j) * e
  · unfold Ds
    simp only [mul_sum, sum_mul]
    rw [sum_comm]
    refine sum_congr rfl fun t _ => ?_
    unfold P W
    rw [sum_mul]
    refine sum_congr rfl fun u _ => ?_
    have e : Real.exp (Bs g (t + 1) j - Bs g (n + 64) j) * Real.exp (Bc g n 63 j - Bc g n r j) = Real.exp (Bs g (t + 1) j - Bs g (n + r + 1) j) :=
      exp_mul (by unfold Bc; rw [show n + 63 + 1 = n + 64 from rfl]; ring)
    linear_combination (v (n + r) (hb j + u) * q t j * o t (hb j + u)) * e

/-- The gradient of the values. -/
theorem chunk_dV (M : ℕ → ℝ) (r j : ℕ) (hr : r < 64) (hT : n + 64 ≤ T) :
    (∑ t ∈ range 64, (if r ≤ t then ∑ l ∈ range 128, (q (n + t) (hb j + l) * Real.exp (Bc g n t (hb j + l) - M (hb j + l)))
          * (k (n + r) (hb j + l) * Real.exp (M (hb j + l) - Bc g n r (hb j + l))) else 0) * o (n + t) j)
      + (∑ l ∈ range 128, (k (n + r) (hb j + l) * Real.exp (Bc g n 63 (hb j + l) - Bc g n r (hb j + l)))
          * Ds T q g o (n + 64) (j % 128) (hb j + l)) = dV T q k g o (n + r) j := by
  unfold dV
  rw [← sum_Ico_consecutive _ (show n + r ≤ n + 64 by omega) hT]
  congr 1
  · simp only [ite_mul, zero_mul]
    rw [sum_ge_ite, sum_Ico_shift]
    refine sum_congr rfl fun t _ => ?_
    unfold A
    congr 1
    refine sum_congr rfl fun l _ => ?_
    unfold W
    have e : Real.exp (Bc g n t (hb j + l) - M (hb j + l)) * Real.exp (M (hb j + l) - Bc g n r (hb j + l))
        = Real.exp (Bs g (n + t + 1) (hb j + l) - Bs g (n + r + 1) (hb j + l)) := exp_mul (by unfold Bc; ring)
    linear_combination (q (n + t) (hb j + l) * k (n + r) (hb j + l)) * e
  · unfold Ds
    simp only [mul_sum]
    rw [sum_comm]
    refine sum_congr rfl fun t _ => ?_
    unfold A
    rw [sum_mul]
    refine sum_congr rfl fun l hl => ?_
    rw [hb_add j l (by simpa using hl), show hb j + j % 128 = j from Nat.div_add_mod j 128]
    unfold W
    have e : Real.exp (Bc g n 63 (hb j + l) - Bc g n r (hb j + l)) * Real.exp (Bs g (t + 1) (hb j + l) - Bs g (n + 64) (hb j + l))
        = Real.exp (Bs g (t + 1) (hb j + l) - Bs g (n + r + 1) (hb j + l)) :=
      exp_mul (by unfold Bc; rw [show n + 63 + 1 = n + 64 from rfl]; ring)
    linear_combination (q t (hb j + l) * k (n + r) (hb j + l) * o t j) * e

/-- The cotangent of the state, carried over a chunk. -/
theorem chunk_Ds (u j : ℕ) (hT : n + 64 ≤ T) :
    Real.exp (Bc g n 63 j) * Ds T q g o (n + 64) u j + ∑ r ∈ range 64, o (n + r) (hb j + u) * (q (n + r) j * Real.exp (Bc g n r j))
      = Ds T q g o n u j := by
  unfold Ds
  rw [← sum_Ico_consecutive _ (show n ≤ n + 64 by omega) hT, add_comm]
  congr 1
  · have := sum_Ico_shift (fun t => q t j * Real.exp (Bs g (t + 1) j - Bs g n j) * o t (hb j + u)) n 0 64
    rw [add_zero] at this
    rw [this, range_eq_Ico]
    refine sum_congr rfl fun r _ => ?_
    unfold Bc; ring
  · rw [mul_sum]
    refine sum_congr rfl fun t _ => ?_
    have e : Real.exp (Bc g n 63 j) * Real.exp (Bs g (t + 1) j - Bs g (n + 64) j) = Real.exp (Bs g (t + 1) j - Bs g n j) :=
      exp_mul (by unfold Bc; rw [show n + 63 + 1 = n + 64 from rfl]; ring)
    linear_combination (q t j * o t (hb j + u)) * e

/-- The state, carried over a chunk. -/
theorem chunk_St (u j : ℕ) :
    Real.exp (Bc g n 63 j) * St k g v n u j + ∑ r ∈ range 64, Real.exp (Bc g n 63 j - Bc g n r j) * k (n + r) j * v (n + r) (hb j + u)
      = St k g v (n + 64) u j := by
  unfold St
  rw [sum_range_add, mul_sum]
  congr 1
  · refine sum_congr rfl fun s _ => ?_
    have e : Real.exp (Bc g n 63 j) * Real.exp (Bs g n j - Bs g (s + 1) j) = Real.exp (Bs g (n + 64) j - Bs g (s + 1) j) :=
      exp_mul (by unfold Bc; rw [show n + 63 + 1 = n + 64 from rfl]; ring)
    linear_combination (k s j * v s (hb j + u)) * e
  · refine sum_congr rfl fun r _ => ?_
    have e : Bc g n 63 j - Bc g n r j = Bs g (n + 64) j - Bs g (n + r + 1) j := by
      unfold Bc; rw [show n + 63 + 1 = n + 64 from rfl]; ring
    rw [e]

/-- The sum of a square of pairs below the diagonal, by rows and by columns. -/
theorem sum_triangle (X : ℕ → ℕ → ℝ) (a b : ℕ) : ∑ s ∈ Ico a b, ∑ t ∈ Ico s b, X t s = ∑ t ∈ Ico a b, ∑ s ∈ Ico a (t + 1), X t s := by
  refine sum_comm' fun s t => ?_
  simp only [mem_Ico]; omega

/-- What the rows from `n` on give the cotangent of the running sum: the rows before `n` alone have a part in it, which the
    state before row `n` and its cotangent hold. -/
theorem sum_dB (N j : ℕ) : ∑ t ∈ Ico N T, dB T q k g v o t j = ∑ u ∈ range 128, Ds T q g o N u j * St k g v N u j := by
  let X : ℕ → ℕ → ℝ := fun t s => P o v t s j * (q t j * (k s j * W g t s j))
  have hQ : ∀ t, q t j * dQ k g v o t j = ∑ s ∈ range (t + 1), X t s := fun t => by
    unfold dQ; rw [mul_sum]; exact sum_congr rfl fun s _ => by simp only [X]; ring
  have hK : ∀ s, k s j * dK T q g v o s j = ∑ t ∈ Ico s T, X t s := fun s => by
    unfold dK; rw [mul_sum]; exact sum_congr rfl fun t _ => by simp only [X]; ring
  have h1 : ∑ t ∈ Ico N T, dB T q k g v o t j = ∑ t ∈ Ico N T, ∑ s ∈ range N, X t s := by
    unfold dB
    rw [sum_sub_distrib]
    simp only [hQ, hK]
    rw [sum_triangle, ← sum_sub_distrib]
    refine sum_congr rfl fun t ht => ?_
    have := mem_Ico.1 ht
    rw [range_eq_Ico, ← sum_Ico_consecutive (fun s => X t s) (Nat.zero_le N) (show N ≤ t + 1 by omega), range_eq_Ico]
    ring
  rw [h1]
  unfold Ds St
  simp only [sum_mul_sum]
  rw [sum_comm (s := range 128)]
  refine sum_congr rfl fun t _ => ?_
  rw [sum_comm (s := range 128)]
  refine sum_congr rfl fun s _ => ?_
  simp only [X]
  unfold P W
  rw [sum_mul]
  refine sum_congr rfl fun u _ => ?_
  have e : Real.exp (Bs g (t + 1) j - Bs g N j) * Real.exp (Bs g N j - Bs g (s + 1) j) = Real.exp (Bs g (t + 1) j - Bs g (s + 1) j) :=
    exp_mul (by ring)
  linear_combination (-(o t (hb j + u) * v s (hb j + u) * q t j * k s j)) * e

/-- The cotangent of a gate's logarithm: the rows of the chunk from its own on, and what the later chunks give. -/
theorem chunk_dG (r j : ℕ) (hr : r < 64) (hT : n + 64 ≤ T) :
    (∑ r' ∈ range 64, if r ≤ r' then dB T q k g v o (n + r') j else 0)
      + ((∑ r' ∈ range 64, (∑ u ∈ range 128, v (n + r') (hb j + u) * Ds T q g o (n + 64) u j) * (k (n + r') j * Real.exp (Bc g n 63 j - Bc g n r' j)))
        + (∑ u ∈ range 128, Ds T q g o (n + 64) u j * St k g v n u j) * Real.exp (Bc g n 63 j))
      = ∑ t ∈ Ico (n + r) T, dB T q k g v o t j := by
  rw [← sum_Ico_consecutive _ (show n + r ≤ n + 64 by omega) hT, sum_ge_ite, sum_Ico_shift, sum_dB]
  congr 1
  simp only [← chunk_St (n := n), mul_add, sum_add_distrib, mul_sum, sum_mul]
  rw [add_comm]
  congr 1
  · exact sum_congr rfl fun u _ => by ring
  · rw [sum_comm]
    exact sum_congr rfl fun u _ => sum_congr rfl fun r _ => by ring

end Cert.Attn
end
-- ==== Proof.Denote.lean ====
/- Vectors over the extended reals whose entries are real numbers, and how the chunk's operations act on them. -/
module

public import proofs.«01_k».proof.Proof.Chunk
public import proofs.«01_k».proof.Proof.Real
public import Idealize.ShloMosaic.Lib.Pointwise

@[expose] public section

noncomputable section

namespace Cert.KernelIdeal.Chunk

open Cert.KernelIdeal Cert.KernelIdeal.Gen Cert.Attn Idealize.ShloMosaic Idealize.SL.Sem

theorem coe_sum {n : ℕ} (f : Fin n → ℝ) : (∑ k, ((f k : ℝ) : EReal)) = ((∑ k, f k : ℝ) : EReal) := by
  induction n with
  | zero => simp
  | succ n ih => rw [Fin.sum_univ_castSucc, Fin.sum_univ_castSucc, ih, EReal.coe_add]

theorem coe_sum_range (n : ℕ) (f : ℕ → ℝ) : (∑ k : Fin n, ((f k : ℝ) : EReal)) = ((∑ k ∈ Finset.range n, f k : ℝ) : EReal) := by
  rw [coe_sum fun k : Fin n => f k, Finset.sum_range]

/-- The entries of a chunk, a row, a state are the reals `x`. -/
def Is (X : FVec Ideal S64x512 .f32) (x : ℕ → ℕ → ℝ) : Prop := ∀ (r : Fin 64) (j : Fin 512), X (ix2 r j) = ((x r j : ℝ) : EReal)
def IsRow (X : FVec Ideal S1x512 .f32) (x : ℕ → ℝ) : Prop := ∀ (j : Fin 512), X (ix2 0 j) = ((x j : ℝ) : EReal)
def IsSt (X : FVec Ideal S128x512 .f32) (x : ℕ → ℕ → ℝ) : Prop := ∀ (r : Fin 128) (j : Fin 512), X (ix2 r j) = ((x r j : ℝ) : EReal)
/-- The entries of head `i` are the columns of `x` from `128 i` on. -/
def IsH (i : ℕ) (X : FVec Ideal S64x128 .f32) (x : ℕ → ℕ → ℝ) : Prop :=
  ∀ (r : Fin 64) (l : Fin 128), X (ix2 r l) = ((x r (128 * i + l) : ℝ) : EReal)
def IsG (i : ℕ) (X : FVec Ideal S128x128 .f32) (x : ℕ → ℕ → ℝ) : Prop :=
  ∀ (r : Fin 128) (l : Fin 128), X (ix2 r l) = ((x r (128 * i + l) : ℝ) : EReal)

section
variable {X Y : FVec Ideal S64x512 .f32} {x y z : ℕ → ℕ → ℝ}

theorem Is.congr (hX : Is X x) (h : ∀ r j, r < 64 → j < 512 → x r j = y r j) : Is X y := fun r j => by
  rw [hX, h r j r.isLt j.isLt]
theorem Is.add (hX : Is X x) (hY : Is Y y) : Is (addf X Y) (fun r j => x r j + y r j) := by
  intro r j
  pointwise
  rw [hX, hY, EReal.coe_add]
theorem Is.sub (hX : Is X x) (hY : Is Y y) : Is (subf X Y) (fun r j => x r j - y r j) := by
  intro r j
  pointwise
  rw [hX, hY, EReal.coe_sub]
theorem Is.mul (hX : Is X x) (hY : Is Y y) : Is (mulf X Y) (fun r j => x r j * y r j) := by
  intro r j
  pointwise
  rw [hX, hY, EReal.coe_mul]
theorem coe_div {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]
theorem Is.div (hX : Is X x) (hY : Is Y y) (h0 : ∀ r j, r < 64 → j < 512 → y r j ≠ 0) : Is (divf X Y) (fun r j => x r j / y r j) := by
  intro r j
  pointwise
  rw [hX, hY, coe_div (h0 r j r.isLt j.isLt)]
theorem Is.exp (hX : Is X x) : Is (exp X) (fun r j => Real.exp (x r j)) := by
  intro r j
  pointwise
  rw [hX]
  rfl
theorem coe_log {a : ℝ} (ha : 0 < a) : Ideal.log (a : EReal) = ((Real.log a : ℝ) : EReal) := by
  show (if a ≤ 0 then ⊥ else ((Real.log a : ℝ) : EReal)) = _
  rw [if_neg (not_le.2 ha)]
theorem Is.log (hX : Is X x) (h0 : ∀ r j, r < 64 → j < 512 → 0 < x r j) : Is (log X) (fun r j => Real.log (x r j)) := by
  intro r j
  pointwise
  rw [hX]
  exact coe_log (h0 r j r.isLt j.isLt)
theorem Is.one : Is one64 (fun _ _ => 1) := by
  intro r j
  pointwise [one64]
  rfl
theorem Is.zero : Is zero64 (fun _ _ => 0) := by
  intro r j
  pointwise [zero64]
  rfl
end

section
variable {X Y : FVec Ideal S1x512 .f32} {x y : ℕ → ℝ}
theorem Is.rep (hX : IsRow X x) : Is (rep X) (fun _ j => x j) := by
  intro r j
  pointwise [Chunk.rep]
  rw [hX]
theorem IsRow.congr (hX : IsRow X x) (h : ∀ j, j < 512 → x j = y j) : IsRow X y := fun j => by rw [hX, h j j.isLt]
theorem IsRow.add (hX : IsRow X x) (hY : IsRow Y y) : IsRow (addf X Y) (fun j => x j + y j) := by
  intro j
  pointwise
  rw [hX, hY, EReal.coe_add]
theorem IsRow.sub (hX : IsRow X x) (hY : IsRow Y y) : IsRow (subf X Y) (fun j => x j - y j) := by
  intro j
  pointwise
  rw [hX, hY, EReal.coe_sub]
theorem IsRow.mul (hX : IsRow X x) (hY : IsRow Y y) : IsRow (mulf X Y) (fun j => x j * y j) := by
  intro j
  pointwise
  rw [hX, hY, EReal.coe_mul]
theorem IsRow.exp (hX : IsRow X x) : IsRow (exp X) (fun j => Real.exp (x j)) := by
  intro j
  pointwise
  rw [hX]
  rfl
theorem IsRow.one : IsRow one1 (fun _ => 1) := by
  intro j
  pointwise [one1]
  rfl
theorem IsRow.zero : IsRow zero1 (fun _ => 0) := by
  intro j
  pointwise [zero1]
  rfl
end

section
variable {X Y : FVec Ideal S64x512 .f32} {S D : FVec Ideal S128x512 .f32} {x y s d : ℕ → ℕ → ℝ}

theorem IsRow.sum64 (hX : Is X x) : IsRow (sum64 X) (fun j => ∑ r ∈ Finset.range 64, x r j) := by
  intro j
  pointwise [Chunk.sum64]
  simp only [hX _ _]
  exact coe_sum_range 64 fun r => x r j
theorem IsRow.sum128 (hS : IsSt S s) : IsRow (sum128 S) (fun j => ∑ r ∈ Finset.range 128, s r j) := by
  intro j
  pointwise [Chunk.sum128]
  simp only [hS _ _]
  exact coe_sum_range 128 fun r => s r j
theorem IsRow.mid (hX : Is X x) : IsRow (mid X) (fun j => x 32 j) := by
  intro j
  pointwise [Chunk.mid]
  rw [hX]; rfl
theorem IsRow.last (hX : Is X x) : IsRow (last X) (fun j => x 63 j) := by
  intro j
  pointwise [Chunk.last]
  rw [hX]; rfl
theorem IsSt.add (hS : IsSt S s) (hD : IsSt D d) : IsSt (addf S D) (fun r j => s r j + d r j) := by
  intro r j
  pointwise
  rw [hS, hD, EReal.coe_add]
theorem IsSt.mul (hS : IsSt S s) (hD : IsSt D d) : IsSt (mulf S D) (fun r j => s r j * d r j) := by
  intro r j
  pointwise
  rw [hS, hD, EReal.coe_mul]
theorem IsSt.congr (hS : IsSt S s) (h : ∀ r j, r < 128 → j < 512 → s r j = d r j) : IsSt S d := fun r j => by
  rw [hS, h r j r.isLt j.isLt]
theorem IsSt.rep {R : FVec Ideal S1x512 .f32} {w : ℕ → ℝ} (hR : IsRow R w) :
    IsSt (broadcastTo S128x512 R broadcasts_S1x512_S128x512) (fun _ j => w j) := by
  intro r j
  pointwise
  rw [hR]

/-! ### The masks -/

theorem cmp_ge : ∀ r s : Fin 64, IntOp.cmpi .sge (BitVec.ofNat 32 r.val) (BitVec.ofNat 32 s.val) = if s.val ≤ r.val then 1#1 else 0#1 := by
  decide +kernel
theorem cmp_le : ∀ r s : Fin 64, IntOp.cmpi .sle (BitVec.ofNat 32 r.val) (BitVec.ofNat 32 s.val) = if r.val ≤ s.val then 1#1 else 0#1 := by
  decide +kernel

theorem ones_true : FloatOps.sitofp (F := Ideal) .f32 (BitVec.setWidth 32 1#1) = ((1 : ℝ) : EReal) := by
  show (((BitVec.setWidth 32 1#1).toInt : ℝ) : EReal) = _
  rw [show (BitVec.setWidth 32 1#1).toInt = 1 by decide]; simp
theorem ones_false : FloatOps.sitofp (F := Ideal) .f32 (BitVec.setWidth 32 0#1) = ((0 : ℝ) : EReal) := by
  show (((BitVec.setWidth 32 0#1).toInt : ℝ) : EReal) = _
  rw [show (BitVec.setWidth 32 0#1).toInt = 0 by decide]; simp

theorem Is.dotCausal (hX : Is X x) : Is (exactDot causal X) (fun r j => ∑ s ∈ Finset.range 64, if s ≤ r then x s j else 0) := by
  intro r j
  pointwise [exactDot, causal, zero64]
  simp only [cmp_ge, hX _ _, ← EReal.coe_sub, sub_self]
  have e : ∀ k : Fin 64, FloatOps.sitofp (F := Ideal) .f32 (BitVec.setWidth 32 (if k.val ≤ r.val then 1#1 else 0#1))
      = (((if k.val ≤ r.val then 1 else 0 : ℝ)) : EReal) := fun k => by
    split_ifs
    · exact ones_true
    · exact ones_false
  simp only [e, ← EReal.coe_mul, mul_zero, EReal.coe_zero, Finset.sum_const_zero, add_zero]
  rw [coe_sum_range 64 fun k => (if k ≤ r.val then 1 else 0) * x k j]
  simp only [ite_mul, one_mul, zero_mul]
theorem Is.dotAnti (hX : Is X x) : Is (exactDot anti X) (fun r j => ∑ s ∈ Finset.range 64, if r ≤ s then x s j else 0) := by
  intro r j
  pointwise [exactDot, anti, zero64]
  simp only [cmp_le, hX _ _, ← EReal.coe_sub, sub_self]
  have e : ∀ k : Fin 64, FloatOps.sitofp (F := Ideal) .f32 (BitVec.setWidth 32 (if r.val ≤ k.val then 1#1 else 0#1))
      = (((if r.val ≤ k.val then 1 else 0 : ℝ)) : EReal) := fun k => by
    split_ifs
    · exact ones_true
    · exact ones_false
  simp only [e, ← EReal.coe_mul, mul_zero, EReal.coe_zero, Finset.sum_const_zero, add_zero]
  rw [coe_sum_range 64 fun k => (if r.val ≤ k then 1 else 0) * x k j]
  simp only [ite_mul, one_mul, zero_mul]

/-! ### The heads -/

theorem IsH.h0 (hX : Is X x) : IsH 0 (h0 X) x := by
  intro r l
  pointwise [Chunk.h0]
  rw [hX]
theorem IsH.h1 (hX : Is X x) : IsH 1 (h1 X) x := by
  intro r l
  pointwise [Chunk.h1]
  rw [hX]
theorem IsH.h2 (hX : Is X x) : IsH 2 (h2 X) x := by
  intro r l
  pointwise [Chunk.h2]
  rw [hX]
theorem IsH.h3 (hX : Is X x) : IsH 3 (h3 X) x := by
  intro r l
  pointwise [Chunk.h3]
  rw [hX]
theorem IsG.g0 (hX : IsSt S s) : IsG 0 (g0 S) s := by
  intro r l
  pointwise [Chunk.g0]
  rw [hX]
theorem IsG.g1 (hX : IsSt S s) : IsG 1 (g1 S) s := by
  intro r l
  pointwise [Chunk.g1]
  rw [hX]
theorem IsG.g2 (hX : IsSt S s) : IsG 2 (g2 S) s := by
  intro r l
  pointwise [Chunk.g2]
  rw [hX]
theorem IsG.g3 (hX : IsSt S s) : IsG 3 (g3 S) s := by
  intro r l
  pointwise [Chunk.g3]
  rw [hX]

theorem Is.cat {a b c e : FVec Ideal S64x128 .f32} (h0 : IsH 0 a x) (h1 : IsH 1 b x) (h2 : IsH 2 c x) (h3 : IsH 3 e x) : Is (cat64 a b c e) x := by
  intro r j
  pointwise [cat64]
  by_cases c0 : j.val < 128
  · rw [dif_pos c0]
    exact (h0 r ⟨j, c0⟩).trans (by simp)
  rw [dif_neg c0]
  by_cases c1 : j.val - 128 < 128
  · rw [dif_pos c1]
    exact (h1 r ⟨j - 128, c1⟩).trans (congrArg (fun n => ((x r n : ℝ) : EReal)) (show 128 * 1 + (j.val - 128) = j.val by omega))
  rw [dif_neg c1]
  by_cases c2 : j.val - 128 - 128 < 128
  · rw [dif_pos c2]
    exact (h2 r ⟨j - 128 - 128, c2⟩).trans (congrArg (fun n => ((x r n : ℝ) : EReal)) (show 128 * 2 + (j.val - 128 - 128) = j.val by omega))
  rw [dif_neg c2]
  have c3 : j.val - 128 - 128 - 128 < 128 := by omega
  exact (h3 r ⟨j - 128 - 128 - 128, c3⟩).trans (congrArg (fun n => ((x r n : ℝ) : EReal)) (show 128 * 3 + (j.val - 128 - 128 - 128) = j.val by omega))
theorem IsSt.cat {a b c e : FVec Ideal S128x128 .f32} (h0 : IsG 0 a x) (h1 : IsG 1 b x) (h2 : IsG 2 c x) (h3 : IsG 3 e x) : IsSt (cat128 a b c e) x := by
  intro r j
  pointwise [cat128]
  by_cases c0 : j.val < 128
  · rw [dif_pos c0]
    exact (h0 r ⟨j, c0⟩).trans (by simp)
  rw [dif_neg c0]
  by_cases c1 : j.val - 128 < 128
  · rw [dif_pos c1]
    exact (h1 r ⟨j - 128, c1⟩).trans (congrArg (fun n => ((x r n : ℝ) : EReal)) (show 128 * 1 + (j.val - 128) = j.val by omega))
  rw [dif_neg c1]
  by_cases c2 : j.val - 128 - 128 < 128
  · rw [dif_pos c2]
    exact (h2 r ⟨j - 128 - 128, c2⟩).trans (congrArg (fun n => ((x r n : ℝ) : EReal)) (show 128 * 2 + (j.val - 128 - 128) = j.val by omega))
  rw [dif_neg c2]
  have c3 : j.val - 128 - 128 - 128 < 128 := by omega
  exact (h3 r ⟨j - 128 - 128 - 128, c3⟩).trans (congrArg (fun n => ((x r n : ℝ) : EReal)) (show 128 * 3 + (j.val - 128 - 128 - 128) = j.val by omega))
end

theorem hb_head (i l : ℕ) (hl : l < 128) : hb (128 * i + l) = 128 * i := by unfold hb; omega

section
variable {i : ℕ} {A B O : FVec Ideal S64x128 .f32} {M : FVec Ideal S128x128 .f32} {a b o m : ℕ → ℕ → ℝ}

theorem score_at (hA : IsH i A a) (hB : IsH i B b) (r s : Fin 64) :
    score A B (ix2 r s) = (((if s.val ≤ r.val then ∑ u ∈ Finset.range 128, a r (128 * i + u) * b s (128 * i + u) else 0 : ℝ)) : EReal) := by
  pointwise [score, causal, bf64]
  rw [cmp_ge]
  simp only [hA _ _, hB _ _, ← EReal.coe_mul]
  rw [coe_sum_range 128 fun u => a r (128 * i + u) * b s (128 * i + u)]
  split_ifs
  · rfl
  · rfl

theorem IsH.mixNN (hA : IsH i A a) (hB : IsH i B b) (hO : IsH i O o) : IsH i (mixNN (score A B) O)
    (fun r j => ∑ s ∈ Finset.range 64, (if s ≤ r then ∑ u ∈ Finset.range 128, a r (hb j + u) * b s (hb j + u) else 0) * o s j) := by
  intro r l
  pointwise [Chunk.mixNN, bf64]
  simp only [score_at hA hB, hO _ _, ← EReal.coe_mul, hb_head i l l.isLt]
  exact coe_sum_range 64 fun s => (if s ≤ r.val then ∑ u ∈ Finset.range 128, a r (128 * i + u) * b s (128 * i + u) else 0) * o s (128 * i + l)
theorem IsH.mixTN (hA : IsH i A a) (hB : IsH i B b) (hO : IsH i O o) : IsH i (mixTN (score A B) O)
    (fun r j => ∑ t ∈ Finset.range 64, (if r ≤ t then ∑ u ∈ Finset.range 128, a t (hb j + u) * b r (hb j + u) else 0) * o t j) := by
  intro r l
  pointwise [Chunk.mixTN, bf64]
  simp only [score_at hA hB, hO _ _, ← EReal.coe_mul, hb_head i l l.isLt]
  exact coe_sum_range 64 fun t => (if r.val ≤ t then ∑ u ∈ Finset.range 128, a t (128 * i + u) * b r (128 * i + u) else 0) * o t (128 * i + l)
theorem IsH.stNN (hA : IsH i A a) (hM : IsG i M m) : IsH i (stNN A M) (fun r j => ∑ u ∈ Finset.range 128, a r (hb j + u) * m u j) := by
  intro r l
  pointwise [Chunk.stNN, bf64, bf128]
  simp only [hA _ _, hM _ _, ← EReal.coe_mul, hb_head i l l.isLt]
  exact coe_sum_range 128 fun u => a r (128 * i + u) * m u (128 * i + l)
theorem IsH.stNT (hA : IsH i A a) (hM : IsG i M m) : IsH i (stNT A M) (fun r j => ∑ l ∈ Finset.range 128, a r (hb j + l) * m (j % 128) (hb j + l)) := by
  intro r l
  pointwise [Chunk.stNT, bf64, bf128]
  simp only [hA _ _, hM _ _, ← EReal.coe_mul, hb_head i l l.isLt, show (128 * i + l.val) % 128 = l.val from by omega]
  exact coe_sum_range 128 fun u => a r (128 * i + u) * m l (128 * i + u)
theorem IsG.upTN (hA : IsH i A a) (hB : IsH i B b) : IsG i (upTN A B) (fun u j => ∑ r ∈ Finset.range 64, a r (hb j + u) * b r j) := by
  intro u l
  pointwise [Chunk.upTN, bf64]
  simp only [hA _ _, hB _ _, ← EReal.coe_mul, hb_head i l l.isLt]
  exact coe_sum_range 64 fun r => a r (128 * i + u) * b r (128 * i + l)
end

section
variable {X Y Z : FVec Ideal S64x512 .f32} {S : FVec Ideal S128x512 .f32} {x y z s : ℕ → ℕ → ℝ}

theorem Is.scoresNN (hX : Is X x) (hY : Is Y y) (hZ : Is Z z) : Is (scoresNN X Y Z)
    (fun r j => ∑ s ∈ Finset.range 64, (if s ≤ r then ∑ u ∈ Finset.range 128, x r (hb j + u) * y s (hb j + u) else 0) * z s j) :=
  Is.cat (IsH.mixNN (IsH.h0 hX) (IsH.h0 hY) (IsH.h0 hZ)) (IsH.mixNN (IsH.h1 hX) (IsH.h1 hY) (IsH.h1 hZ))
    (IsH.mixNN (IsH.h2 hX) (IsH.h2 hY) (IsH.h2 hZ)) (IsH.mixNN (IsH.h3 hX) (IsH.h3 hY) (IsH.h3 hZ))
theorem Is.scoresTN (hX : Is X x) (hY : Is Y y) (hZ : Is Z z) : Is (scoresTN X Y Z)
    (fun r j => ∑ t ∈ Finset.range 64, (if r ≤ t then ∑ u ∈ Finset.range 128, x t (hb j + u) * y r (hb j + u) else 0) * z t j) :=
  Is.cat (IsH.mixTN (IsH.h0 hX) (IsH.h0 hY) (IsH.h0 hZ)) (IsH.mixTN (IsH.h1 hX) (IsH.h1 hY) (IsH.h1 hZ))
    (IsH.mixTN (IsH.h2 hX) (IsH.h2 hY) (IsH.h2 hZ)) (IsH.mixTN (IsH.h3 hX) (IsH.h3 hY) (IsH.h3 hZ))
theorem Is.withState (hX : Is X x) (hS : IsSt S s) : Is (withState X S) (fun r j => ∑ u ∈ Finset.range 128, x r (hb j + u) * s u j) :=
  Is.cat (IsH.stNN (IsH.h0 hX) (IsG.g0 hS)) (IsH.stNN (IsH.h1 hX) (IsG.g1 hS)) (IsH.stNN (IsH.h2 hX) (IsG.g2 hS)) (IsH.stNN (IsH.h3 hX) (IsG.g3 hS))
theorem Is.withStateT (hX : Is X x) (hS : IsSt S s) :
    Is (withStateT X S) (fun r j => ∑ l ∈ Finset.range 128, x r (hb j + l) * s (j % 128) (hb j + l)) :=
  Is.cat (IsH.stNT (IsH.h0 hX) (IsG.g0 hS)) (IsH.stNT (IsH.h1 hX) (IsG.g1 hS)) (IsH.stNT (IsH.h2 hX) (IsG.g2 hS)) (IsH.stNT (IsH.h3 hX) (IsG.g3 hS))
theorem IsSt.outer (hX : Is X x) (hY : Is Y y) : IsSt (outer X Y) (fun u j => ∑ r ∈ Finset.range 64, x r (hb j + u) * y r j) :=
  IsSt.cat (IsG.upTN (IsH.h0 hX) (IsH.h0 hY)) (IsG.upTN (IsH.h1 hX) (IsH.h1 hY)) (IsG.upTN (IsH.h2 hX) (IsH.h2 hY)) (IsG.upTN (IsH.h3 hX) (IsH.h3 hY))
end

end Cert.KernelIdeal.Chunk
end
-- ==== Proof.ChunkValue.lean ====
/- A chunk over the reals: what each vector of a chunk holds, of the whole sequence's gradients. -/
module

public import proofs.«01_k».proof.Proof.Denote
public import Mathlib.Analysis.SpecialFunctions.Log.Basic

@[expose] public section

noncomputable section

namespace Cert.Attn

/-- The gate's sigmoid, the gate, the keys and the gates' logarithms, of the lower bound `L` and the pre-activation `p`. -/
def Sg (p : ℕ → ℕ → ℝ) (t j : ℕ) : ℝ := 1 / (1 + Real.exp (0 - p t j))
def Gt (L : ℕ → ℝ) (p : ℕ → ℕ → ℝ) (t j : ℕ) : ℝ := L j + (1 - L j) * Sg p t j
def Ky (L : ℕ → ℝ) (p : ℕ → ℕ → ℝ) (t j : ℕ) : ℝ := 1 - Gt L p t j
def Lg (L : ℕ → ℝ) (p : ℕ → ℕ → ℝ) (t j : ℕ) : ℝ := Real.log (Gt L p t j)

theorem Sg_pos (p : ℕ → ℕ → ℝ) (t j : ℕ) : 0 < Sg p t j := by
  unfold Sg; positivity
theorem Gt_pos {L : ℕ → ℝ} (p : ℕ → ℕ → ℝ) (t j : ℕ) (h0 : 0 < L j) (h1 : L j < 1) : 0 < Gt L p t j := by
  unfold Gt
  have := mul_pos (sub_pos.2 h1) (Sg_pos p t j)
  linarith

/-- The cotangent of the gate, of its pre-activation. -/
def dF (T : ℕ) (L : ℕ → ℝ) (q p v o : ℕ → ℕ → ℝ) (t j : ℕ) : ℝ :=
  (∑ s ∈ Finset.Ico t T, dB T q (Ky L p) (Lg L p) v o s j) / Gt L p t j - dK T q (Lg L p) v o t j
def dP (T : ℕ) (L : ℕ → ℝ) (q p v o : ℕ → ℕ → ℝ) (t j : ℕ) : ℝ :=
  dF T L q p v o t j * (1 - L j) * Sg p t j * (1 - Sg p t j)

end Cert.Attn

namespace Cert.KernelIdeal.Chunk

open Cert.KernelIdeal Cert.KernelIdeal.Gen Cert.Attn Idealize.ShloMosaic Idealize.SL.Sem

section
variable {LB : FVec Ideal S1x512 .f32} {Q FP V O : FVec Ideal S64x512 .f32} {ST DS : FVec Ideal S128x512 .f32}
variable {L : ℕ → ℝ} {q p v o : ℕ → ℕ → ℝ} {n T : ℕ}

/-- The rows from `n` on. -/
def off (n : ℕ) (x : ℕ → ℕ → ℝ) : ℕ → ℕ → ℝ := fun r j => x (n + r) j

variable (hL : IsRow LB L) (hp : Is FP (off n p))
include hp

theorem is_sgm : Is (sgm FP) (off n (Sg p)) :=
  (Is.one.div (Is.one.add (Is.zero.sub hp).exp) fun r j _ _ => by positivity).congr fun _ _ _ _ => rfl
include hL
theorem is_gate : Is (gate LB FP) (off n (Gt L p)) :=
  ((Is.rep hL).add ((Is.rep (IsRow.one.sub hL)).mul (is_sgm hp))).congr fun _ _ _ _ => rfl
theorem is_key : Is (key LB FP) (off n (Ky L p)) := (Is.one.sub (is_gate hL hp)).congr fun _ _ _ _ => rfl

variable (hL0 : ∀ j, j < 512 → 0 < L j) (hL1 : ∀ j, j < 512 → L j < 1)
include hL0 hL1

theorem is_cum : Is (cum LB FP) (Bc (Lg L p) n) :=
  (Is.dotCausal ((is_gate hL hp).log fun r j _ hj => Gt_pos p _ _ (hL0 j hj) (hL1 j hj))).congr fun r j hr _ => by
    rw [Bc_eq, sum_le_ite _ r 64 hr]
    rfl

/-- The running sum at the chunk's middle row. -/
def Md (L : ℕ → ℝ) (p : ℕ → ℕ → ℝ) (n j : ℕ) : ℝ := Bc (Lg L p) n 32 j

theorem is_expQ : Is (expQ (cum LB FP)) (fun r j => Real.exp (Bc (Lg L p) n r j - Md L p n j)) :=
  ((is_cum hL hp hL0 hL1).sub (Is.rep (IsRow.mid (is_cum hL hp hL0 hL1)))).exp
theorem is_expK : Is (expK (cum LB FP)) (fun r j => Real.exp (Md L p n j - Bc (Lg L p) n r j)) :=
  ((Is.rep (IsRow.mid (is_cum hL hp hL0 hL1))).sub (is_cum hL hp hL0 hL1)).exp
theorem is_expS : Is (expS (cum LB FP)) (fun r j => Real.exp (Bc (Lg L p) n 63 j - Bc (Lg L p) n r j)) :=
  ((Is.rep (IsRow.last (is_cum hL hp hL0 hL1))).sub (is_cum hL hp hL0 hL1)).exp
theorem is_dec : IsRow (dec (cum LB FP)) (fun j => Real.exp (Bc (Lg L p) n 63 j)) := (IsRow.last (is_cum hL hp hL0 hL1)).exp

variable (hq : Is Q (off n q)) (hv : Is V (off n v)) (ho : Is O (off n o))
variable (hst : IsSt ST (St (Ky L p) (Lg L p) v n)) (hds : IsSt DS (Ds T q (Lg L p) o (n + 64))) (hT : n + 64 ≤ T)

include hv ho hst in
theorem is_dq : Is (dq LB FP V O ST) (off n (dQ (Ky L p) (Lg L p) v o)) :=
  (((Is.scoresNN ho hv ((is_key hL hp).mul (is_expK hL hp hL0 hL1))).mul (is_expQ hL hp hL0 hL1)).add
    ((Is.withState ho hst).mul (is_cum hL hp hL0 hL1).exp)).congr fun r j hr _ => chunk_dQ (Md L p n) r j hr

include hq hv ho hds hT in
theorem is_dk : Is (dk LB Q FP V O DS) (off n (dK T q (Lg L p) v o)) :=
  (((Is.scoresTN ho hv (hq.mul (is_expQ hL hp hL0 hL1))).mul (is_expK hL hp hL0 hL1)).add
    ((Is.withState hv hds).mul (is_expS hL hp hL0 hL1))).congr fun r j hr _ => chunk_dK (Md L p n) r j hr hT

include hq ho hds hT in
theorem is_dv : Is (dv LB Q FP O DS) (off n (dV T q (Ky L p) (Lg L p) o)) :=
  ((Is.scoresTN (hq.mul (is_expQ hL hp hL0 hL1)) ((is_key hL hp).mul (is_expK hL hp hL0 hL1)) ho).add
    (Is.withStateT ((is_key hL hp).mul (is_expS hL hp hL0 hL1)) hds)).congr fun r j hr _ => chunk_dV (Md L p n) r j hr hT

include hq ho hds hT in
theorem is_back : IsSt (back LB Q FP O DS) (Ds T q (Lg L p) o n) :=
  (((IsSt.rep (is_dec hL hp hL0 hL1)).mul hds).add (IsSt.outer ho (hq.mul (is_cum hL hp hL0 hL1).exp))).congr
    fun u j _ _ => chunk_Ds u j hT

include hq hv ho hst hds hT
theorem is_db : Is (db LB Q FP V O ST DS) (off n (dB T q (Ky L p) (Lg L p) v o)) :=
  ((hq.mul (is_dq hL hp hL0 hL1 hv ho hst)).sub ((is_key hL hp).mul (is_dk hL hp hL0 hL1 hq hv ho hds hT))).congr fun _ _ _ _ => rfl

theorem is_dg : Is (dg LB Q FP V O ST DS) (off n fun t j => ∑ s ∈ Finset.Ico t T, dB T q (Ky L p) (Lg L p) v o s j) :=
  ((Is.dotAnti (is_db hL hp hL0 hL1 hq hv ho hst hds hT)).add (Is.rep
    ((IsRow.sum64 ((Is.withState hv hds).mul ((is_key hL hp).mul (is_expS hL hp hL0 hL1)))).add
      ((IsRow.sum128 (hds.mul hst)).mul (is_dec hL hp hL0 hL1))))).congr fun r j hr _ => chunk_dG r j hr hT

theorem is_df : Is (df LB Q FP V O ST DS) (off n (dF T L q p v o)) :=
  (((is_dg hL hp hL0 hL1 hq hv ho hst hds hT).div (is_gate hL hp) fun r j _ hj => (Gt_pos p _ _ (hL0 j hj) (hL1 j hj)).ne').sub
    (is_dk hL hp hL0 hL1 hq hv ho hds hT)).congr fun _ _ _ _ => rfl

theorem is_dfp : Is (dfp LB Q FP V O ST DS) (off n (dP T L q p v o)) :=
  ((((is_df hL hp hL0 hL1 hq hv ho hst hds hT).mul (Is.rep (IsRow.one.sub hL))).mul (is_sgm hp)).mul (Is.one.sub (is_sgm hp))).congr
    fun _ _ _ _ => rfl

theorem is_dlb : IsRow (dlb LB Q FP V O ST DS) (fun j => ∑ r ∈ Finset.range 64, dF T L q p v o (n + r) j * (1 - Sg p (n + r) j)) :=
  (IsRow.sum64 ((is_df hL hp hL0 hL1 hq hv ho hst hds hT).mul (Is.one.sub (is_sgm hp)))).congr fun _ _ => rfl
end

end Cert.KernelIdeal.Chunk
end
-- ==== Proof.BlockValue.lean ====
/- A block of eight chunks over the reals: what a grid point stores and what it leaves to the next one. -/
module

public import proofs.«01_k».proof.Proof.ChunkValue

@[expose] public section

noncomputable section

namespace Cert.KernelIdeal.Chunk

open Cert.KernelIdeal Cert.KernelIdeal.Gen Cert.Attn Idealize.ShloMosaic Idealize.SL.Sem

/-- The eight chunks' rows under each other. -/
theorem pack_apply {X : Fin 8 → FVec Ideal S64x512 .f32} {x : ℕ → ℕ → ℝ} {N : ℕ} (h : ∀ c : Fin 8, Is (X c) (off (N + 64 * c) x))
    (r : Fin 512) (j : Fin 512) :
    pack (X 0) (X 1) (X 2) (X 3) (X 4) (X 5) (X 6) (X 7) (ix3 0 r j) = ((x (N + r) j : ℝ) : EReal) := by
  have hr := r.isLt
  pointwise [pack]
  have key (c : Fin 8) (s : ℕ) (hs : s < 64) (e : s + 64 * c.val = r.val) : X c (ix2 ⟨s, hs⟩ j) = ((x (N + r) j : ℝ) : EReal) := by
    rw [h c ⟨s, hs⟩ j, off, ← e, Nat.add_assoc, Nat.add_comm s]
  by_cases h0 : r.val < 64
  · rw [dif_pos h0]
    exact key 0 _ h0 (by simp only [Fin.isValue, Fin.coe_ofNat_eq_mod]; omega)
  rw [dif_neg h0]
  by_cases h1 : r.val - 64 < 64
  · rw [dif_pos h1]
    exact key 1 _ h1 (by simp only [Fin.isValue, Fin.coe_ofNat_eq_mod]; omega)
  rw [dif_neg h1]
  by_cases h2 : r.val - 64 - 64 < 64
  · rw [dif_pos h2]
    exact key 2 _ h2 (by simp only [Fin.isValue, Fin.coe_ofNat_eq_mod]; omega)
  rw [dif_neg h2]
  by_cases h3 : r.val - 64 - 64 - 64 < 64
  · rw [dif_pos h3]
    exact key 3 _ h3 (by simp only [Fin.isValue, Fin.coe_ofNat_eq_mod]; omega)
  rw [dif_neg h3]
  by_cases h4 : r.val - 64 - 64 - 64 - 64 < 64
  · rw [dif_pos h4]
    exact key 4 _ h4 (by simp only [Fin.isValue, Fin.coe_ofNat_eq_mod]; omega)
  rw [dif_neg h4]
  by_cases h5 : r.val - 64 - 64 - 64 - 64 - 64 < 64
  · rw [dif_pos h5]
    exact key 5 _ h5 (by simp only [Fin.isValue, Fin.coe_ofNat_eq_mod]; omega)
  rw [dif_neg h5]
  by_cases h6 : r.val - 64 - 64 - 64 - 64 - 64 - 64 < 64
  · rw [dif_pos h6]
    exact key 6 _ h6 (by simp only [Fin.isValue, Fin.coe_ofNat_eq_mod]; omega)
  rw [dif_neg h6]
  exact key 7 _ _ (by simp only [Fin.isValue, Fin.coe_ofNat_eq_mod]; omega)

section
variable (L : ℕ → ℝ) (q p v o : ℕ → ℕ → ℝ) (N T : ℕ)

/-- The part of the lower bound's cotangent of row `t`. -/
def dLt (t j : ℕ) : ℝ := dF T L q p v o t j * (1 - Sg p t j)

/-- The block is that of the rows from `N` on, with the rows from `N + 512` on done. -/
structure Holds (b : Block Ideal) : Prop where
  lb : IsRow b.lb L
  hq : ∀ c, Is (b.q c) (off (N + 64 * c.val) q)
  hf : ∀ c, Is (b.fp c) (off (N + 64 * c.val) p)
  hv : ∀ c, Is (b.v c) (off (N + 64 * c.val) v)
  hd : ∀ c, Is (b.d c) (off (N + 64 * c.val) o)
  hst : ∀ c, IsSt (b.st c) (St (Ky L p) (Lg L p) v (N + 64 * c.val))
  hds : IsSt b.ds (Ds T q (Lg L p) o (N + 512))
  acc : IsRow b.acc (fun j => ∑ t ∈ Finset.Ico (N + 512) T, dLt L q p v o T t j)
  pos : ∀ j, j < 512 → 0 < L j
  lt : ∀ j, j < 512 → L j < 1
  le : N + 512 ≤ T
end

namespace Holds

variable {L : ℕ → ℝ} {q p v o : ℕ → ℕ → ℝ} {N T : ℕ} {b : Block Ideal} (h : Holds L q p v o N T b)
include h

theorem step (c : Fin 8) {ds : FVec Ideal S128x512 .f32} {m : ℕ} (hm : m = N + 64 * c.val + 64)
    (hds : IsSt ds (Ds T q (Lg L p) o m)) : IsSt (b.step c ds) (Ds T q (Lg L p) o (N + 64 * c.val)) := by
  subst hm
  exact is_back h.lb (h.hf c) h.pos h.lt (h.hq c) (h.hd c) hds (by have := h.le; omega)

theorem d7 : IsSt b.d7 (Ds T q (Lg L p) o (N + 512)) := h.hds
theorem d6 : IsSt b.d6 (Ds T q (Lg L p) o (N + 448)) := h.step 7 rfl h.d7
theorem d5 : IsSt b.d5 (Ds T q (Lg L p) o (N + 384)) := h.step 6 rfl h.d6
theorem d4 : IsSt b.d4 (Ds T q (Lg L p) o (N + 320)) := h.step 5 rfl h.d5
theorem d3 : IsSt b.d3 (Ds T q (Lg L p) o (N + 256)) := h.step 4 rfl h.d4
theorem d2 : IsSt b.d2 (Ds T q (Lg L p) o (N + 192)) := h.step 3 rfl h.d3
theorem d1 : IsSt b.d1 (Ds T q (Lg L p) o (N + 128)) := h.step 2 rfl h.d2
theorem d0 : IsSt b.d0 (Ds T q (Lg L p) o (N + 64)) := h.step 1 rfl h.d1
theorem out : IsSt b.out (Ds T q (Lg L p) o N) := h.step 0 rfl h.d0

/-- The cotangent of the state after chunk `c`. -/
theorem ds_at : ∀ c : Fin 8, IsSt ((![b.d0, b.d1, b.d2, b.d3, b.d4, b.d5, b.d6, b.d7] : Fin 8 → _) c) (Ds T q (Lg L p) o (N + 64 * c.val + 64))
  | 0 => h.d0 | 1 => h.d1 | 2 => h.d2 | 3 => h.d3 | 4 => h.d4 | 5 => h.d5 | 6 => h.d6 | 7 => h.d7

theorem oq (c : Fin 8) : Is (b.oq c) (off (N + 64 * c.val) (dQ (Ky L p) (Lg L p) v o)) :=
  is_dq h.lb (h.hf c) h.pos h.lt (h.hv c) (h.hd c) (h.hst c)
theorem ov (c : Fin 8) {ds : FVec Ideal S128x512 .f32} (hds : IsSt ds (Ds T q (Lg L p) o (N + 64 * c.val + 64))) :
    Is (b.ov c ds) (off (N + 64 * c.val) (dV T q (Ky L p) (Lg L p) o)) :=
  is_dv h.lb (h.hf c) h.pos h.lt (h.hq c) (h.hd c) hds (by have := h.le; omega)
theorem ofp (c : Fin 8) {ds : FVec Ideal S128x512 .f32} (hds : IsSt ds (Ds T q (Lg L p) o (N + 64 * c.val + 64))) :
    Is (b.ofp c ds) (off (N + 64 * c.val) (dP T L q p v o)) :=
  is_dfp h.lb (h.hf c) h.pos h.lt (h.hq c) (h.hv c) (h.hd c) (h.hst c) hds (by have := h.le; omega)
theorem olb (c : Fin 8) {ds : FVec Ideal S128x512 .f32} (hds : IsSt ds (Ds T q (Lg L p) o (N + 64 * c.val + 64))) :
    IsRow (b.olb c ds) (fun j => ∑ r ∈ Finset.range 64, dLt L q p v o T (N + 64 * c.val + r) j) :=
  is_dlb h.lb (h.hf c) h.pos h.lt (h.hq c) (h.hv c) (h.hd c) (h.hst c) hds (by have := h.le; omega)

theorem planeQ (r : Fin 512) (j : Fin 512) : b.planeQ (ix3 0 r j) = ((dQ (Ky L p) (Lg L p) v o (N + r) j : ℝ) : EReal) :=
  pack_apply (X := fun c => b.oq c) h.oq r j
theorem planeF (r : Fin 512) (j : Fin 512) : b.planeF (ix3 0 r j) = ((dP T L q p v o (N + r) j : ℝ) : EReal) :=
  pack_apply (X := fun c => b.ofp c ((![b.d0, b.d1, b.d2, b.d3, b.d4, b.d5, b.d6, b.d7] : Fin 8 → _) c)) (fun c => h.ofp c (h.ds_at c)) r j
theorem planeV (r : Fin 512) (j : Fin 512) : b.planeV (ix3 0 r j) = ((dV T q (Ky L p) (Lg L p) o (N + r) j : ℝ) : EReal) :=
  pack_apply (X := fun c => b.ov c ((![b.d0, b.d1, b.d2, b.d3, b.d4, b.d5, b.d6, b.d7] : Fin 8 → _) c)) (fun c => h.ov c (h.ds_at c)) r j

theorem sumLb : IsRow b.sumLb (fun j => ∑ t ∈ Finset.Ico N T, dLt L q p v o T t j) := by
  refine (h.acc.add ((((((((IsRow.zero.add (h.olb 0 h.d0)).add (h.olb 1 h.d1)).add (h.olb 2 h.d2)).add (h.olb 3 h.d3)).add
    (h.olb 4 h.d4)).add (h.olb 5 h.d5)).add (h.olb 6 h.d6)).add (h.olb 7 h.d7))).congr fun j _ => ?_
  rw [← Finset.sum_Ico_consecutive _ (show N ≤ N + 512 by omega) h.le, add_comm]
  congr 1
  have e (c : ℕ) (f : ℕ → ℝ) : (∑ r ∈ Finset.range 64, f (N + c + r)) = ∑ t ∈ Finset.Ico (N + c) (N + c + 64), f t := by
    rw [Finset.sum_Ico_eq_sum_range, Nat.add_sub_cancel_left]
  simp only [e _ fun t => dLt L q p v o T t j]
  have g (a c d : ℕ) (h1 : a ≤ c) (h2 : c ≤ d) := Finset.sum_Ico_consecutive (fun t => dLt L q p v o T t j) h1 h2
  simp only [Fin.isValue, Fin.coe_ofNat_eq_mod, Nat.add_assoc]
  norm_num only
  rw [zero_add, add_zero, g, g, g, g, g, g, g] <;> omega

end Holds
end Cert.KernelIdeal.Chunk
end
-- ==== Proof.Points.lean ====
/- The grid's eight points: what each works on, and what it leaves. -/
module

public import proofs.«01_k».proof.Proof.Bridge
public import proofs.«01_k».proof.Proof.BlockValue
public import proofs.«01_k».proof.Proof.Gen.KernelIdeal.Value
public import Idealize.ShloMosaic.Lib.Pipeline.ValueKit

@[expose] public section

noncomputable section

namespace Cert.KernelIdeal.Chunk

open Cert.KernelIdeal Cert.KernelIdeal.Gen Cert.Attn Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (c : Dev nD)

/-- The block of point `n`, with the two carried values the point before left. -/
def at' (n : ℕ) (hn : n < cfg0.N) (ds : FVec F S128x512 .f32) (acc : FVec F S1x512 .f32) : Block F :=
  blockOf (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) ds acc
def point : (n : ℕ) → n < cfg0.N → Block F
  | 0, hn => at' m c 0 hn zeroState zeroRow
  | n + 1, hn => at' m c (n + 1) hn (point n (Nat.lt_of_succ_lt hn)).out (point n (Nat.lt_of_succ_lt hn)).sumLb

theorem outs (n : ℕ) (hn : n < cfg0.N) : (outsAt0 m c n hn).1 = View.canon (planes (point m c n hn))
    ∧ (outsAt0 m c n hn).2.2.1 = (point m c n hn).out ∧ (outsAt0 m c n hn).2.2.2 = (point m c n hn).sumLb := by
  have hN := lt_of_lt_of_eq hn (show cfg0.N = 8 from N_0)
  induction n with
  | zero =>
    rw [outsAt0_A m c ⟨0, hn⟩ (by rfl) (by simp)]
    dsimp only
    rw [out6_A, state_A, row_A]
    exact ⟨rfl, rfl, rfl⟩
  | succ n ih =>
    obtain ⟨_, e0, e1⟩ := ih (Nat.lt_of_succ_lt hn) (by omega)
    replace e0 : (outsAt0 m c (n + 1 - 1) (Nat.lt_of_le_of_lt (Nat.sub_le _ _) hn)).2.2.1 = (point m c n (Nat.lt_of_succ_lt hn)).out := e0
    replace e1 : (outsAt0 m c (n + 1 - 1) (Nat.lt_of_le_of_lt (Nat.sub_le _ _) hn)).2.2.2 = (point m c n (Nat.lt_of_succ_lt hn)).sumLb := e1
    by_cases h1 : (n + 1) % 8 = 7
    · rw [outsAt0_C m c ⟨n + 1, hn⟩ (by dsimp only; omega) h1]
      dsimp only
      rw [out6_C, state_C, row_C]
      rw [e0, e1]
      exact ⟨rfl, rfl, rfl⟩
    · rw [outsAt0_B m c ⟨n + 1, hn⟩ (by dsimp only; omega) h1]
      dsimp only
      rw [out6_B, state_B, row_B]
      rw [e0, e1]
      exact ⟨rfl, rfl, rfl⟩

theorem outs7 (hn : 7 < cfg0.N) : (outsAt0 m c 7 hn).2.1 = View.canon (logits (iblk m c 5 ⟨7, hn⟩) (point m c 7 hn).sumLb) := by
  obtain ⟨_, e0, e1⟩ := outs m c 6 (Nat.lt_of_succ_lt hn)
  rw [outsAt0_C m c ⟨7, hn⟩ (by simp) (by rfl)]
  dsimp only
  rw [out7_C]
  simp only [Nat.reduceSub]
  rw [e0, e1]
  rfl

/-- Where the windows stand: the points go over the rows from the last block to the first. -/
theorem idx : ∀ t : Fin cfg0.N, win0_0.index t = ![0, 7 - t.val, 0] ∧ win0_1.index t = ![1, 7 - t.val, 0] ∧ win0_2.index t = ![2, 7 - t.val, 0]
    ∧ win0_3.index t = ![7 - t.val, 0] ∧ win0_4.index t = ![7 - t.val, 0, 0] ∧ win0_5.index t = ![0, 0] ∧ win0_6.index t = ![0, 7 - t.val, 0]
    ∧ win0_7.index t = ![0, 0] :=
  (by decide +kernel : ∀ t : Fin grid0.N, win0_0.index t = ![0, 7 - t.val, 0] ∧ win0_1.index t = ![1, 7 - t.val, 0] ∧ win0_2.index t = ![2, 7 - t.val, 0]
    ∧ win0_3.index t = ![7 - t.val, 0] ∧ win0_4.index t = ![7 - t.val, 0, 0] ∧ win0_5.index t = ![0, 0] ∧ win0_6.index t = ![0, 7 - t.val, 0]
    ∧ win0_7.index t = ![0, 0])

theorem lt8 (t : Fin cfg0.N) : t.val < 8 := lt_of_lt_of_eq t.isLt (show cfg0.N = 8 from N_0)

variable (t : Fin cfg0.N)
theorem read0 (r : Fin 512) (j : Fin 512) (k : Fin 4096) (hk : k.val = 512 * (7 - t.val) + r.val) :
    iblk m c 0 t (ix3 0 r j) = m ((c : Thread nD τ).loc main_arg0) (ix3 0 k j) := by
  have ht := lt8 t
  rw [← V_main_arg0 m c]
  blk_ext [iblk, idx t]
theorem read1 (r : Fin 512) (j : Fin 512) (k : Fin 4096) (hk : k.val = 512 * (7 - t.val) + r.val) :
    iblk m c 1 t (ix3 0 r j) = m ((c : Thread nD τ).loc main_arg0) (ix3 1 k j) := by
  have ht := lt8 t
  rw [← V_main_arg0 m c]
  blk_ext [iblk, idx t]
theorem read2 (r : Fin 512) (j : Fin 512) (k : Fin 4096) (hk : k.val = 512 * (7 - t.val) + r.val) :
    iblk m c 2 t (ix3 0 r j) = m ((c : Thread nD τ).loc main_arg0) (ix3 2 k j) := by
  have ht := lt8 t
  rw [← V_main_arg0 m c]
  blk_ext [iblk, idx t]
theorem read3 (r : Fin 512) (j : Fin 512) (k : Fin 4096) (hk : k.val = 512 * (7 - t.val) + r.val) :
    iblk m c 3 t (ix2 r j) = m ((c : Thread nD τ).loc main_arg1) (ix2 k j) := by
  have ht := lt8 t
  rw [← V_main_arg1 m c]
  blk_ext [iblk, idx t]
theorem read4 (s : Fin 8) (u : Fin 128) (j : Fin 512) (k : Fin 64) (hk : k.val = 8 * (7 - t.val) + s.val) :
    iblk m c 4 t (ix3 s u j) = V m c main_v59 (ix3 k u j) := by
  have ht := lt8 t
  blk_ext [iblk, idx t]
theorem read5 (r : Fin 2) (j : Fin 512) : iblk m c 5 t (ix2 r j) = m ((c : Thread nD τ).loc main_arg2) (ix2 r j) := by
  rw [← V_main_arg2 m c]
  blk_ext [iblk, idx t]
end
end Cert.KernelIdeal.Chunk
end
-- ==== Proof.Fold.lean ====
/- The whole sweep over the rows: what the grid's points work on, over the reals. -/
module

public import proofs.«01_k».proof.Proof.Points

@[expose] public section

noncomputable section

namespace Cert.KernelIdeal.Chunk

open Cert.KernelIdeal Cert.KernelIdeal.Gen Cert.Attn Idealize.ShloMosaic Idealize.ShloMosaic.TcCoe Idealize.SL.Sem
open Idealize.ShloMosaic.Pipeline (Dat)

theorem getRows_is (x : Vec Ideal S1x512x512 .f32) (o : ℕ) (inb : ∀ a, (![0, o, 0] : Fin 3 → ℕ) a + S1x64x512.size a ≤ S1x512x512.size a)
    {y : ℕ → ℕ → ℝ} {N : ℕ} (h : ∀ r j : Fin 512, x (ix3 0 r j) = ((y (N + r) j : ℝ) : EReal)) : Is (getRows x ![0, o, 0] inb) (off (N + o) y) := by
  intro r j
  have h1 : o + 64 ≤ 512 := inb 1
  have e : getRows x ![0, o, 0] inb (ix2 r j) = x (ix3 0 ⟨o + r, by omega⟩ j) := by
    unfold getRows rows
    pointwise
  rw [e, h, off]
  simp only [Nat.add_assoc]

theorem getOut_is (x : Vec Ideal S512x512 .f32) (o : ℕ) (inb : ∀ a, (![o, 0] : Fin 2 → ℕ) a + S64x512.size a ≤ S512x512.size a)
    {y : ℕ → ℕ → ℝ} {N : ℕ} (h : ∀ r j : Fin 512, x (ix2 r j) = ((y (N + r) j : ℝ) : EReal)) : Is (getOut x ![o, 0] inb) (off (N + o) y) := by
  intro r j
  have h1 : o + 64 ≤ 512 := inb 0
  have e : getOut x ![o, 0] inb (ix2 r j) = x (ix2 ⟨o + r, by omega⟩ j) := by
    unfold getOut
    refine View.ld_unit_apply_of x _ _ _ _ _ fun a => ?_
    fin_cases a
    · rfl
    · exact (Nat.zero_add _).symm
  rw [e, h, off]
  simp only [Nat.add_assoc]

theorem getState_is (x : Vec Ideal S8x128x512 .f32) (o : ℕ) (inb : ∀ a, (![o, 0, 0] : Fin 3 → ℕ) a + S1x128x512.size a ≤ S8x128x512.size a)
    {y : ℕ → ℕ → ℕ → ℝ} (h : ∀ (s : Fin 8) (u : Fin 128) (j : Fin 512), x (ix3 s u j) = ((y s u j : ℝ) : EReal)) :
    IsSt (getState x ![o, 0, 0] inb) (y o) := by
  intro u j
  have h1 : o + 1 ≤ 8 := inb 0
  have e : getState x ![o, 0, 0] inb (ix2 u j) = x (ix3 ⟨o, by omega⟩ u j) := by
    unfold getState plane
    pointwise
  rw [e, h]

theorem rows8 (x : Vec Ideal S1x512x512 .f32) {y : ℕ → ℕ → ℝ} {N : ℕ} (h : ∀ r j : Fin 512, x (ix3 0 r j) = ((y (N + r) j : ℝ) : EReal)) :
    ∀ c : Fin 8, Is ((![getRows x ![0, 0, 0] inb_S1x512x512_S1x64x512_0_0_0, getRows x ![0, 64, 0] inb_S1x512x512_S1x64x512_0_64_0, getRows x ![0, 128, 0] inb_S1x512x512_S1x64x512_0_128_0, getRows x ![0, 192, 0] inb_S1x512x512_S1x64x512_0_192_0, getRows x ![0, 256, 0] inb_S1x512x512_S1x64x512_0_256_0, getRows x ![0, 320, 0] inb_S1x512x512_S1x64x512_0_320_0, getRows x ![0, 384, 0] inb_S1x512x512_S1x64x512_0_384_0, getRows x ![0, 448, 0] inb_S1x512x512_S1x64x512_0_448_0] : Fin 8 → FVec Ideal S64x512 .f32) c) (off (N + 64 * c.val) y)
  | 0 => getRows_is x 0 _ h
  | 1 => getRows_is x 64 _ h
  | 2 => getRows_is x 128 _ h
  | 3 => getRows_is x 192 _ h
  | 4 => getRows_is x 256 _ h
  | 5 => getRows_is x 320 _ h
  | 6 => getRows_is x 384 _ h
  | 7 => getRows_is x 448 _ h
theorem outs8 (x : Vec Ideal S512x512 .f32) {y : ℕ → ℕ → ℝ} {N : ℕ} (h : ∀ r j : Fin 512, x (ix2 r j) = ((y (N + r) j : ℝ) : EReal)) :
    ∀ c : Fin 8, Is ((![getOut x ![0, 0] inb_S512x512_S64x512_0_0, getOut x ![64, 0] inb_S512x512_S64x512_64_0, getOut x ![128, 0] inb_S512x512_S64x512_128_0, getOut x ![192, 0] inb_S512x512_S64x512_192_0, getOut x ![256, 0] inb_S512x512_S64x512_256_0, getOut x ![320, 0] inb_S512x512_S64x512_320_0, getOut x ![384, 0] inb_S512x512_S64x512_384_0, getOut x ![448, 0] inb_S512x512_S64x512_448_0] : Fin 8 → FVec Ideal S64x512 .f32) c) (off (N + 64 * c.val) y)
  | 0 => getOut_is x 0 _ h
  | 1 => getOut_is x 64 _ h
  | 2 => getOut_is x 128 _ h
  | 3 => getOut_is x 192 _ h
  | 4 => getOut_is x 256 _ h
  | 5 => getOut_is x 320 _ h
  | 6 => getOut_is x 384 _ h
  | 7 => getOut_is x 448 _ h
theorem states8 (x : Vec Ideal S8x128x512 .f32) {y : ℕ → ℕ → ℕ → ℝ} (h : ∀ (s : Fin 8) (u : Fin 128) (j : Fin 512), x (ix3 s u j) = ((y s u j : ℝ) : EReal)) :
    ∀ c : Fin 8, IsSt ((![getState x ![0, 0, 0] inb_S8x128x512_S1x128x512_0_0_0, getState x ![1, 0, 0] inb_S8x128x512_S1x128x512_1_0_0, getState x ![2, 0, 0] inb_S8x128x512_S1x128x512_2_0_0, getState x ![3, 0, 0] inb_S8x128x512_S1x128x512_3_0_0, getState x ![4, 0, 0] inb_S8x128x512_S1x128x512_4_0_0, getState x ![5, 0, 0] inb_S8x128x512_S1x128x512_5_0_0, getState x ![6, 0, 0] inb_S8x128x512_S1x128x512_6_0_0, getState x ![7, 0, 0] inb_S8x128x512_S1x128x512_7_0_0] : Fin 8 → FVec Ideal S128x512 .f32) c) (y c.val)
  | 0 => getState_is x 0 _ h
  | 1 => getState_is x 1 _ h
  | 2 => getState_is x 2 _ h
  | 3 => getState_is x 3 _ h
  | 4 => getState_is x 4 _ h
  | 5 => getState_is x 5 _ h
  | 6 => getState_is x 6 _ h
  | 7 => getState_is x 7 _ h

theorem coe_max (a b : ℝ) : ((max a b : ℝ) : EReal) = max (a : EReal) (b : EReal) := EReal.coe_strictMono.monotone.map_max
theorem max_two (f : Fin 2 → EReal) : Finset.fold max (Ideal.ofBits FTy.f32 4286578688#32) f Finset.univ = max (f 0) (f 1) := by
  rw [show Ideal.ofBits FTy.f32 4286578688#32 = ⊥ from rfl, show (Finset.univ : Finset (Fin 2)) = {0, 1} from rfl]
  simp

/-- The softmax of two logits. -/
def Lo (a b : ℝ) : ℝ := Real.exp (a - max a b) / (Real.exp (a - max a b) + Real.exp (b - max a b))
def Hi (a b : ℝ) : ℝ := Real.exp (b - max a b) / (Real.exp (a - max a b) + Real.exp (b - max a b))
theorem Lo_pos (a b : ℝ) : 0 < Lo a b := by unfold Lo; positivity
theorem Hi_pos (a b : ℝ) : 0 < Hi a b := by unfold Hi; positivity
theorem Lo_add_Hi (a b : ℝ) : Lo a b + Hi a b = 1 := by
  unfold Lo Hi
  rw [← add_div]
  exact div_self (by positivity)
theorem Hi_eq (a b : ℝ) : Hi a b = 1 - Lo a b := by linarith [Lo_add_Hi a b]
theorem Lo_lt (a b : ℝ) : Lo a b < 1 := by linarith [Lo_add_Hi a b, Hi_pos a b]

theorem low_is {l : FVec Ideal S2x512 .f32} {a : ℕ → ℕ → ℝ} (h : ∀ (r : Fin 2) (j : Fin 512), l (ix2 r j) = ((a r j : ℝ) : EReal)) :
    IsRow (low l) (fun j => Lo (a 0 j) (a 1 j)) := by
  intro j
  pointwise [low, soft, expo]
  simp only [max_two, Fin.sum_univ_two, h, Fin.isValue, Fin.val_zero, Fin.val_one]
  rw [← coe_max, ← EReal.coe_sub, ← EReal.coe_sub]
  show Ideal.div ((Real.exp _ : ℝ) : EReal) (((Real.exp _ : ℝ) : EReal) + ((Real.exp _ : ℝ) : EReal)) = _
  rw [← EReal.coe_add, coe_div (by positivity)]
  rfl
theorem high_is {l : FVec Ideal S2x512 .f32} {a : ℕ → ℕ → ℝ} (h : ∀ (r : Fin 2) (j : Fin 512), l (ix2 r j) = ((a r j : ℝ) : EReal)) :
    IsRow (high l) (fun j => Hi (a 0 j) (a 1 j)) := by
  intro j
  pointwise [high, soft, expo]
  simp only [max_two, Fin.sum_univ_two, h, Fin.isValue, Fin.val_zero, Fin.val_one]
  rw [← coe_max, ← EReal.coe_sub, ← EReal.coe_sub]
  show Ideal.div ((Real.exp _ : ℝ) : EReal) (((Real.exp _ : ℝ) : EReal) + ((Real.exp _ : ℝ) : EReal)) = _
  rw [← EReal.coe_add, coe_div (by positivity)]
  rfl

variable (m : (ℓ : Loc nD τ sig) → Buf (Elt Ideal) ℓ) (c : Dev nD) (q p v o l : ℕ → ℕ → ℝ)

/-- The lower bound's row. -/
def Lb (j : ℕ) : ℝ := Lo (l 0 j) (l 1 j)

/-- The arguments hold real numbers, and the states are those of the recurrence. -/
structure Args : Prop where
  q : ∀ (k : Fin 4096) (j : Fin 512), m ((c : Thread nD τ).loc main_arg0) (ix3 0 k j) = ((q k j : ℝ) : EReal)
  p : ∀ (k : Fin 4096) (j : Fin 512), m ((c : Thread nD τ).loc main_arg0) (ix3 1 k j) = ((p k j : ℝ) : EReal)
  v : ∀ (k : Fin 4096) (j : Fin 512), m ((c : Thread nD τ).loc main_arg0) (ix3 2 k j) = ((v k j : ℝ) : EReal)
  o : ∀ (k : Fin 4096) (j : Fin 512), m ((c : Thread nD τ).loc main_arg1) (ix2 k j) = ((o k j : ℝ) : EReal)
  l : ∀ (r : Fin 2) (j : Fin 512), m ((c : Thread nD τ).loc main_arg2) (ix2 r j) = ((l r j : ℝ) : EReal)

def States : Prop := ∀ (k : Fin 64) (u : Fin 128) (j : Fin 512),
  V m c main_v59 (ix3 k u j) = ((St (Ky (Lb l) p) (Lg (Lb l) p) v (64 * k.val) u j : ℝ) : EReal)

variable {m c q p v o l} (A : Args m c q p v o l) (S : States m c p v l)
include A S

theorem holds_at (n : ℕ) (hn : n < cfg0.N) (ds : FVec Ideal S128x512 .f32) (acc : FVec Ideal S1x512 .f32)
    (hds : IsSt ds (Ds 4096 q (Lg (Lb l) p) o (512 * (7 - n) + 512)))
    (hacc : IsRow acc (fun j => ∑ t ∈ Finset.Ico (512 * (7 - n) + 512) 4096, dLt (Lb l) q p v o 4096 t j)) :
    Holds (Lb l) q p v o (512 * (7 - n)) 4096 (at' m c n hn ds acc) := by
  have hN := lt_of_lt_of_eq hn (show cfg0.N = 8 from N_0)
  have hq : ∀ r j : Fin 512, iblk m c 0 ⟨n, hn⟩ (ix3 0 r j) = ((q (512 * (7 - n) + r) j : ℝ) : EReal) := fun r j =>
    (read0 m c ⟨n, hn⟩ r j ⟨512 * (7 - n) + r.val, by omega⟩ rfl).trans (A.q _ _)
  have hp : ∀ r j : Fin 512, iblk m c 1 ⟨n, hn⟩ (ix3 0 r j) = ((p (512 * (7 - n) + r) j : ℝ) : EReal) := fun r j =>
    (read1 m c ⟨n, hn⟩ r j ⟨512 * (7 - n) + r.val, by omega⟩ rfl).trans (A.p _ _)
  have hv : ∀ r j : Fin 512, iblk m c 2 ⟨n, hn⟩ (ix3 0 r j) = ((v (512 * (7 - n) + r) j : ℝ) : EReal) := fun r j =>
    (read2 m c ⟨n, hn⟩ r j ⟨512 * (7 - n) + r.val, by omega⟩ rfl).trans (A.v _ _)
  have ho : ∀ r j : Fin 512, iblk m c 3 ⟨n, hn⟩ (ix2 r j) = ((o (512 * (7 - n) + r) j : ℝ) : EReal) := fun r j =>
    (read3 m c ⟨n, hn⟩ r j ⟨512 * (7 - n) + r.val, by omega⟩ rfl).trans (A.o _ _)
  have hs : ∀ (s : Fin 8) (u : Fin 128) (j : Fin 512), iblk m c 4 ⟨n, hn⟩ (ix3 s u j)
      = ((St (Ky (Lb l) p) (Lg (Lb l) p) v (512 * (7 - n) + 64 * s.val) u j : ℝ) : EReal) := fun s u j =>
    ((read4 m c ⟨n, hn⟩ s u j ⟨8 * (7 - n) + s.val, by omega⟩ rfl).trans (S _ _ _)).trans
      (by rw [show 64 * (8 * (7 - n) + s.val) = 512 * (7 - n) + 64 * s.val by omega])
  exact {
    lb := low_is fun r j => (read5 m c ⟨n, hn⟩ r j).trans (A.l r j)
    hq := rows8 _ hq
    hf := rows8 _ hp
    hv := rows8 _ hv
    hd := outs8 _ ho
    hst := states8 _ (y := fun s => St (Ky (Lb l) p) (Lg (Lb l) p) v (512 * (7 - n) + 64 * s)) hs
    hds := hds
    acc := hacc
    pos := fun j _ => Lo_pos _ _
    lt := fun j _ => Lo_lt _ _
    le := by omega }

theorem holds (n : ℕ) (hn : n < cfg0.N) : Holds (Lb l) q p v o (512 * (7 - n)) 4096 (point m c n hn) := by
  have hN := lt_of_lt_of_eq hn (show cfg0.N = 8 from N_0)
  induction n with
  | zero =>
    refine holds_at A S 0 hn _ _ (fun u j => ?_) fun j => ?_
    · rw [show (512 * (7 - 0) + 512) = 4096 from rfl, Ds, Finset.Ico_self]
      pointwise [zeroState]
      rfl
    · rw [show (512 * (7 - 0) + 512) = 4096 from rfl, Finset.Ico_self]
      pointwise [zeroRow]
      rfl
  | succ n ih =>
    have h := ih (Nat.lt_of_succ_lt hn) (by omega)
    have e : 512 * (7 - n) = 512 * (7 - (n + 1)) + 512 := by omega
    rw [e] at h
    exact holds_at A S (n + 1) hn _ _ h.out h.sumLb

/-- The three planes of the result. -/
def Planes (q p v o l : ℕ → ℕ → ℝ) (i k j : ℕ) : ℝ :=
  if i = 0 then dQ (Ky (Lb l) p) (Lg (Lb l) p) v o k j
  else if i = 1 then dP 4096 (Lb l) q p v o k j
  else dV 4096 q (Ky (Lb l) p) (Lg (Lb l) p) o k j

theorem final6 : (dats m 0 c).arrAt 6 cfg0.N = fun i : S3x4096x512.Idx => ((Planes q p v o l (i 0).val (i 1).val (i 2).val : ℝ) : EReal) := by
  refine (dats m 0 c).arrAt_eq_of_covers 6 _ (by decide +kernel) fun t hf y => ?_
  have ht := lt8 t
  have H := holds A S t.val t.isLt
  blk_simp [idx t]
  rw [after0_6, (outs m c t.val t.isLt).1]
  unfold planes
  canon_tiles x h
  all_goals
    have e : x = ix3 0 (x 1) (x 2) := by blk_ext
    have e0 : (x 0).val = 0 := by omega
    rw [h0, h1, h2, e0, e, Nat.mul_comm]
  · exact H.planeV (x 1) (x 2)
  · exact H.planeF (x 1) (x 2)
  · exact H.planeQ (x 1) (x 2)

/-- The lower bound's cotangent, and the logits'. -/
def dL (q p v o l : ℕ → ℕ → ℝ) (j : ℕ) : ℝ := ∑ t ∈ Finset.Ico 0 4096, dLt (Lb l) q p v o 4096 t j
def Logits (q p v o l : ℕ → ℕ → ℝ) (i j : ℕ) : ℝ :=
  if i = 0 then dL q p v o l j * Lb l j * (1 - Lb l j) else (0 - dL q p v o l j) * Lb l j * Hi (l 0 j) (l 1 j)

theorem final7 : (dats m 0 c).arrAt 7 cfg0.N = fun i : S2x512.Idx => ((Logits q p v o l (i 0).val (i 1).val : ℝ) : EReal) := by
  refine (dats m 0 c).arrAt_eq_of_after_last 7 t0_7 (by decide +kernel) _ fun y => ?_
  have H := (holds A S 7 t0_7.isLt).sumLb
  have h5 : ∀ (r : Fin 2) (j : Fin 512), iblk m c 5 t0_7 (ix2 r j) = ((l r j : ℝ) : EReal) := fun r j => (read5 m c t0_7 r j).trans (A.l r j)
  have hl := low_is h5
  have hh := high_is h5
  rw [after0_7]
  blk_simp [idx t0_7]
  refine (congrFun (outs7 m c t0_7.isLt) y).trans ?_
  unfold logits
  canon_tiles x h
  all_goals
    have e : x = ix2 0 (x 1) := by blk_ext
    have e0 : (x 0).val = 0 := by omega
    rw [h0, h1, e0, e]
  · exact (((IsRow.zero.sub H).mul hl).mul hh) (x 1)
  · exact ((H.mul hl).mul (IsRow.one.sub hl)) (x 1)

end Cert.KernelIdeal.Chunk
end
-- ==== Proof.Cumsum.lean ====
/- Running sums along the rows of a matrix of reals, as the host's windowed sums write them. -/
module

public import proofs.«01_k».proof.Proof.Denote

@[expose] public section

noncomputable section

namespace Cert.Attn

open Cert.KernelIdeal.Chunk Idealize.ShloMosaic Finset

/-- Adding up a list of positions from zero is the sum over them. -/
theorem foldl_sum {n : ℕ} (F : EReal → Fin n → EReal) (g : Fin n → EReal) (hF : ∀ r k, F r k = r + g k) (a : EReal) (ha : a = 0) :
    (List.finRange n).foldl F a = ∑ k, g k := by
  have key : ∀ (l : List (Fin n)) (a : EReal), l.foldl F a = a + (l.map g).sum := by
    intro l
    induction l with
    | nil => intro a; simp
    | cons x l ih => intro a; rw [List.foldl_cons, ih, hF, List.map_cons, List.sum_cons, add_assoc]
  rw [key, ha, zero_add, Fin.sum_univ_def]

/-- A window as high as the matrix and one column wide, with `l` rows of padding above: entry `(t, j)` of the sums is the sum
    of the rows `t - l`, `t - l + 1`, … that the matrix has. -/
theorem window_is {R C l b : ℕ} (x : FVec Ideal ⟨2, ![R, C]⟩ .f32) (f : ℕ → ℕ → ℝ)
    (hx : ∀ (i : Fin R) (j : Fin C), x (ix2 i j) = ((f i.val j.val : ℝ) : EReal)) (init : FVec Ideal ⟨0, ![]⟩ .f32) (h0 : ∀ i, init i = (0 : EReal))
    (h : (⟨2, ![R, C]⟩ : Shape).ReduceWindows (![R, 1] : Fin 2 → ℕ) ![1, 1] ![l, 0] ![b, 0] ⟨2, ![R, C]⟩) (hu : 0 < (⟨0, ![]⟩ : Shape).numel)
    (t : Fin R) (j : Fin C) :
    Host.reduceWindowAdd ![R, 1] ![1, 1] ![l, 0] ![b, 0] x init h hu (ix2 t j)
      = ((∑ n ∈ range R, (if l ≤ t.val + n ∧ t.val + n - l < R then f (t.val + n - l) j.val else 0) : ℝ) : EReal) := by
  show Host.reduceWindow (· + ·) ![R, 1] ![1, 1] ![l, 0] ![b, 0] x (fun _ : (⟨0, ![]⟩ : Shape).Idx => init (Shape.Idx.first hu)) h (by decide) (ix2 t j) = _
  unfold Host.reduceWindow
  refine (foldl_sum _ (fun n => (((if l ≤ t.val + ((⟨2, ![R, 1]⟩ : Shape).rowMajor.symm n 0).val ∧ t.val + ((⟨2, ![R, 1]⟩ : Shape).rowMajor.symm n 0).val - l < R
    then f (t.val + ((⟨2, ![R, 1]⟩ : Shape).rowMajor.symm n 0).val - l) j.val else 0 : ℝ)) : EReal)) (fun r n => ?_) _ (h0 _)).trans ?_
  · dsimp only
    refine congrArg (r + ·) ?_
    have hw : ((⟨2, ![R, 1]⟩ : Shape).rowMajor.symm n 1).val = 0 := Nat.lt_one_iff.1 ((⟨2, ![R, 1]⟩ : Shape).rowMajor.symm n 1).isLt
    split
    · next hin =>
      have h0 := hin 0
      change l ≤ t.val * 1 + ((⟨2, ![R, 1]⟩ : Shape).rowMajor.symm n 0).val ∧ t.val * 1 + ((⟨2, ![R, 1]⟩ : Shape).rowMajor.symm n 0).val - l < R at h0
      rw [Nat.mul_one] at h0
      rw [if_pos h0]
      refine Eq.trans (congrArg x ?_) (hx ⟨t.val + ((⟨2, ![R, 1]⟩ : Shape).rowMajor.symm n 0).val - l, h0.2⟩ j)
      funext a
      refine Fin.ext ?_
      match a with
      | ⟨0, _⟩ =>
        show t.val * 1 + ((⟨2, ![R, 1]⟩ : Shape).rowMajor.symm n 0).val - l = t.val + ((⟨2, ![R, 1]⟩ : Shape).rowMajor.symm n 0).val - l
        omega
      | ⟨1, _⟩ =>
        show j.val * 1 + ((⟨2, ![R, 1]⟩ : Shape).rowMajor.symm n 1).val - 0 = j.val
        omega
    · next hin =>
      rw [if_neg fun hc => hin fun a => ?_, h0]
      · rfl
      · match a with
        | ⟨0, _⟩ =>
          show l ≤ t.val * 1 + ((⟨2, ![R, 1]⟩ : Shape).rowMajor.symm n 0).val ∧ t.val * 1 + ((⟨2, ![R, 1]⟩ : Shape).rowMajor.symm n 0).val - l < R
          omega
        | ⟨1, _⟩ =>
          show 0 ≤ j.val * 1 + ((⟨2, ![R, 1]⟩ : Shape).rowMajor.symm n 1).val ∧ j.val * 1 + ((⟨2, ![R, 1]⟩ : Shape).rowMajor.symm n 1).val - 0 < C
          have := j.isLt
          omega
  · rw [Equiv.sum_comp (⟨2, ![R, 1]⟩ : Shape).rowMajor.symm (fun w => (((if l ≤ t.val + (w 0).val ∧ t.val + (w 0).val - l < R
      then f (t.val + (w 0).val - l) j.val else 0 : ℝ)) : EReal)), sum_idx2, ← coe_sum_range R fun n => _]
    exact Finset.sum_congr rfl fun n _ => Fin.sum_univ_one _

/-- With all but one of the rows as padding above, the sums run from the first row. -/
theorem prefix_is {R C l : ℕ} (hl : l + 1 = R) (x : FVec Ideal ⟨2, ![R, C]⟩ .f32) (f : ℕ → ℕ → ℝ)
    (hx : ∀ (i : Fin R) (j : Fin C), x (ix2 i j) = ((f i.val j.val : ℝ) : EReal)) (init : FVec Ideal ⟨0, ![]⟩ .f32) (h0 : ∀ i, init i = (0 : EReal))
    (h : (⟨2, ![R, C]⟩ : Shape).ReduceWindows (![R, 1] : Fin 2 → ℕ) ![1, 1] ![l, 0] ![0, 0] ⟨2, ![R, C]⟩) (hu : 0 < (⟨0, ![]⟩ : Shape).numel)
    (t : Fin R) (j : Fin C) :
    Host.reduceWindowAdd ![R, 1] ![1, 1] ![l, 0] ![0, 0] x init h hu (ix2 t j) = ((Bs f (t.val + 1) j.val : ℝ) : EReal) := by
  rw [window_is x f hx init h0 h hu t j]
  refine congrArg _ ?_
  have ht := t.isLt
  rw [← Finset.sum_filter]
  unfold Bs
  refine Finset.sum_bij' (fun n _ => t.val + n - l) (fun s _ => s + l - t.val) ?_ ?_ ?_ ?_ ?_ <;> intro n hn <;>
    simp only [Finset.mem_filter, Finset.mem_range] at hn ⊢ <;> omega

/-- With no padding above, the sums run to the last row. -/
theorem suffix_is {R C b : ℕ} (x : FVec Ideal ⟨2, ![R, C]⟩ .f32) (f : ℕ → ℕ → ℝ)
    (hx : ∀ (i : Fin R) (j : Fin C), x (ix2 i j) = ((f i.val j.val : ℝ) : EReal)) (init : FVec Ideal ⟨0, ![]⟩ .f32) (h0 : ∀ i, init i = (0 : EReal))
    (h : (⟨2, ![R, C]⟩ : Shape).ReduceWindows (![R, 1] : Fin 2 → ℕ) ![1, 1] ![0, 0] ![b, 0] ⟨2, ![R, C]⟩) (hu : 0 < (⟨0, ![]⟩ : Shape).numel)
    (t : Fin R) (j : Fin C) :
    Host.reduceWindowAdd ![R, 1] ![1, 1] ![0, 0] ![b, 0] x init h hu (ix2 t j) = ((∑ s ∈ Ico t.val R, f s j.val : ℝ) : EReal) := by
  rw [window_is x f hx init h0 h hu t j]
  refine congrArg _ ?_
  have ht := t.isLt
  rw [← Finset.sum_filter]
  refine Finset.sum_bij' (fun n _ => t.val + n) (fun s _ => s - t.val) ?_ ?_ ?_ ?_ ?_ <;> intro n hn <;>
    simp only [Finset.mem_filter, Finset.mem_range, Finset.mem_Ico] at hn ⊢ <;> try omega
  rw [Nat.sub_zero]

end Cert.Attn
-- ==== Proof.States.lean ====
/- The states that the sweep starts its blocks from: the host's lines before the kernel, over the reals. -/
module

public import proofs.«01_k».proof.Proof.Fold
public import proofs.«01_k».proof.Proof.Cumsum
public import Idealize.ShloMosaic.Lib.StableHlo.ReadAt
public import Idealize.ShloMosaic.Lib.WordCmp
public import Mathlib.Tactic.Ring

@[expose] public section

noncomputable section

namespace Cert.KernelIdeal.Chunk

open Cert.KernelIdeal Cert.KernelIdeal.Gen Cert.Attn Idealize.ShloMosaic Idealize.ShloMosaic.TcCoe Idealize.SL.Sem

/-- The logistic function, spelled with a division. -/
theorem coe_sgm (x : ℝ) : Ideal.div 1 (1 + Ideal.exp (-(x : EReal))) = ((1 / (1 + Real.exp (0 - x)) : ℝ) : EReal) := by
  rw [← EReal.coe_neg]
  show Ideal.div ((1 : ℝ) : EReal) (((1 : ℝ) : EReal) + ((Real.exp _ : ℝ) : EReal)) = _
  rw [← EReal.coe_add, coe_div (by positivity), zero_sub]

theorem max_bot_two (f : Fin 2 → EReal) :
    max (Ideal.ofBits FTy.f32 4286578688#32) (Finset.fold max (Ideal.ofBits FTy.f32 4286578688#32) f Finset.univ) = max (f 0) (f 1) := by
  rw [max_two]
  show max (⊥ : EReal) _ = _
  rw [max_bot_left]

theorem mask_is (n s : ℕ) (hn : n < 64) (hs : s < 4096) : IntOp.cmpi CmpIPredicate.slt (BitVec.ofNat 32 s) (IntOp.muli (64#32) (BitVec.ofNat 32 n))
    = if s < 64 * n then 1#1 else 0#1 := by
  have e : IntOp.muli (64#32) (BitVec.ofNat 32 n) = BitVec.ofNat 32 (64 * n) := (BitVec.ofNat_mul 64 n).symm
  rw [e, WordCmp.cmpi_slt_ofNat (by omega) (by omega)]
  by_cases h : s < 64 * n
  · rw [if_pos h, decide_eq_true h]; rfl
  · rw [if_neg h, decide_eq_false h]; rfl

variable (X : Valuation τ sig (Elt Ideal))

theorem soft_is {l : ℕ → ℕ → ℝ} (hl : ∀ (r : Fin 2) (j : Fin 512), X (Proc.devRef .tc main_arg2) (ix2 r j) = ((l r j : ℝ) : EReal)) (r : Fin 2) (j : Fin 512) :
    StableHlo.after hostOps0 X (Proc.devRef .tc main_v14) (ix2 r j) = (((if r.val = 0 then Lo (l 0 j) (l 1 j) else Hi (l 0 j) (l 1 j) : ℝ)) : EReal) := by
  after_reads_at
  simp only [max_bot_two, Fin.sum_univ_two, hl, Fin.isValue, Fin.val_zero, Fin.val_one]
  rw [← coe_max, ← EReal.coe_sub, ← EReal.coe_sub, ← EReal.coe_sub]
  show Ideal.div ((Real.exp _ : ℝ) : EReal) (((Real.exp _ : ℝ) : EReal) + ((Real.exp _ : ℝ) : EReal)) = _
  rw [← EReal.coe_add, coe_div (by positivity)]
  match r with
  | ⟨0, _⟩ => rfl
  | ⟨1, _⟩ => rfl

theorem plane1_is {p : ℕ → ℕ → ℝ} (h : ∀ (s : Fin 4096) (j : Fin 512), X (Proc.devRef .tc main_arg0) (ix3 1 s j) = ((p s j : ℝ) : EReal)) (s : Fin 4096) (j : Fin 512) :
    StableHlo.after hostOps0 X (Proc.devRef .tc main_v1) (ix2 s j) = ((p s j : ℝ) : EReal) := by
  after_reads_at
  exact h s j
theorem plane2_is {p : ℕ → ℕ → ℝ} (h : ∀ (s : Fin 4096) (j : Fin 512), X (Proc.devRef .tc main_arg0) (ix3 2 s j) = ((p s j : ℝ) : EReal)) (s : Fin 4096) (j : Fin 512) :
    StableHlo.after hostOps0 X (Proc.devRef .tc main_v3) (ix2 s j) = ((p s j : ℝ) : EReal) := by
  after_reads_at
  exact h s j

theorem bound_is {l : ℕ → ℕ → ℝ}
    (h : ∀ (r : Fin 2) (j : Fin 512), X (Proc.devRef .tc main_v14) (ix2 r j) = (((if r.val = 0 then Lo (l 0 j) (l 1 j) else Hi (l 0 j) (l 1 j) : ℝ)) : EReal)) (j : Fin 512) :
    StableHlo.after hostOps0_1 X (Proc.devRef .tc main_v15) (ix2 0 j) = ((Lb l j : ℝ) : EReal) := by
  after_reads_at
  refine (prefix_is rfl _ (fun r j => if r = 0 then Lo (l 0 j) (l 1 j) else Hi (l 0 j) (l 1 j)) h _ (fun i => by pointwise) _ _ 0 j).trans ?_
  unfold Bs Lb
  simp

theorem gate_is {L : ℕ → ℝ} {p : ℕ → ℕ → ℝ} (hL : ∀ j : Fin 512, X (Proc.devRef .tc main_v15) (ix2 0 j) = ((L j : ℝ) : EReal))
    (hp : ∀ (s : Fin 4096) (j : Fin 512), X (Proc.devRef .tc main_v1) (ix2 s j) = ((p s j : ℝ) : EReal)) (s : Fin 4096) (j : Fin 512) :
    StableHlo.after hostOps0_2 X (Proc.devRef .tc main_v31) (ix2 s j) = ((Gt L p s j : ℝ) : EReal) := by
  after_reads_at
  rw [hL, hp, coe_sgm]
  show _ + (((1 : ℝ) : EReal) - _) * _ = _
  rw [← EReal.coe_sub, ← EReal.coe_mul, ← EReal.coe_add]
  rfl
theorem key_is {L : ℕ → ℝ} {p : ℕ → ℕ → ℝ} (hL : ∀ j : Fin 512, X (Proc.devRef .tc main_v15) (ix2 0 j) = ((L j : ℝ) : EReal))
    (hp : ∀ (s : Fin 4096) (j : Fin 512), X (Proc.devRef .tc main_v1) (ix2 s j) = ((p s j : ℝ) : EReal)) (s : Fin 4096) (j : Fin 512) :
    StableHlo.after hostOps0_2 X (Proc.devRef .tc main_v33) (ix2 s j) = ((Ky L p s j : ℝ) : EReal) := by
  after_reads_at
  rw [hL, hp, coe_sgm]
  show ((1 : ℝ) : EReal) - (_ + (((1 : ℝ) : EReal) - _) * _) = _
  rw [← EReal.coe_sub, ← EReal.coe_mul, ← EReal.coe_add, ← EReal.coe_sub]
  rfl
theorem loggate_is {L : ℕ → ℝ} {p : ℕ → ℕ → ℝ} (hL : ∀ j : Fin 512, X (Proc.devRef .tc main_v15) (ix2 0 j) = ((L j : ℝ) : EReal))
    (h0 : ∀ j : Fin 512, 0 < L j) (h1 : ∀ j : Fin 512, L j < 1)
    (hp : ∀ (s : Fin 4096) (j : Fin 512), X (Proc.devRef .tc main_v1) (ix2 s j) = ((p s j : ℝ) : EReal)) (s : Fin 4096) (j : Fin 512) :
    StableHlo.after hostOps0_2 X (Proc.devRef .tc main_v34) (ix2 s j) = ((Lg L p s j : ℝ) : EReal) := by
  after_reads_at
  rw [hL, hp, coe_sgm]
  show Ideal.log (_ + (((1 : ℝ) : EReal) - _) * _) = _
  rw [← EReal.coe_sub, ← EReal.coe_mul, ← EReal.coe_add]
  exact coe_log (Gt_pos p s j (h0 j) (h1 j))

theorem logsum_is {g : ℕ → ℕ → ℝ} (h : ∀ (s : Fin 4096) (j : Fin 512), X (Proc.devRef .tc main_v34) (ix2 s j) = ((g s j : ℝ) : EReal)) (s : Fin 4096) (j : Fin 512) :
    StableHlo.after hostOps0_3 X (Proc.devRef .tc main_v35) (ix2 s j) = ((Bs g (s.val + 1) j : ℝ) : EReal) := by
  after_reads_at
  exact prefix_is rfl _ g h _ (fun i => by pointwise) _ _ s j

/-- The sum up to each block of 64 rows. -/
theorem start_is {g : ℕ → ℕ → ℝ} (h : ∀ (s : Fin 4096) (j : Fin 512), X (Proc.devRef .tc main_v35) (ix2 s j) = ((Bs g (s.val + 1) j : ℝ) : EReal)) (n : Fin 64) (j : Fin 512) :
    StableHlo.after hostOps0_4 X (Proc.devRef .tc main_v43) (ix2 n j) = ((Bs g (64 * n.val) j : ℝ) : EReal) := by
  after_reads_at
  by_cases hn : n.val < 1
  · rw [dif_pos hn, show n.val = 0 by omega]
    unfold Bs
    simp
  · rw [dif_neg hn, h, show (63 + 64 * (n.val - 1)) + 1 = 64 * n.val by omega]

/-- What is left of a row's key at the start of block `n`, for the rows before it. -/
theorem decay_is {k g : ℕ → ℕ → ℝ} (hk : ∀ (s : Fin 4096) (j : Fin 512), X (Proc.devRef .tc main_v33) (ix2 s j) = ((k s j : ℝ) : EReal))
    (h : ∀ (s : Fin 4096) (j : Fin 512), X (Proc.devRef .tc main_v35) (ix2 s j) = ((Bs g (s.val + 1) j : ℝ) : EReal)) (n : Fin 64) (s : Fin 4096) (j : Fin 512) :
    StableHlo.after hostOps0_5 (StableHlo.after hostOps0_4 X) (Proc.devRef .tc main_v54) (ix3 n s j)
      = (((if s.val < 64 * n.val then k s j * Real.exp (Bs g (64 * n.val) j - Bs g (s.val + 1) j) else 0 : ℝ)) : EReal) := by
  after_reads_at
  rw [mask_is n s n.isLt s.isLt]
  by_cases hc : s.val < 64 * n.val
  · rw [if_pos hc, if_pos hc, hk, h]
    have e := start_is X h n j
    revert e
    by_cases hn : n.val < 1
    · rw [dif_pos hn]
      after_reads_at
      rw [dif_pos hn]
      intro e
      rw [e, ← EReal.coe_sub]
      exact (EReal.coe_mul _ _).symm
    · rw [dif_neg hn]
      after_reads_at
      rw [dif_neg hn]
      intro e
      rw [e, ← EReal.coe_sub]
      exact (EReal.coe_mul _ _).symm
  · rw [if_neg hc, if_neg hc]
    show (constant (F := Ideal) S_ FTy.f32 0#32) ix0 = ((0 : ℝ) : EReal)
    pointwise
    rfl

/-- A sum over the rows of products of reals. -/
theorem sum_pair (f : Fin 4096 → EReal) (a b : ℕ → ℝ) (h : ∀ s, f s = ((a s * b s : ℝ) : EReal)) : (∑ s, f s) = ((∑ s ∈ Finset.range 4096, a s * b s : ℝ) : EReal) :=
  (Finset.sum_congr rfl fun s _ => h s).trans (coe_sum_range 4096 fun s => a s * b s)

/-- Each block's state from the decayed keys and the values. -/
theorem product_is {d : ℕ → ℕ → ℕ → ℝ} {v : ℕ → ℕ → ℝ} (hv : ∀ (s : Fin 4096) (j : Fin 512), X (Proc.devRef .tc main_v3) (ix2 s j) = ((v s j : ℝ) : EReal))
    (hd : ∀ (n : Fin 64) (s : Fin 4096) (j : Fin 512), X (Proc.devRef .tc main_v54) (ix3 n s j) = ((d n s j : ℝ) : EReal)) (n : Fin 64) (u : Fin 128) (j : Fin 512) :
    StableHlo.after hostOps0_6 X (Proc.devRef .tc main_v59) (ix3 n u j) = ((∑ s ∈ Finset.range 4096, v s (hb j + u) * d n s j : ℝ) : EReal) := by
  after_reads_at
  refine sum_pair _ (fun s => v s (hb j + u)) (fun s => d n s j) fun s => ?_
  refine (congrArg₂ (fun a b : EReal => a * b) (hv s _) (hd n s _)).trans ?_
  dsimp only
  rw [← EReal.coe_mul]
  unfold hb
  simp only [Nat.mul_comm 128, Nat.div_add_mod']

/-- Across the lines: what each one finds of the lines before it. -/
theorem states_is {m : (ℓ : Loc nD τ sig) → Buf (Elt Ideal) ℓ} {c : Dev nD} {q p v o l : ℕ → ℕ → ℝ} (A : Args m c q p v o l) : States m c p v l := by
  intro n u j
  show StableHlo.after (List.flatten [hostOps0, hostOps0_1, hostOps0_2, hostOps0_3, hostOps0_4, hostOps0_5, hostOps0_6]) (fun b => m (c, b)) (Proc.devRef .tc main_v59) (ix3 n u j) = _
  simp only [List.flatten_cons, List.flatten_nil, List.append_nil, StableHlo.after_append]
  generalize hX : (fun b => m (c, b) : Valuation τ sig (Elt Ideal)) = X
  have hl : ∀ (r : Fin 2) (j : Fin 512), X (Proc.devRef .tc main_arg2) (ix2 r j) = ((l r j : ℝ) : EReal) := fun r j => hX ▸ A.l r j
  have hp : ∀ (s : Fin 4096) (j : Fin 512), X (Proc.devRef .tc main_arg0) (ix3 1 s j) = ((p s j : ℝ) : EReal) := fun s j => hX ▸ A.p s j
  have hv : ∀ (s : Fin 4096) (j : Fin 512), X (Proc.devRef .tc main_arg0) (ix3 2 s j) = ((v s j : ℝ) : EReal) := fun s j => hX ▸ A.v s j
  clear hX A
  have s14 := soft_is X hl
  have s1 := plane1_is X hp
  have s3 := plane2_is X hv
  clear hl hp hv
  generalize StableHlo.after hostOps0 X = X1 at *
  have t15 := bound_is X1 s14
  have t1 : ∀ (s : Fin 4096) (j : Fin 512), StableHlo.after hostOps0_1 X1 (Proc.devRef .tc main_v1) (ix2 s j) = ((p s j : ℝ) : EReal) := by
    intro s j; after_reads_simp; exact s1 s j
  have t3 : ∀ (s : Fin 4096) (j : Fin 512), StableHlo.after hostOps0_1 X1 (Proc.devRef .tc main_v3) (ix2 s j) = ((v s j : ℝ) : EReal) := by
    intro s j; after_reads_simp; exact s3 s j
  clear s14 s1 s3
  generalize StableHlo.after hostOps0_1 X1 = X2 at *
  have u33 := key_is X2 t15 t1
  have u34 := loggate_is X2 t15 (fun j => Lo_pos _ _) (fun j => Lo_lt _ _) t1
  have u3 : ∀ (s : Fin 4096) (j : Fin 512), StableHlo.after hostOps0_2 X2 (Proc.devRef .tc main_v3) (ix2 s j) = ((v s j : ℝ) : EReal) := by
    intro s j; after_reads_simp; exact t3 s j
  clear t15 t1 t3
  generalize StableHlo.after hostOps0_2 X2 = X3 at *
  have w35 := logsum_is X3 u34
  have w33 : ∀ (s : Fin 4096) (j : Fin 512), StableHlo.after hostOps0_3 X3 (Proc.devRef .tc main_v33) (ix2 s j) = ((Ky (Lb l) p s j : ℝ) : EReal) := by
    intro s j; after_reads_simp; exact u33 s j
  have w3 : ∀ (s : Fin 4096) (j : Fin 512), StableHlo.after hostOps0_3 X3 (Proc.devRef .tc main_v3) (ix2 s j) = ((v s j : ℝ) : EReal) := by
    intro s j; after_reads_simp; exact u3 s j
  clear u33 u34 u3
  generalize StableHlo.after hostOps0_3 X3 = X4 at *
  have y54 := decay_is X4 w33 w35
  have y3 : ∀ (s : Fin 4096) (j : Fin 512), StableHlo.after hostOps0_5 (StableHlo.after hostOps0_4 X4) (Proc.devRef .tc main_v3) (ix2 s j) = ((v s j : ℝ) : EReal) := by
    intro s j; after_reads_simp; exact w3 s j
  refine (product_is _ (d := fun n s j => if s < 64 * n then Ky (Lb l) p s j * Real.exp (Bs (Lg (Lb l) p) (64 * n) j - Bs (Lg (Lb l) p) (s + 1) j) else 0) y3 y54 n u j).trans ?_
  refine congrArg _ ?_
  unfold St
  have hn := n.isLt
  rw [← Finset.sum_subset (s₁ := Finset.range (64 * n.val)) (fun x hx => by rw [Finset.mem_range] at *; omega)
    (fun x _ hx => by rw [Finset.mem_range] at hx; rw [if_neg hx, mul_zero])]
  refine Finset.sum_congr rfl fun s hs => ?_
  rw [Finset.mem_range] at hs
  rw [if_pos hs]
  ring

end Cert.KernelIdeal.Chunk
-- ==== Proof.Scores.lean ====
/- The reference's recurrence and its cotangents, over the reals: first the gates, the decays and the scores. -/
module

public import proofs.«01_k».proof.Proof.States
public import proofs.«01_k».proof.Proof.Gen.ReferenceIdeal.Read

@[expose] public section

noncomputable section

namespace Cert.ReferenceIdeal.Values

open Cert.ReferenceIdeal Cert.ReferenceIdeal.Gen Cert.ReferenceIdeal.Read Cert.Attn Idealize.ShloMosaic Idealize.ShloMosaic.TcCoe Idealize.SL.Sem
open Cert.KernelIdeal.Chunk (coe_sum_range coe_div coe_log coe_sgm coe_max max_bot_two Lb Lo Hi Lo_pos Lo_lt)

/-! ### Sums over the rows -/

theorem sum_is {n : ℕ} (f : Fin n → EReal) (g : ℕ → ℝ) (h : ∀ s, f s = ((g s : ℝ) : EReal)) : (∑ s, f s) = ((∑ s ∈ Finset.range n, g s : ℝ) : EReal) :=
  (Finset.sum_congr rfl fun s _ => h s).trans (coe_sum_range n g)

theorem sum_le {n t : ℕ} (ht : t < n) (f : ℕ → ℝ) : (∑ s ∈ Finset.range n, if s ≤ t then f s else 0) = ∑ s ∈ Finset.range (t + 1), f s := by
  rw [← Finset.sum_filter]
  refine Finset.sum_congr (Finset.ext fun s => ?_) fun _ _ => rfl
  rw [Finset.mem_filter, Finset.mem_range, Finset.mem_range]
  omega
theorem sum_ge {n s : ℕ} (f : ℕ → ℝ) : (∑ t ∈ Finset.range n, if s ≤ t then f t else 0) = ∑ t ∈ Finset.Ico s n, f t := by
  rw [← Finset.sum_filter]
  refine Finset.sum_congr (Finset.ext fun t => ?_) fun _ _ => rfl
  rw [Finset.mem_filter, Finset.mem_range, Finset.mem_Ico]
  omega

theorem hb_col (h d : ℕ) (hd : d < 128) : hb (h * 128 + d) = h * 128 := by
  unfold hb; omega
theorem hb_head (h : ℕ) : hb (h * 128) = h * 128 := by
  unfold hb; omega
theorem hb_of {j j' : ℕ} (e : hb j = hb j') (q k g : ℕ → ℕ → ℝ) (t s : ℕ) : A q k g t s j = A q k g t s j' := by
  unfold A; rw [e]
theorem P_of {j j' : ℕ} (e : hb j = hb j') (o v : ℕ → ℕ → ℝ) (t s : ℕ) : P o v t s j = P o v t s j' := by
  unfold P; rw [e]

/-! ### The arguments -/

variable (x0 : (⟨S4x4096x512, .f32⟩ : BufTy).Contents (Elt Ideal)) (x1 : (⟨S4096x512, .f32⟩ : BufTy).Contents (Elt Ideal)) (x2 : (⟨S2x512, .f32⟩ : BufTy).Contents (Elt Ideal))
  (q p v o l : ℕ → ℕ → ℝ)

/-- The arguments hold real numbers. -/
structure Reals : Prop where
  q : ∀ (k : Fin 4096) (j : Fin 512), x0 (ix3 0 k j) = ((q k j : ℝ) : EReal)
  p : ∀ (k : Fin 4096) (j : Fin 512), x0 (ix3 1 k j) = ((p k j : ℝ) : EReal)
  v : ∀ (k : Fin 4096) (j : Fin 512), x0 (ix3 2 k j) = ((v k j : ℝ) : EReal)
  o : ∀ (k : Fin 4096) (j : Fin 512), x1 (ix2 k j) = ((o k j : ℝ) : EReal)
  l : ∀ (r : Fin 2) (j : Fin 512), x2 (ix2 r j) = ((l r j : ℝ) : EReal)

/-- The two exponentials of the softmax, and their sum. -/
def Ex (l : ℕ → ℕ → ℝ) (r j : ℕ) : ℝ := Real.exp (l r j - max (l 0 j) (l 1 j))
def Tot (l : ℕ → ℕ → ℝ) (j : ℕ) : ℝ := Ex l 0 j + Ex l 1 j
theorem Tot_pos (l : ℕ → ℕ → ℝ) (j : ℕ) : 0 < Tot l j := by
  unfold Tot Ex; positivity

variable {x0 x1 x2 q p v o l} (H : Reals x0 x1 x2 q p v o l)
include H

/-! ### The gate -/

theorem e_is (r : Fin 2) (j : Fin 512) : val_main_v26 (F := Ideal) x2 (ix2 r j) = ((Ex l r j : ℝ) : EReal) := by
  pointwise [val_main_v26, val_main_v25, val_main_v24, val_main_v23, val_main_v13, val_main_v12, val_main_v6, val_main_cst, val_main_cst_1]
  simp only [max_bot_two, H.l, Fin.isValue, Fin.val_zero, Fin.val_one]
  rw [← coe_max, ← EReal.coe_sub]
  rfl
theorem tot_is (r : Fin 1) (j : Fin 512) : val_main_v28 (F := Ideal) x2 (ix2 r j) = ((Tot l j : ℝ) : EReal) := by
  pointwise [val_main_v28, val_main_v27, val_main_cst_7]
  rw [Fin.sum_univ_two, e_is H, e_is H, ← EReal.coe_add]
  rfl
theorem soft_is (r : Fin 2) (j : Fin 512) : val_main_v30 (F := Ideal) x2 (ix2 r j) = ((Ex l r j / Tot l j : ℝ) : EReal) := by
  pointwise [val_main_v30, val_main_v29]
  rw [e_is H, tot_is H, coe_div (Tot_pos l j).ne']
theorem lb_is (j : Fin 512) : val_main_v34 (F := Ideal) x2 (ix2 0 j) = ((Lb l j : ℝ) : EReal) := by
  unfold val_main_v34
  refine (prefix_is rfl _ (fun r j => Ex l r j / Tot l j) (soft_is H) _ (fun i => by pointwise [val_main_call0_call0_v0, val_main_call0_call0_cst]) _ _ 0 j).trans ?_
  refine congrArg _ ?_
  unfold Bs
  rw [Fin.val_zero, Finset.sum_range_one]
  rfl
theorem sg_is (s : Fin 4096) (j : Fin 512) : val_main_v44 (F := Ideal) x0 (ix2 s j) = ((Sg p s j : ℝ) : EReal) := by
  pointwise [val_main_v44, val_main_v43, val_main_cst_11, val_main_v42, val_main_v41, val_main_cst_10, val_main_v40, val_main_v39, val_main_v3, val_main_v2]
  rw [H.p, coe_sgm]
  rfl
theorem gt_is (s : Fin 4096) (j : Fin 512) : val_main_v53 (F := Ideal) x0 x2 (ix2 s j) = ((Gt (Lb l) p s j : ℝ) : EReal) := by
  pointwise [val_main_v53, val_main_v52, val_main_v51, val_main_v50, val_main_v49, val_main_v48, val_main_v38, val_main_v37, val_main_cst_9, val_main_v36, val_main_v35]
  rw [lb_is H, sg_is H]
  show _ + (((1 : ℝ) : EReal) - _) * _ = _
  rw [← EReal.coe_sub, ← EReal.coe_mul, ← EReal.coe_add]
  rfl
theorem ky_is (s : Fin 4096) (j : Fin 512) : val_main_v55 (F := Ideal) x0 x2 (ix2 s j) = ((Ky (Lb l) p s j : ℝ) : EReal) := by
  pointwise [val_main_v55, val_main_v54, val_main_cst_13]
  rw [gt_is H]
  show ((1 : ℝ) : EReal) - _ = _
  rw [← EReal.coe_sub]
  rfl
theorem lg_is (s : Fin 4096) (j : Fin 512) : val_main_v56 (F := Ideal) x0 x2 (ix2 s j) = ((Lg (Lb l) p s j : ℝ) : EReal) := by
  pointwise [val_main_v56]
  rw [gt_is H]
  exact coe_log (Gt_pos p s j (Lo_pos _ _) (Lo_lt _ _))
theorem bs_is (s : Fin 4096) (j : Fin 512) : val_main_v57 (F := Ideal) x0 x2 (ix2 s j) = ((Bs (Lg (Lb l) p) (s.val + 1) j : ℝ) : EReal) := by
  unfold val_main_v57
  exact prefix_is rfl _ (Lg (Lb l) p) (lg_is H) _ (fun i => by pointwise [val_main_call1_call0_v0, val_main_call1_call0_cst]) _ _ s j

/-! ### The decays and the scores -/

omit H in
theorem causal_is (t s : Fin 4096) (h : Fin 4) (d : Fin 128) : val_main_v70_1 (F := Ideal) (ix4 t s h d) = if s.val ≤ t.val then 1#1 else 0#1 := by
  pointwise [val_main_v70_1, val_main_v64, val_main_v63, val_main_call2_v4, val_main_call2_v0, val_main_call2_v1, val_main_call2_c, val_main_call2_v2, val_main_call2_v3,
    val_main_v62, val_main_c, val_main_call2_v5, val_main_call2_c_0]
  have ht := t.isLt
  have hs := s.isLt
  rw [show IntOp.addi (BitVec.ofNat 32 t.val) 0#32 = BitVec.ofNat 32 t.val from BitVec.add_zero _, WordCmp.cmpi_sge_ofNat (by omega) (by omega)]
  by_cases h : s.val ≤ t.val
  · rw [if_pos h, decide_eq_true h]; rfl
  · rw [if_neg h, decide_eq_false h]; rfl

theorem w_is (t s : Fin 4096) (h : Fin 4) (d : Fin 128) :
    val_main_v71 (F := Ideal) x0 x2 (ix4 t s h d) = (((if s.val ≤ t.val then W (Lg (Lb l) p) t s (h.val * 128 + d.val) else 0 : ℝ)) : EReal) := by
  have e := causal_is t s h d
  pointwise [val_main_v71, val_main_v70_0, val_main_v69, val_main_v68, val_main_v67, val_main_v66, val_main_v65, val_main_v61, val_main_call3_v2, val_main_cst_14]
  rw [e]
  by_cases hc : s.val ≤ t.val
  · rw [if_pos hc, if_pos hc, bs_is H, bs_is H]
    show Ideal.exp (_ - _) = _
    rw [← EReal.coe_sub]
    rfl
  · rw [if_neg hc, if_neg hc]
    rfl
theorem qk_is (t s : Fin 4096) (h : Fin 4) (d : Fin 128) :
    val_main_v76 (F := Ideal) x0 x2 (ix4 t s h d) = ((q t (h.val * 128 + d.val) * Ky (Lb l) p s (h.val * 128 + d.val) : ℝ) : EReal) := by
  pointwise [val_main_v76, val_main_v75, val_main_v74, val_main_v73, val_main_v72, val_main_v59, val_main_v58, val_main_v1, val_main_v0]
  rw [H.q, ky_is H, ← EReal.coe_mul]
theorem score_is (t s : Fin 4096) (h : Fin 4) :
    val_main_v78 (F := Ideal) x0 x2 (ix3 t s h) = (((if s.val ≤ t.val then A q (Ky (Lb l) p) (Lg (Lb l) p) t s (h.val * 128) else 0 : ℝ)) : EReal) := by
  pointwise [val_main_v78, val_main_v77, val_main_cst_15]
  refine (sum_is _ (fun d => if s.val ≤ t.val then q t (h.val * 128 + d) * Ky (Lb l) p s (h.val * 128 + d) * W (Lg (Lb l) p) t s (h.val * 128 + d) else 0) fun d => ?_).trans ?_
  · rw [qk_is H, w_is H, ← EReal.coe_mul, mul_ite, mul_zero]
  · refine congrArg _ ?_
    by_cases hc : s.val ≤ t.val
    · simp only [if_pos hc]
      unfold A
      rw [hb_head]
    · simp only [if_neg hc, Finset.sum_const_zero]

/-! ### The cotangents of the scores, the queries, the keys and the values -/

theorem p_is (t s : Fin 4096) (h : Fin 4) (d : Fin 128) : val_main_v88 (F := Ideal) x0 x1 (ix4 t s h d) = ((P o v t s (h.val * 128) : ℝ) : EReal) := by
  pointwise [val_main_v88, val_main_v85, val_main_v84, val_main_v83, val_main_v82, val_main_v60, val_main_v5, val_main_v4]
  refine (sum_is _ (fun u => o t (h.val * 128 + u) * v s (h.val * 128 + u)) fun u => ?_).trans ?_
  · rw [H.o, H.v, ← EReal.coe_mul]
  · unfold P
    rw [hb_head]
theorem pw_is (t s : Fin 4096) (h : Fin 4) (d : Fin 128) : val_main_v90 (F := Ideal) x0 x1 x2 (ix4 t s h d)
    = (((if s.val ≤ t.val then P o v t s (h.val * 128 + d.val) * W (Lg (Lb l) p) t s (h.val * 128 + d.val) else 0 : ℝ)) : EReal) := by
  pointwise [val_main_v90]
  rw [p_is H, w_is H, ← EReal.coe_mul, mul_ite, mul_zero, P_of ((hb_col h.val d.val d.isLt).trans (hb_head h.val).symm)]

theorem dq_is (t : Fin 4096) (h : Fin 4) (d : Fin 128) :
    val_main_v100 (F := Ideal) x0 x1 x2 (ix3 t h d) = ((dQ (Ky (Lb l) p) (Lg (Lb l) p) v o t (h.val * 128 + d.val) : ℝ) : EReal) := by
  pointwise [val_main_v100, val_main_v98, val_main_v97, val_main_v96, val_main_v95, val_main_v73, val_main_v59, val_main_cst_17, val_main_cst_19]
  simp only [Fin.sum_univ_one]
  refine (sum_is _ (fun s => if s ≤ t.val then P o v t s (h.val * 128 + d.val) * (Ky (Lb l) p s (h.val * 128 + d.val) * W (Lg (Lb l) p) t s (h.val * 128 + d.val)) else 0) fun s => ?_).trans ?_
  · rw [pw_is H, ky_is H, ← EReal.coe_mul, ite_mul, zero_mul]
    refine congrArg _ (if_congr Iff.rfl ?_ rfl)
    show _ * Ky (Lb l) p s (h.val * 128 + d.val) = _
    ring
  · rw [sum_le t.isLt]
    rfl
theorem dk_is (s : Fin 4096) (h : Fin 4) (d : Fin 128) :
    val_main_v99 (F := Ideal) x0 x1 x2 (ix3 s h d) = ((dK 4096 q (Lg (Lb l) p) v o s (h.val * 128 + d.val) : ℝ) : EReal) := by
  pointwise [val_main_v99, val_main_v94, val_main_v93, val_main_v92, val_main_v91, val_main_v72, val_main_v58, val_main_v1, val_main_v0, val_main_cst_16, val_main_cst_18]
  simp only [Fin.sum_univ_one]
  refine (sum_is _ (fun t => if s.val ≤ t then P o v t s (h.val * 128 + d.val) * (q t (h.val * 128 + d.val) * W (Lg (Lb l) p) t s (h.val * 128 + d.val)) else 0) fun t => ?_).trans ?_
  · rw [pw_is H, H.q, ← EReal.coe_mul, mul_ite, mul_zero]
    refine congrArg _ (if_congr Iff.rfl ?_ rfl)
    show q t (h.val * 128 + d.val) * _ = _
    ring
  · rw [sum_ge]
    rfl
theorem dv_is (s : Fin 4096) (h : Fin 4) (d : Fin 128) :
    val_main_v87 (F := Ideal) x0 x1 x2 (ix3 s h d) = ((dV 4096 q (Ky (Lb l) p) (Lg (Lb l) p) o s (h.val * 128 + d.val) : ℝ) : EReal) := by
  pointwise [val_main_v87, val_main_v86, val_main_v83, val_main_v82]
  refine (sum_is _ (fun t => if s.val ≤ t then A q (Ky (Lb l) p) (Lg (Lb l) p) t s (h.val * 128 + d.val) * o t (h.val * 128 + d.val) else 0) fun t => ?_).trans ?_
  · rw [score_is H, H.o, ← EReal.coe_mul, mul_ite, mul_zero]
    refine congrArg _ (if_congr Iff.rfl ?_ rfl)
    show o t (h.val * 128 + d.val) * _ = _
    rw [mul_comm, hb_of ((hb_col h.val d.val d.isLt).trans (hb_head h.val).symm)]
  · rw [sum_ge]
    rfl

/-- The cotangent of the difference of running sums between row `t` and row `s`. -/
theorem diff_is (t s : Fin 4096) (h : Fin 4) (d : Fin 128) : val_main_v102 (F := Ideal) x0 x1 x2 (ix4 t s h d)
    = (((if s.val ≤ t.val then q t (h.val * 128 + d.val) * Ky (Lb l) p s (h.val * 128 + d.val) * P o v t s (h.val * 128 + d.val) * W (Lg (Lb l) p) t s (h.val * 128 + d.val) else 0 : ℝ)) : EReal) := by
  have e := causal_is t s h d
  pointwise [val_main_v102, val_main_v101, val_main_v89, val_main_v70_2, val_main_call4_v0, val_main_call4_cst]
  rw [e, p_is H, w_is H, qk_is H]
  by_cases hc : s.val ≤ t.val
  · rw [if_pos hc, if_pos hc, if_pos hc, ← EReal.coe_mul, ← EReal.coe_mul, P_of ((hb_col h.val d.val d.isLt).trans (hb_head h.val).symm)]
    rfl
  · rw [if_neg hc, if_neg hc, if_neg hc]
    rfl
theorem db_is (t : Fin 4096) (h : Fin 4) (d : Fin 128) :
    val_main_v110 (F := Ideal) x0 x1 x2 (ix3 t h d) = ((dB 4096 q (Ky (Lb l) p) (Lg (Lb l) p) v o t (h.val * 128 + d.val) : ℝ) : EReal) := by
  pointwise [val_main_v110, val_main_v108, val_main_v107, val_main_v106, val_main_v105, val_main_v109, val_main_v104, val_main_v103, val_main_cst_20, val_main_cst_21, val_main_cst_22, val_main_cst_23]
  simp only [Fin.sum_univ_one]
  refine (congrArg₂ (fun a b : EReal => a + b)
    (sum_is _ (fun n => -(if t.val ≤ n then Ky (Lb l) p t (h.val * 128 + d.val) * (P o v n t (h.val * 128 + d.val) * (q n (h.val * 128 + d.val) * W (Lg (Lb l) p) n t (h.val * 128 + d.val))) else 0)) fun n => ?_)
    (sum_is _ (fun s => if s ≤ t.val then q t (h.val * 128 + d.val) * (P o v t s (h.val * 128 + d.val) * (Ky (Lb l) p s (h.val * 128 + d.val) * W (Lg (Lb l) p) t s (h.val * 128 + d.val))) else 0) fun s => ?_)).trans ?_
  · rw [diff_is H, ← EReal.coe_neg]
    refine congrArg _ (congrArg _ (if_congr Iff.rfl ?_ rfl))
    ring
  · rw [diff_is H]
    refine congrArg _ (if_congr Iff.rfl ?_ rfl)
    ring
  · rw [← EReal.coe_add, Finset.sum_neg_distrib, sum_ge, sum_le t.isLt, ← Finset.mul_sum, ← Finset.mul_sum]
    refine congrArg _ ?_
    unfold dB dQ dK
    ring

end Cert.ReferenceIdeal.Values
-- ==== Proof.Values.lean ====
/- The reference's two results, over the reals: the three planes of cotangents and the cotangent of the logits. -/
module

public import proofs.«01_k».proof.Proof.Scores

@[expose] public section

noncomputable section

namespace Cert.ReferenceIdeal.Values

open Cert.ReferenceIdeal Cert.ReferenceIdeal.Gen Cert.ReferenceIdeal.Read Cert.Attn Idealize.ShloMosaic Idealize.ShloMosaic.TcCoe Idealize.SL.Sem
open Cert.KernelIdeal.Chunk (coe_sum_range coe_div Lb Lo Hi Lo_pos Lo_lt Lo_add_Hi Planes Logits dL)

variable {x0 : (⟨S4x4096x512, .f32⟩ : BufTy).Contents (Elt Ideal)} {x1 : (⟨S4096x512, .f32⟩ : BufTy).Contents (Elt Ideal)} {x2 : (⟨S2x512, .f32⟩ : BufTy).Contents (Elt Ideal)}
  {q p v o l : ℕ → ℕ → ℝ} (H : Reals x0 x1 x2 q p v o l)

/-! ### Back from the heads to the columns -/

theorem col (j : ℕ) : j / 128 * 128 + j % 128 = j := by omega

include H

theorem dq_flat (t : Fin 4096) (j : Fin 512) : val_main_v114 (F := Ideal) x0 x1 x2 (ix2 t j) = ((dQ (Ky (Lb l) p) (Lg (Lb l) p) v o t j : ℝ) : EReal) := by
  pointwise [val_main_v114]
  rw [dq_is H]
  show ((dQ _ _ v o t (j.val / 128 * 128 + j.val % 128) : ℝ) : EReal) = _
  rw [col]
theorem dk_flat (t : Fin 4096) (j : Fin 512) : val_main_v113 (F := Ideal) x0 x1 x2 (ix2 t j) = ((dK 4096 q (Lg (Lb l) p) v o t j : ℝ) : EReal) := by
  pointwise [val_main_v113]
  rw [dk_is H]
  show ((dK 4096 q _ v o t (j.val / 128 * 128 + j.val % 128) : ℝ) : EReal) = _
  rw [col]
theorem dv_flat (t : Fin 4096) (j : Fin 512) : val_main_v112 (F := Ideal) x0 x1 x2 (ix2 t j) = ((dV 4096 q (Ky (Lb l) p) (Lg (Lb l) p) o t j : ℝ) : EReal) := by
  pointwise [val_main_v112]
  rw [dv_is H]
  show ((dV 4096 q _ _ o t (j.val / 128 * 128 + j.val % 128) : ℝ) : EReal) = _
  rw [col]
theorem db_flat (t : Fin 4096) (j : Fin 512) : val_main_v111 (F := Ideal) x0 x1 x2 (ix2 t j) = ((dB 4096 q (Ky (Lb l) p) (Lg (Lb l) p) v o t j : ℝ) : EReal) := by
  pointwise [val_main_v111]
  rw [db_is H]
  show ((dB 4096 q _ _ v o t (j.val / 128 * 128 + j.val % 128) : ℝ) : EReal) = _
  rw [col]

/-! ### The cotangents of the gate, of its argument and of the bound -/

theorem df_is (t : Fin 4096) (j : Fin 512) : val_main_v118 (F := Ideal) x0 x1 x2 (ix2 t j) = ((dF 4096 (Lb l) q p v o t j : ℝ) : EReal) := by
  have e : val_main_v115 (F := Ideal) x0 x1 x2 (ix2 t j) = _ := suffix_is _ (dB 4096 q (Ky (Lb l) p) (Lg (Lb l) p) v o) (db_flat H) _
    (fun i => by pointwise [val_main_call5_call0_v0, val_main_call5_call0_cst]) _ _ t j
  pointwise [val_main_v118, val_main_v117, val_main_v116]
  rw [e, gt_is H, dk_flat H, coe_div (Gt_pos p t j (Lo_pos _ _) (Lo_lt _ _)).ne', ← EReal.coe_neg, ← EReal.coe_add, ← sub_eq_add_neg]
  rfl
theorem dp_is (t : Fin 4096) (j : Fin 512) : val_main_v128 (F := Ideal) x0 x1 x2 (ix2 t j) = ((dP 4096 (Lb l) q p v o t j : ℝ) : EReal) := by
  pointwise [val_main_v128, val_main_v123, val_main_v122, val_main_v48, val_main_v38, val_main_v37, val_main_cst_9, val_main_v36, val_main_v35, val_main_v47, val_main_v46, val_main_v45, val_main_cst_12]
  rw [lb_is H, sg_is H, df_is H]
  show (((1 : ℝ) : EReal) - _) * _ * (_ * (((1 : ℝ) : EReal) - _)) = _
  rw [← EReal.coe_sub, ← EReal.coe_sub, ← EReal.coe_mul, ← EReal.coe_mul, ← EReal.coe_mul]
  refine congrArg _ ?_
  unfold dP
  ring
theorem dl_is (j : Fin 512) : val_main_v130 (F := Ideal) x0 x1 x2 (ix1 j) = ((dL q p v o l j : ℝ) : EReal) := by
  pointwise [val_main_v130, val_main_v129, val_main_v127, val_main_v126, val_main_v125, val_main_v124, val_main_v121, val_main_v120, val_main_v119,
    val_main_cst_24, val_main_cst_25, val_main_cst_26, val_main_cst_27]
  simp only [Fin.sum_univ_one]
  refine (congrArg₂ (fun a b : EReal => a + -b) (sum_is _ (fun t => dF 4096 (Lb l) q p v o t j) fun t => df_is H t j)
    (sum_is _ (fun t => dF 4096 (Lb l) q p v o t j * Sg p t j) fun t => ?_)).trans ?_
  · rw [df_is H, sg_is H, ← EReal.coe_mul]
  · rw [← EReal.coe_neg, ← EReal.coe_add, ← sub_eq_add_neg, ← Finset.sum_sub_distrib]
    refine congrArg _ ?_
    unfold dL
    rw [← Finset.range_eq_Ico]
    refine Finset.sum_congr rfl fun t _ => ?_
    unfold Cert.KernelIdeal.Chunk.dLt
    ring

/-! ### The cotangent of the logits -/

theorem row_is (r : Fin 2) (j : Fin 512) : val_main_v133 (F := Ideal) x0 x1 x2 (ix2 r j) = (((if r.val < 1 then dL q p v o l j else 0 : ℝ)) : EReal) := by
  refine (suffix_is (val_main_v132 (F := Ideal) x0 x1 x2) (fun r j => if r < 1 then dL q p v o l j else 0) (fun r j => ?_) _ (fun i => by pointwise [val_main_call6_call0_v0, val_main_call6_call0_cst]) _ _ r j).trans ?_
  · pointwise [val_main_v132, val_main_v131, val_main_cst_28]
    by_cases h : r.val < 1
    · rw [dif_pos h, if_pos h, dl_is H]
    · rw [dif_neg h, if_neg h]; rfl
  · refine congrArg _ ?_
    obtain ⟨r, hr⟩ := r
    interval_cases r
    · show (∑ s ∈ Finset.Ico 0 2, _) = _
      rw [← Finset.range_eq_Ico, Finset.sum_range_succ, Finset.sum_range_one, if_pos (by decide), if_neg (by decide), add_zero]
    · show (∑ s ∈ Finset.Ico 1 2, _) = _
      rw [Finset.sum_Ico_succ_top (by decide), Finset.Ico_self, Finset.sum_empty, zero_add]

theorem logits_at (r : Fin 2) (j : Fin 512) : val_main_v145 (F := Ideal) x0 x1 x2 (ix2 r j) = ((Logits q p v o l r j : ℝ) : EReal) := by
  have hT := Tot_pos l j
  pointwise [val_main_v145, val_main_v144, val_main_v143, val_main_v142, val_main_v141, val_main_v140, val_main_v139, val_main_v138, val_main_v137, val_main_v136, val_main_v135, val_main_v134,
    val_main_v33, val_main_v31, val_main_v32, val_main_cst_8, val_main_cst_29, val_main_cst_30]
  rw [Fin.sum_univ_one, Fin.sum_univ_two, row_is H, row_is H, row_is H, tot_is H, e_is H, e_is H, e_is H]
  have e1 : Ideal.div 1 (((Tot l j : ℝ) : EReal) * ((Tot l j : ℝ) : EReal)) = ((1 / (Tot l j * Tot l j) : ℝ) : EReal) := by
    rw [← EReal.coe_mul]
    exact coe_div (a := 1) (mul_pos hT hT).ne'
  rw [e1, coe_div hT.ne']
  simp only [← EReal.coe_mul, ← EReal.coe_add, ← EReal.coe_neg]
  refine congrArg _ ?_
  have hL : Lb l j = Ex l 0 j / Tot l j := rfl
  have hH : Hi (l 0 j) (l 1 j) = Ex l 1 j / Tot l j := rfl
  unfold Logits
  rw [hH, hL]
  obtain ⟨r, hr⟩ := r
  interval_cases r
  · show (dL q p v o l j / Tot l j + -(dL q p v o l j * (1 / (Tot l j * Tot l j)) * Ex l 0 j + 0 * (1 / (Tot l j * Tot l j)) * Ex l 1 j)) * Ex l 0 j
      = dL q p v o l j * (Ex l 0 j / Tot l j) * (1 - Ex l 0 j / Tot l j)
    field_simp
    ring
  · show (0 / Tot l j + -(dL q p v o l j * (1 / (Tot l j * Tot l j)) * Ex l 0 j + 0 * (1 / (Tot l j * Tot l j)) * Ex l 1 j)) * Ex l 1 j
      = (0 - dL q p v o l j) * (Ex l 0 j / Tot l j) * (Ex l 1 j / Tot l j)
    field_simp
    ring
theorem logits_is : val_main_v145 (F := Ideal) x0 x1 x2 = fun i : S2x512.Idx => ((Logits q p v o l (i 0).val (i 1).val : ℝ) : EReal) := by
  funext i
  exact (congrArg _ (eq_ix2 i)).trans (logits_at H (i 0) (i 1))

/-! ### The three planes -/

theorem planes_at (r : Fin 3) (t : Fin 4096) (j : Fin 512) : val_main_v150 (F := Ideal) x0 x1 x2 (ix3 r t j) = ((Planes q p v o l r t j : ℝ) : EReal) := by
  pointwise [val_main_v150, val_main_v149, val_main_v148, val_main_v147, val_main_v146]
  unfold Planes
  by_cases h0 : r.val < 1
  · rw [dif_pos h0, if_pos (by omega), dq_flat H]
  · rw [dif_neg h0, if_neg (by omega)]
    by_cases h1 : r.val - 1 < 1
    · rw [dif_pos h1, if_pos (by omega), dp_is H]
    · rw [dif_neg h1, if_neg (by omega), dv_flat H]
theorem planes_is : val_main_v150 (F := Ideal) x0 x1 x2 = fun i : S3x4096x512.Idx => ((Planes q p v o l (i 0).val (i 1).val (i 2).val : ℝ) : EReal) := by
  funext i
  exact (congrArg _ (eq_ix3 i)).trans (planes_at H (i 0) (i 1) (i 2))

end Cert.ReferenceIdeal.Values
-- ==== Proof.Finite.lean ====
/- The precondition, read at the extended reals: every entry of the arguments it speaks of is a real number. -/
module

public import proofs.«01_k».proof.Proof.Values
public import proofs.«01_k».proof.Pre_finite
public import Idealize.ShloMosaic.Lib.ReduceAll

@[expose] public section

noncomputable section

namespace Cert.Pre_finite

open Idealize.ShloMosaic Idealize.ShloMosaic.TcCoe Idealize.SL.Sem
open Facts

theorem facts : Facts where
  slices_S4x4096x512_S3x4096x512_0_0_0 := by decide
  bcast_S_S3x4096x512 := by decide
  reducesTo_S3x4096x512_S_d0_1_2 := by decide
  h_S_ := by decide
  bcast_S_S4096x512 := by decide
  reducesTo_S4096x512_S_d0_1 := by decide
  bcast_S_S2x512 := by decide
  reducesTo_S2x512_S_d0_1 := by decide

attribute [local instance] facts

instance : Subsingleton S_.Idx := ⟨fun a b => funext fun k => k.elim0⟩

/-- An extended real whose absolute value is below the top is its real part. -/
theorem real_of (x : Ideal .f32) (h : BitVec.ofBool (decide ((FloatOps.absf x : Ideal .f32) < Ideal.ofBits FTy.f32 0x7F800000#32)) = 1#1) : x = ((EReal.toReal x : ℝ) : EReal) := by
  have h' : max (x : EReal) (-x) < ⊤ := by
    by_contra hn
    rw [show decide ((FloatOps.absf x : Ideal .f32) < Ideal.ofBits FTy.f32 0x7F800000#32) = false from decide_eq_false hn] at h
    exact absurd h (by decide)
  refine (EReal.coe_toReal (fun e => ?_) (fun e => ?_)).symm
  · rw [e] at h'
    exact absurd (lt_of_le_of_lt (le_max_left _ _) h') (lt_irrefl _)
  · rw [e] at h'
    exact absurd (lt_of_le_of_lt (le_max_right _ _) h') (by rw [EReal.neg_bot]; exact lt_irrefl _)

theorem and_one {a b : BitVec 1} : IntOp.andi a b = 1#1 → a = 1#1 ∧ b = 1#1 := by
  revert a b; decide

variable {x0 : (⟨S4x4096x512, .f32⟩ : BufTy).Contents (Elt Ideal)} {x1 : (⟨S4096x512, .f32⟩ : BufTy).Contents (Elt Ideal)} {x2 : (⟨S2x512, .f32⟩ : BufTy).Contents (Elt Ideal)}
  (h : fn (F := Ideal) x0 x1 x2 = fun _ => 1#1)
include h

theorem real0 (r : Fin 4) (hr : r.val < 3) (k : Fin 4096) (j : Fin 512) : x0 (ix3 r k j) = ((EReal.toReal (x0 (ix3 r k j)) : ℝ) : EReal) := by
  have e := Host.reduce_andi_all _ _ reducesTo_S3x4096x512_S_d0_1_2 h_S_ ix0 (and_one (and_one (congrFun h ix0)).1).1 (ix3 ⟨r.val, hr⟩ k j)
  pointwise at e
  exact real_of _ e
theorem real1 (k : Fin 4096) (j : Fin 512) : x1 (ix2 k j) = ((EReal.toReal (x1 (ix2 k j)) : ℝ) : EReal) := by
  have e := Host.reduce_andi_all _ _ reducesTo_S4096x512_S_d0_1 h_S_ ix0 (and_one (and_one (congrFun h ix0)).1).2 (ix2 k j)
  pointwise at e
  exact real_of _ e
theorem real2 (r : Fin 2) (j : Fin 512) : x2 (ix2 r j) = ((EReal.toReal (x2 (ix2 r j)) : ℝ) : EReal) := by
  have e := Host.reduce_andi_all _ _ reducesTo_S2x512_S_d0_1 h_S_ ix0 (and_one (congrFun h ix0)).2 (ix2 r j)
  pointwise at e
  exact real_of _ e

end Cert.Pre_finite
-- ==== Proof.Algebraic.lean ====
/- The value claim: where the precondition holds, the kernel's program and the reference's end with equal results. -/
module

public import proofs.«01_k».proof.Defs
public import proofs.«01_k».proof.Proof.Finite
public import proofs.«01_k».proof.Proof.States
public import proofs.«01_k».proof.Proof.Gen.KernelIdeal.Value
public import proofs.«01_k».proof.Proof.Gen.ReferenceIdeal.Run

@[expose] public section

noncomputable section

namespace Cert.Proof

open Idealize.ShloMosaic Idealize.ShloMosaic.TcCoe Idealize.SL.Sem
open Cert.KernelIdeal.Chunk (Args States Planes Logits final6 final7 states_is)
open Cert.ReferenceIdeal.Values (Reals planes_is logits_is)

/-- The real number at an entry of a plane of the first argument, and of the other two. -/
def plane (x : (⟨Cert.KernelIdeal.S4x4096x512, .f32⟩ : BufTy).Contents (Elt Ideal)) (r : Fin 4) (k j : ℕ) : ℝ :=
  if h : k < 4096 ∧ j < 512 then EReal.toReal (x (ix3 r ⟨k, h.1⟩ ⟨j, h.2⟩)) else 0
def entry {n : ℕ} (x : (⟨⟨2, ![n, 512]⟩, .f32⟩ : BufTy).Contents (Elt Ideal)) (k j : ℕ) : ℝ :=
  if h : k < n ∧ j < 512 then EReal.toReal (x (ix2 ⟨k, h.1⟩ ⟨j, h.2⟩)) else 0

theorem plane_eq (x : (⟨Cert.KernelIdeal.S4x4096x512, .f32⟩ : BufTy).Contents (Elt Ideal)) (r : Fin 4) (k : Fin 4096) (j : Fin 512) : plane x r k j = EReal.toReal (x (ix3 r k j)) := dif_pos ⟨k.isLt, j.isLt⟩
theorem entry_eq {n : ℕ} (x : (⟨⟨2, ![n, 512]⟩, .f32⟩ : BufTy).Contents (Elt Ideal)) (k : Fin n) (j : Fin 512) : entry x k j = EReal.toReal (x (ix2 k j)) := dif_pos ⟨k.isLt, j.isLt⟩

theorem reals_of {x0 : (⟨Cert.KernelIdeal.S4x4096x512, .f32⟩ : BufTy).Contents (Elt Ideal)} {x1 : (⟨Cert.KernelIdeal.S4096x512, .f32⟩ : BufTy).Contents (Elt Ideal)} {x2 : (⟨Cert.KernelIdeal.S2x512, .f32⟩ : BufTy).Contents (Elt Ideal)}
    (h : @Cert.Pre_finite.fn Cert.Pre_finite.facts Ideal _ x0 x1 x2 = fun _ => 1#1) :
    Reals x0 x1 x2 (plane x0 0) (plane x0 1) (plane x0 2) (entry x1) (entry x2) where
  q k j := (Cert.Pre_finite.real0 h 0 (by decide) k j).trans (congrArg _ (plane_eq x0 0 k j).symm)
  p k j := (Cert.Pre_finite.real0 h 1 (by decide) k j).trans (congrArg _ (plane_eq x0 1 k j).symm)
  v k j := (Cert.Pre_finite.real0 h 2 (by decide) k j).trans (congrArg _ (plane_eq x0 2 k j).symm)
  o k j := (Cert.Pre_finite.real1 h k j).trans (congrArg _ (entry_eq x1 k j).symm)
  l r j := (Cert.Pre_finite.real2 h r j).trans (congrArg _ (entry_eq x2 r j).symm)

theorem reals_congr {x0 y0 : (⟨Cert.KernelIdeal.S4x4096x512, .f32⟩ : BufTy).Contents (Elt Ideal)} {x1 y1 : (⟨Cert.KernelIdeal.S4096x512, .f32⟩ : BufTy).Contents (Elt Ideal)} {x2 y2 : (⟨Cert.KernelIdeal.S2x512, .f32⟩ : BufTy).Contents (Elt Ideal)}
    {q p v o l : ℕ → ℕ → ℝ} (e0 : y0 = x0) (e1 : y1 = x1) (e2 : y2 = x2) (H : Reals x0 x1 x2 q p v o l) : Reals y0 y1 y2 q p v o l := by
  rw [e0, e1, e2]
  exact H

theorem algebraic : Cert.algebraic_KernelIdeal_ReferenceIdeal_pre_finite (hKernelIdeal := Cert.KernelIdeal.Gen.facts) (hReferenceIdeal := Cert.ReferenceIdeal.Gen.facts) (hPre_finite := Cert.Pre_finite.facts) := by
  intro m g m' g' hpre hargs
  have hR := fun c => reals_of (hpre c)
  have hA : ∀ c, Args m c _ _ _ _ _ := fun c => ⟨(hR c).q, (hR c).p, (hR c).v, (hR c).o, (hR c).l⟩
  refine ⟨fun c => (Cert.KernelIdeal.Gen.dats m 0 c).arrAt 6 Cert.KernelIdeal.cfg0.N, fun c => (Cert.KernelIdeal.Gen.dats m 0 c).arrAt 7 Cert.KernelIdeal.cfg0.N,
    (θ_run Cert.KernelIdeal.defs _ _).mono (fun r h c => ?_) (Cert.KernelIdeal.Value.run_blocks (F := Ideal) m g),
    (θ_run Cert.ReferenceIdeal.defs _ _).mono (fun r h c => ?_) (Cert.ReferenceIdeal.Value.run (F := Ideal) m' g')⟩
  · exact h c
  · obtain ⟨h0, h1, a0, a1, a2⟩ := h c
    obtain ⟨e0, e1, e2⟩ := hargs c
    have H := reals_congr e0 e1 e2 (hR c)
    exact ⟨h0.trans ((Cert.ReferenceIdeal.Read.val_main_v150_eq _).trans ((planes_is H).trans (final6 (hA c) (states_is (hA c))).symm)),
      h1.trans ((Cert.ReferenceIdeal.Read.val_main_v145_eq _).trans ((logits_is H).trans (final7 (hA c) (states_is (hA c))).symm)), a0, a1, a2⟩

end Cert.Proof
-- ==== Proof.LayerFinite.lean ====
/- The second call's precondition, read at the extended reals: every entry of its arguments is a real number. -/
module

public import proofs.«01_k».proof.Proof.Finite
public import proofs.«01_k».proof.Pre_finite2
public import Idealize.ShloMosaic.Lib.ReduceAll

@[expose] public section

noncomputable section

namespace Cert.Pre_finite2

open Idealize.ShloMosaic Idealize.ShloMosaic.TcCoe Idealize.SL.Sem
open Facts
open Cert.Pre_finite (real_of and_one)

theorem facts : Facts where
  bcast_S_S4096x1024 := by decide
  reducesTo_S4096x1024_S_d0_1 := by decide
  h_S_ := by decide
  bitsLt_bf16_f32 := by decide
  bcast_S_S4096x512 := by decide
  reducesTo_S4096x512_S_d0_1 := by decide
  bcast_S_S1024x1024 := by decide
  reducesTo_S1024x1024_S_d0_1 := by decide
  bcast_S_S1024x4096 := by decide
  reducesTo_S1024x4096_S_d0_1 := by decide
  bcast_S_S1x1024 := by decide
  reducesTo_S1x1024_S_d0_1 := by decide

attribute [local instance] facts

instance : Subsingleton S_.Idx := ⟨fun a b => funext fun k => k.elim0⟩

variable {x0 : (⟨S4096x512, .bf16⟩ : BufTy).Contents (Elt Ideal)} {x1 : (⟨S4096x512, .bf16⟩ : BufTy).Contents (Elt Ideal)} {x2 : (⟨S4096x1024, .f32⟩ : BufTy).Contents (Elt Ideal)} {x3 : (⟨S4096x1024, .f32⟩ : BufTy).Contents (Elt Ideal)} {x4 : (⟨S1024x1024, .bf16⟩ : BufTy).Contents (Elt Ideal)} {x5 : (⟨S1024x4096, .bf16⟩ : BufTy).Contents (Elt Ideal)} {x6 : (⟨S4096x1024, .bf16⟩ : BufTy).Contents (Elt Ideal)} {x7 : (⟨S1x1024, .f32⟩ : BufTy).Contents (Elt Ideal)} {x8 : (⟨S1x1024, .f32⟩ : BufTy).Contents (Elt Ideal)} {x9 : (⟨S1x1024, .f32⟩ : BufTy).Contents (Elt Ideal)} {x10 : (⟨S1x1024, .f32⟩ : BufTy).Contents (Elt Ideal)}
  (h : fn (F := Ideal) x0 x1 x2 x3 x4 x5 x6 x7 x8 x9 x10 = fun _ => 1#1)
include h

theorem real2 (i : Fin 4096) (j : Fin 1024) : x2 (ix2 i j) = ((EReal.toReal (x2 (ix2 i j)) : ℝ) : EReal) := by
  have e := Host.reduce_andi_all _ _ reducesTo_S4096x1024_S_d0_1 h_S_ ix0 ((and_one (and_one (and_one (and_one (and_one (and_one (and_one (and_one (and_one (and_one (congrFun h ix0)).1).1).1).1).1).1).1).1).1).1) (ix2 i j)
  pointwise at e
  exact real_of _ e
theorem real0 (i : Fin 4096) (j : Fin 512) : x0 (ix2 i j) = ((EReal.toReal (x0 (ix2 i j)) : ℝ) : EReal) := by
  have e := Host.reduce_andi_all _ _ reducesTo_S4096x512_S_d0_1 h_S_ ix0 ((and_one (and_one (and_one (and_one (and_one (and_one (and_one (and_one (and_one (and_one (congrFun h ix0)).1).1).1).1).1).1).1).1).1).2) (ix2 i j)
  pointwise at e
  exact real_of _ e
theorem real1 (i : Fin 4096) (j : Fin 512) : x1 (ix2 i j) = ((EReal.toReal (x1 (ix2 i j)) : ℝ) : EReal) := by
  have e := Host.reduce_andi_all _ _ reducesTo_S4096x512_S_d0_1 h_S_ ix0 ((and_one (and_one (and_one (and_one (and_one (and_one (and_one (and_one (and_one (congrFun h ix0)).1).1).1).1).1).1).1).1).2) (ix2 i j)
  pointwise at e
  exact real_of _ e
theorem real3 (i : Fin 4096) (j : Fin 1024) : x3 (ix2 i j) = ((EReal.toReal (x3 (ix2 i j)) : ℝ) : EReal) := by
  have e := Host.reduce_andi_all _ _ reducesTo_S4096x1024_S_d0_1 h_S_ ix0 ((and_one (and_one (and_one (and_one (and_one (and_one (and_one (and_one (congrFun h ix0)).1).1).1).1).1).1).1).2) (ix2 i j)
  pointwise at e
  exact real_of _ e
theorem real4 (i : Fin 1024) (j : Fin 1024) : x4 (ix2 i j) = ((EReal.toReal (x4 (ix2 i j)) : ℝ) : EReal) := by
  have e := Host.reduce_andi_all _ _ reducesTo_S1024x1024_S_d0_1 h_S_ ix0 ((and_one (and_one (and_one (and_one (and_one (and_one (and_one (congrFun h ix0)).1).1).1).1).1).1).2) (ix2 i j)
  pointwise at e
  exact real_of _ e
theorem real5 (i : Fin 1024) (j : Fin 4096) : x5 (ix2 i j) = ((EReal.toReal (x5 (ix2 i j)) : ℝ) : EReal) := by
  have e := Host.reduce_andi_all _ _ reducesTo_S1024x4096_S_d0_1 h_S_ ix0 ((and_one (and_one (and_one (and_one (and_one (and_one (congrFun h ix0)).1).1).1).1).1).2) (ix2 i j)
  pointwise at e
  exact real_of _ e
theorem real6 (i : Fin 4096) (j : Fin 1024) : x6 (ix2 i j) = ((EReal.toReal (x6 (ix2 i j)) : ℝ) : EReal) := by
  have e := Host.reduce_andi_all _ _ reducesTo_S4096x1024_S_d0_1 h_S_ ix0 ((and_one (and_one (and_one (and_one (and_one (congrFun h ix0)).1).1).1).1).2) (ix2 i j)
  pointwise at e
  exact real_of _ e
theorem real7 (i : Fin 1) (j : Fin 1024) : x7 (ix2 i j) = ((EReal.toReal (x7 (ix2 i j)) : ℝ) : EReal) := by
  have e := Host.reduce_andi_all _ _ reducesTo_S1x1024_S_d0_1 h_S_ ix0 ((and_one (and_one (and_one (and_one (congrFun h ix0)).1).1).1).2) (ix2 i j)
  pointwise at e
  exact real_of _ e
theorem real8 (i : Fin 1) (j : Fin 1024) : x8 (ix2 i j) = ((EReal.toReal (x8 (ix2 i j)) : ℝ) : EReal) := by
  have e := Host.reduce_andi_all _ _ reducesTo_S1x1024_S_d0_1 h_S_ ix0 ((and_one (and_one (and_one (congrFun h ix0)).1).1).2) (ix2 i j)
  pointwise at e
  exact real_of _ e
theorem real9 (i : Fin 1) (j : Fin 1024) : x9 (ix2 i j) = ((EReal.toReal (x9 (ix2 i j)) : ℝ) : EReal) := by
  have e := Host.reduce_andi_all _ _ reducesTo_S1x1024_S_d0_1 h_S_ ix0 ((and_one (and_one (congrFun h ix0)).1).2) (ix2 i j)
  pointwise at e
  exact real_of _ e
theorem real10 (i : Fin 1) (j : Fin 1024) : x10 (ix2 i j) = ((EReal.toReal (x10 (ix2 i j)) : ℝ) : EReal) := by
  have e := Host.reduce_andi_all _ _ reducesTo_S1x1024_S_d0_1 h_S_ ix0 ((and_one (congrFun h ix0)).2) (ix2 i j)
  pointwise at e
  exact real_of _ e

end Cert.Pre_finite2
-- ==== Proof.Layer.lean ====
/- The layer after the mixer, forward and backward, over the reals: a row at a time, and the sums over the rows. -/
module

public import Mathlib.Algebra.BigOperators.Intervals
public import Mathlib.Analysis.SpecialFunctions.Exp
public import Mathlib.Tactic.Ring
public import Mathlib.Tactic.Linarith
public import Mathlib.Tactic.FieldSimp
public import Mathlib.Tactic.Positivity

@[expose] public section

noncomputable section

namespace Cert.Layer

open Finset

/-- The residual's factor and the normalization's offset: the two single-precision constants, as reals. -/
def alpha : ℝ := 9975792 / 8388608
def eps : ℝ := 10995116 / 1099511627776

theorem eps_pos : 0 < eps := by unfold eps; norm_num

/-! Layer normalization of a row of 1024. -/
def mean (f : ℕ → ℝ) : ℝ := (∑ n ∈ range 1024, f n) / 1024
def cent (f : ℕ → ℝ) (n : ℕ) : ℝ := f n - mean f
def var (f : ℕ → ℝ) : ℝ := mean fun n => cent f n * cent f n
def rstd (f : ℕ → ℝ) : ℝ := (Real.sqrt (var f + eps))⁻¹
def hat (f : ℕ → ℝ) (n : ℕ) : ℝ := cent f n * rstd f
/-- The cotangent of the row, of the cotangent `d` of its normalized entries. -/
def lnBwd (d f : ℕ → ℝ) (n : ℕ) : ℝ := rstd f * (d n - mean d - hat f n * mean fun n => d n * hat f n)

theorem var_nonneg (f : ℕ → ℝ) : 0 ≤ var f :=
  div_nonneg (sum_nonneg fun n _ => mul_self_nonneg (cent f n)) (by norm_num)
theorem var_pos (f : ℕ → ℝ) : 0 < var f + eps := add_pos_of_nonneg_of_pos (var_nonneg f) eps_pos
theorem rstd_sq (f : ℕ → ℝ) : rstd f / (var f + eps) = rstd f * (rstd f * rstd f) := by
  have h := Real.mul_self_sqrt (var_pos f).le
  unfold rstd
  rw [div_eq_mul_inv]
  refine congrArg _ ?_
  rw [← mul_inv, h]
theorem sum_cent (f : ℕ → ℝ) : ∑ n ∈ range 1024, cent f n = 0 := by
  unfold cent mean
  rw [sum_sub_distrib, sum_const, card_range, nsmul_eq_mul]
  push_cast
  ring

/-- The part of the cotangent that goes through the centered row and the variance. -/
def through (d f : ℕ → ℝ) (n : ℕ) : ℝ :=
  d n * rstd f + (∑ k ∈ range 1024, cent f k * d k) * (-(1 / 2) * (rstd f / (var f + eps))) / 1024 * (2 * cent f n)

theorem through_eq (d f : ℕ → ℝ) (n : ℕ) : through d f n = rstd f * (d n - hat f n * mean fun n => d n * hat f n) := by
  have e : (∑ k ∈ range 1024, d k * hat f k) = (∑ k ∈ range 1024, cent f k * d k) * rstd f := by
    rw [sum_mul]
    exact sum_congr rfl fun k _ => by unfold hat; ring
  unfold through mean
  rw [rstd_sq, e]
  unfold hat
  ring

theorem sum_through (d f : ℕ → ℝ) : ∑ n ∈ range 1024, through d f n = rstd f * ∑ n ∈ range 1024, d n := by
  have e : (∑ n ∈ range 1024, hat f n * mean fun n => d n * hat f n) = 0 := by
    rw [← sum_mul]
    have h : ∑ n ∈ range 1024, hat f n = 0 := by
      unfold hat
      rw [← sum_mul, sum_cent, zero_mul]
    rw [h, zero_mul]
  rw [sum_congr rfl fun n _ => through_eq d f n, ← mul_sum, sum_sub_distrib, e, sub_zero]

/-- Reverse mode through mean and variance is the closed form. -/
theorem lnBwd_eq (d f : ℕ → ℝ) (n : ℕ) : through d f n + (∑ k ∈ range 1024, -through d f k) / 1024 = lnBwd d f n := by
  rw [sum_neg_distrib, sum_through, through_eq]
  unfold lnBwd
  rw [show mean d = (∑ n ∈ range 1024, d n) / 1024 from rfl]
  ring

/-- What the layer works on, of however many rows. -/
structure Args where
  ch : ℕ → ℕ → ℝ
  cc : ℕ → ℕ → ℝ
  x : ℕ → ℕ → ℝ
  tg : ℕ → ℕ → ℝ
  wo : ℕ → ℕ → ℝ
  w1 : ℕ → ℕ → ℝ
  w2 : ℕ → ℕ → ℝ
  g1 : ℕ → ℝ
  b1 : ℕ → ℝ
  g2 : ℕ → ℝ
  b2 : ℕ → ℝ

namespace Args

variable (S : Args)

/-- The rows from `N` on. -/
def from' (N : ℕ) : Args :=
  { S with ch := fun i => S.ch (N + i), cc := fun i => S.cc (N + i), x := fun i => S.x (N + i), tg := fun i => S.tg (N + i) }

/-! Row `i`, forward. -/
def p1 (i n : ℕ) : ℝ :=
  alpha * S.x i n + (∑ k ∈ range 512, S.ch i k * S.wo k n + ∑ k ∈ range 512, S.cc i k * S.wo (512 + k) n)
def h (i n : ℕ) : ℝ := hat (S.p1 i) n * S.g1 n + S.b1 n
def pre (i f : ℕ) : ℝ := ∑ k ∈ range 1024, S.h i k * S.w1 k f
def act (i f : ℕ) : ℝ := max (S.pre i f) 0
def r (i f : ℕ) : ℝ := S.act i f * S.act i f
def p2 (i n : ℕ) : ℝ := alpha * S.h i n + ∑ f ∈ range 4096, S.r i f * S.w2 f n
def err (i n : ℕ) : ℝ := hat (S.p2 i) n * S.g2 n + S.b2 n - S.tg i n
/-! Row `i`, backward. -/
def dy (i n : ℕ) : ℝ := S.err i n * (1 / 1024)
def dp2 (i n : ℕ) : ℝ := lnBwd (fun n => S.dy i n * S.g2 n) (S.p2 i) n
def da (i f : ℕ) : ℝ := (∑ n ∈ range 1024, S.dp2 i n * S.w2 f n) * (2 * S.act i f)
def dh (i n : ℕ) : ℝ := alpha * S.dp2 i n + ∑ f ∈ range 4096, S.da i f * S.w1 n f
def dp1 (i n : ℕ) : ℝ := lnBwd (fun n => S.dh i n * S.g1 n) (S.p1 i) n
def dcat (i k : ℕ) : ℝ := ∑ n ∈ range 1024, S.dp1 i n * S.wo k n
def cat (i k : ℕ) : ℝ := if k < 512 then S.ch i k else S.cc i (k - 512)
/-! Summed over the first `T` rows. -/
def dg1 (T n : ℕ) : ℝ := ∑ i ∈ range T, S.dh i n * hat (S.p1 i) n
def db1 (T n : ℕ) : ℝ := ∑ i ∈ range T, S.dh i n
def dg2 (T n : ℕ) : ℝ := ∑ i ∈ range T, S.dy i n * hat (S.p2 i) n
def db2 (T n : ℕ) : ℝ := ∑ i ∈ range T, S.dy i n
def loss (T : ℕ) : ℝ := 1 / 2 * ∑ i ∈ range T, mean fun n => S.err i n * S.err i n
def dwo (T k n : ℕ) : ℝ := ∑ i ∈ range T, S.cat i k * S.dp1 i n

theorem act_nonneg (i f : ℕ) : 0 ≤ S.act i f := le_max_right _ _
theorem sqrt_r (i f : ℕ) : Real.sqrt (S.r i f) = S.act i f := Real.sqrt_mul_self (S.act_nonneg i f)
theorem r_nonneg (i f : ℕ) : 0 ≤ S.r i f := mul_self_nonneg _

/-- The mixed row is one product of the joined halves. -/
theorem sum_cat (i n : ℕ) : ∑ k ∈ range 1024, S.cat i k * S.wo k n
    = ∑ k ∈ range 512, S.ch i k * S.wo k n + ∑ k ∈ range 512, S.cc i k * S.wo (512 + k) n := by
  rw [show 1024 = 512 + 512 from rfl, sum_range_add]
  refine congrArg₂ (· + ·) (sum_congr rfl fun k hk => ?_) (sum_congr rfl fun k _ => ?_)
  · rw [cat, if_pos (mem_range.1 hk)]
  · rw [cat, if_neg (by omega), Nat.add_sub_cancel_left]

theorem dg1_add (N M n : ℕ) : S.dg1 (N + M) n = S.dg1 N n + (S.from' N).dg1 M n := sum_range_add _ _ _
theorem db1_add (N M n : ℕ) : S.db1 (N + M) n = S.db1 N n + (S.from' N).db1 M n := sum_range_add _ _ _
theorem dg2_add (N M n : ℕ) : S.dg2 (N + M) n = S.dg2 N n + (S.from' N).dg2 M n := sum_range_add _ _ _
theorem db2_add (N M n : ℕ) : S.db2 (N + M) n = S.db2 N n + (S.from' N).db2 M n := sum_range_add _ _ _
theorem dwo_add (N M k n : ℕ) : S.dwo (N + M) k n = S.dwo N k n + (S.from' N).dwo M k n := sum_range_add _ _ _
theorem loss_add (N M : ℕ) : S.loss (N + M) = S.loss N + (S.from' N).loss M := by
  unfold loss
  rw [sum_range_add, mul_add]
  rfl

end Args

/-- A sum over four blocks of 1024, in the order of the blocks. -/
theorem sum_four (f : ℕ → ℝ) : ∑ k ∈ range 4096, f k
    = 0 + ∑ k ∈ range 1024, f k + ∑ k ∈ range 1024, f (1024 + k) + ∑ k ∈ range 1024, f (2048 + k) + ∑ k ∈ range 1024, f (3072 + k) := by
  rw [show 4096 = 3072 + 1024 from rfl, sum_range_add, show 3072 = 2048 + 1024 from rfl, sum_range_add, show 2048 = 1024 + 1024 from rfl, sum_range_add, zero_add]

end Cert.Layer
end
-- ==== Proof.LayerOps.lean ====
/- Arrays over the extended reals whose entries are real numbers, and how the layer's operations act on them. -/
module

public import proofs.«01_k».proof.Proof.Layer
public import Idealize.ShloMosaic.Lib.Pointwise
public import Idealize.ShloMosaic.Lib.IdealHost

@[expose] public section

noncomputable section

namespace Cert.Layer

open Idealize.ShloMosaic Finset

/-- The entries are the reals `x`. -/
def Mat {a b : ℕ} (X : (⟨2, ![a, b]⟩ : Shape).Idx → EReal) (x : ℕ → ℕ → ℝ) : Prop := ∀ i, X i = ((x (i 0).val (i 1).val : ℝ) : EReal)
def Vc {a : ℕ} (X : (⟨1, ![a]⟩ : Shape).Idx → EReal) (x : ℕ → ℝ) : Prop := ∀ i, X i = ((x (i 0).val : ℝ) : EReal)

theorem coe_sum_range (n : ℕ) (g : ℕ → ℝ) : (∑ k : Fin n, ((g k : ℝ) : EReal)) = ((∑ k ∈ range n, g k : ℝ) : EReal) := by
  induction n with
  | zero => simp
  | succ n ih =>
    rw [Fin.sum_univ_castSucc, sum_range_succ, EReal.coe_add, ← ih]
    rfl
theorem sum_is {n : ℕ} {f : Fin n → EReal} {g : ℕ → ℝ} (h : ∀ k, f k = ((g k : ℝ) : EReal)) : ∑ k, f k = ((∑ k ∈ range n, g k : ℝ) : EReal) := by
  rw [← coe_sum_range]
  exact sum_congr rfl fun k _ => h k
theorem dot_is {n : ℕ} {f e : Fin n → EReal} {g d : ℕ → ℝ} (h : ∀ k, f k = ((g k : ℝ) : EReal)) (h' : ∀ k, e k = ((d k : ℝ) : EReal)) :
    ∑ k, f k * e k = ((∑ k ∈ range n, g k * d k : ℝ) : EReal) := sum_is fun k => by rw [h, h', EReal.coe_mul]

theorem coe_div {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]
theorem coe_rsqrt {a : ℝ} (ha : 0 < a) : Ideal.rsqrt (a : EReal) = (((Real.sqrt a)⁻¹ : ℝ) : EReal) := by
  rw [Ideal.rsqrt_coe, if_neg (not_lt.2 ha.le), if_neg ha.ne']
theorem coe_sqrt {a : ℝ} (ha : 0 ≤ a) : Ideal.sqrt (a : EReal) = ((Real.sqrt a : ℝ) : EReal) := by
  rw [Ideal.sqrt_coe, if_neg (not_lt.2 ha)]
theorem coe_max (a b : ℝ) : max (a : EReal) (b : EReal) = ((max a b : ℝ) : EReal) := (EReal.coe_strictMono.monotone.map_max).symm

/-! The constants. -/
theorem zero_is : Ideal.ofBits .f32 0x00000000#32 = ((0 : ℝ) : EReal) := by
  simp [Ideal.ofBits, Ideal.ieee]
theorem alpha_is : Ideal.ofBits .f32 0x3F9837F0#32 = ((alpha : ℝ) : EReal) := by
  simp [Ideal.ofBits, Ideal.ieee, -EReal.coe_mul, alpha]; norm_num
theorem eps_is : Ideal.ofBits .f32 0x3727C5AC#32 = ((eps : ℝ) : EReal) := by
  simp [Ideal.ofBits, Ideal.ieee, -EReal.coe_mul, eps]; norm_num
theorem width_is : Ideal.ofBits .f32 0x44800000#32 = ((1024 : ℝ) : EReal) := by
  simp [Ideal.ofBits, Ideal.ieee, -EReal.coe_mul]; norm_num
theorem share_is : Ideal.ofBits .f32 0x3A800000#32 = ((1 / 1024 : ℝ) : EReal) := by
  simp [Ideal.ofBits, Ideal.ieee, -EReal.coe_mul]; norm_num
theorem two_is : Ideal.ofBits .f32 0x40000000#32 = ((2 : ℝ) : EReal) := by
  simp [Ideal.ofBits, Ideal.ieee, -EReal.coe_mul]; norm_num
theorem half_is : Ideal.ofBits .f32 0x3F000000#32 = ((1 / 2 : ℝ) : EReal) := by
  simp [Ideal.ofBits, Ideal.ieee, -EReal.coe_mul]; norm_num
theorem neg_half_is : Ideal.ofBits .f32 0xBF000000#32 = ((-(1 / 2) : ℝ) : EReal) := by
  simp [Ideal.ofBits, Ideal.ieee, -EReal.coe_mul]; norm_num
theorem one_is : Ideal.ofBits .f32 0x3F800000#32 = ((1 : ℝ) : EReal) := by
  simp [Ideal.ofBits, Ideal.ieee, -EReal.coe_mul]; norm_num

section
variable {a b : ℕ} {X Y : (⟨2, ![a, b]⟩ : Shape).Idx → EReal} {x y : ℕ → ℕ → ℝ}

theorem Mat.at (h : Mat X x) (r : Fin a) (j : Fin b) : X (ix2 r j) = ((x r j : ℝ) : EReal) := h _
theorem Mat.of (h : ∀ (r : Fin a) (j : Fin b), X (ix2 r j) = ((x r j : ℝ) : EReal)) : Mat X x := fun i => by
  rw [eq_ix2 i]
  exact h _ _
theorem Mat.eq (hX : Mat X x) (hY : Mat Y y) (h : ∀ r j, r < a → j < b → x r j = y r j) : X = Y := funext fun i => by
  rw [hX, hY, h _ _ (i 0).isLt (i 1).isLt]
theorem Mat.congr (hX : Mat X x) (h : ∀ r j, r < a → j < b → x r j = y r j) : Mat X y := fun i => by
  rw [hX, h _ _ (i 0).isLt (i 1).isLt]
theorem Mat.add (hX : Mat X x) (hY : Mat Y y) : Mat (fun i => X i + Y i) (fun r j => x r j + y r j) := fun i => by
  beta_reduce
  rw [hX, hY, EReal.coe_add]
theorem Mat.sub (hX : Mat X x) (hY : Mat Y y) : Mat (fun i => X i - Y i) (fun r j => x r j - y r j) := fun i => by
  beta_reduce
  rw [hX, hY, EReal.coe_sub]
theorem Mat.mul (hX : Mat X x) (hY : Mat Y y) : Mat (fun i => X i * Y i) (fun r j => x r j * y r j) := fun i => by
  beta_reduce
  rw [hX, hY, EReal.coe_mul]
theorem Mat.neg (hX : Mat X x) : Mat (fun i => -X i) (fun r j => -x r j) := fun i => by
  beta_reduce
  rw [hX, EReal.coe_neg]
theorem Mat.max (hX : Mat X x) (hY : Mat Y y) : Mat (fun i => max (X i) (Y i)) (fun r j => max (x r j) (y r j)) := fun i => by
  beta_reduce
  rw [hX, hY, coe_max]
theorem Mat.div (hX : Mat X x) (hY : Mat Y y) (h : ∀ r j, y r j ≠ 0) : Mat (fun i => Ideal.div (X i) (Y i)) (fun r j => x r j / y r j) := fun i => by
  beta_reduce
  rw [hX, hY, coe_div (h _ _)]
theorem Mat.rsqrt (hX : Mat X x) (h : ∀ r j, 0 < x r j) : Mat (fun i => Ideal.rsqrt (X i)) (fun r j => (Real.sqrt (x r j))⁻¹) := fun i => by
  beta_reduce
  rw [hX, coe_rsqrt (h _ _)]
theorem Mat.sqrt (hX : Mat X x) (h : ∀ r j, 0 ≤ x r j) : Mat (fun i => Ideal.sqrt (X i)) (fun r j => Real.sqrt (x r j)) := fun i => by
  beta_reduce
  rw [hX, coe_sqrt (h _ _)]
theorem Mat.const {c : EReal} {z : ℝ} (h : c = ((z : ℝ) : EReal)) : Mat (a := a) (b := b) (fun _ => c) (fun _ _ => z) := fun _ => h
theorem Vc.const {c : EReal} {z : ℝ} (h : c = ((z : ℝ) : EReal)) : Vc (a := a) (fun _ => c) (fun _ => z) := fun _ => h
theorem Vc.div {X Y : (⟨1, ![a]⟩ : Shape).Idx → EReal} {x y : ℕ → ℝ} (hX : Vc X x) (hY : Vc Y y) (h : ∀ r, y r ≠ 0) :
    Vc (fun i => Ideal.div (X i) (Y i)) (fun r => x r / y r) := fun i => by
  beta_reduce
  rw [hX, hY, coe_div (h _)]
end

/-- A sum that starts at zero. -/
theorem total_is {n : ℕ} {z : EReal} {f : Fin n → EReal} {g : ℕ → ℝ} (hz : z = ((0 : ℝ) : EReal)) (h : ∀ k, f k = ((g k : ℝ) : EReal)) :
    z + ∑ k, f k = ((∑ k ∈ range n, g k : ℝ) : EReal) := by
  rw [hz, sum_is h, ← EReal.coe_add, zero_add]

end Cert.Layer
end
-- ==== Proof.LayerBlock.lean ====
/- A block of 256 rows: what a grid point computes, and its entries over the reals. -/
module

public import proofs.«01_k».proof.Proof.LayerOps
public import proofs.«01_k».proof.Kernel2Ideal

@[expose] public section

noncomputable section

namespace Cert.Kernel2Ideal.Rows

open Cert.Kernel2Ideal Cert.Kernel2Ideal.Facts₀ Cert.Layer Idealize.ShloMosaic Idealize.ShloMosaic.TcCoe Idealize.SL.Sem

section
variable {F : FTy → Type} [FloatOps F] [Facts₀]

/-! The pieces of the computation. -/
def zeros : FVec F S256x1024 .f32 := broadcast S256x1024 (Scalar.ofBits .f32 0x00000000#32)
def rowMean (X : FVec F S256x1024 .f32) : FVec F S256x1 .f32 :=
  divf (shapeCast S256x1 (multiReduction .add [1] S256 X 0x00000000#32 reduces_S256x1024_S256 (.inl rfl) rfl) shapeCasts_S256_S256x1)
    (broadcast S256x1 (Scalar.ofBits .f32 0x44800000#32))
def wide (v : FVec F S256x1 .f32) : FVec F S256x1024 .f32 := broadcastTo S256x1024 v broadcasts_S256x1_S256x1024
def tall (v : FVec F S1x1024 .f32) : FVec F S256x1024 .f32 := broadcastTo S256x1024 v broadcasts_S1x1024_S256x1024
def cent (X : FVec F S256x1024 .f32) : FVec F S256x1024 .f32 := subf X (wide (rowMean X))
def rstd (X : FVec F S256x1024 .f32) : FVec F S256x1 .f32 :=
  rsqrt (addf (rowMean (mulf (cent X) (cent X))) (broadcast S256x1 (Scalar.ofBits .f32 0x3727C5AC#32)))
def hat (X : FVec F S256x1024 .f32) : FVec F S256x1024 .f32 := mulf (cent X) (wide (rstd X))
def lnBwd (d xh : FVec F S256x1024 .f32) (rs : FVec F S256x1 .f32) : FVec F S256x1024 .f32 :=
  mulf (wide rs) (subf (subf d (wide (rowMean d))) (mulf xh (wide (rowMean (mulf d xh)))))
def colSum (X : FVec F S256x1024 .f32) : FVec F S1x1024 .f32 :=
  shapeCast S1x1024 (multiReduction .add [0] S1024 X 0x00000000#32 reduces_S256x1024_S1024 (.inl rfl) rfl) shapeCasts_S1024_S1x1024
def scale (X : FVec F S256x1024 .f32) : FVec F S256x1024 .f32 := mulf (broadcast S256x1024 (Scalar.ofBits .f32 0x3F9837F0#32)) X
def half (a : FVec F S256x512 .bf16) (w : FVec F S512x1024 .bf16) : FVec F S256x1024 .f32 :=
  matmul dot_S256x512_S512x1024_S256x1024_1_0_0_1_n_n none a w (constant S256x1024 .f32 0x00000000#32)
def up (a : FVec F S256x1024 .bf16) (w : FVec F S1024x1024 .bf16) : FVec F S256x1024 .f32 :=
  matmul dot_S256x1024_S1024x1024_S256x1024_1_0_0_1_n_n none a w (constant S256x1024 .f32 0x00000000#32)
def down (a : FVec F S256x1024 .bf16) (w : FVec F S1024x1024 .bf16) : FVec F S256x1024 .f32 :=
  matmul dot_S256x1024_S1024x1024_S256x1024_1_1_0_0_n_n none a w (constant S256x1024 .f32 0x00000000#32)
def outer (a : FVec F S256x512 .bf16) (d : FVec F S256x1024 .bf16) : FVec F S512x1024 .f32 :=
  matmul dot_S256x512_S256x1024_S512x1024_0_0_1_1_n_n none a d (constant S512x1024 .f32 0x00000000#32)
/-- The square root of the activation's square read back. -/
def root (R : FVec F S256x1024 .bf16) : FVec F S256x1024 .f32 :=
  sqrt (extf .f32 (shapeCast S256x1024 R shapeCasts_S256x1024_S256x1024) bitsLt_bf16_f32)
def low (X : FVec F S256x1024 .f32) : FVec F S256x1024 .bf16 := truncf .bf16 X bitsLt_bf16_f32
/-- The total of a column, as the single entry the kernel takes out of it. -/
def total (v : FVec F S256x1 .f32) : F .f32 :=
  extractAt ![0, 0, 0] (shapeCast S1x1x1 (multiReduction .add [1, 2] S1 (shapeCast S1x256x1 v shapeCasts_S256x1_S1x256x1) 0x00000000#32 reduces_S1x256x1_S1 (.inl rfl) rfl) shapeCasts_S1_S1x1x1) inpos_S1x1x1_p0_0_0

end

/-- What a point works on: its rows, and the weights in the blocks it multiplies by. -/
structure Block (F : FTy → Type) where
  ch : FVec F S256x512 .bf16
  cc : FVec F S256x512 .bf16
  x : FVec F S256x1024 .f32
  tg : FVec F S256x1024 .f32
  wa : FVec F S512x1024 .bf16
  wb : FVec F S512x1024 .bf16
  wo : FVec F S1024x1024 .bf16
  w1 : Fin 4 → FVec F S1024x1024 .bf16
  w2 : Fin 4 → FVec F S1024x1024 .bf16
  g1 : FVec F S1x1024 .f32
  b1 : FVec F S1x1024 .f32
  g2 : FVec F S1x1024 .f32
  b2 : FVec F S1x1024 .f32

namespace Block
variable {F : FTy → Type} [FloatOps F] [Facts₀] (b : Block F) (rb : Fin 4 → FVec F S256x1024 .bf16)

def p1 : FVec F S256x1024 .f32 := addf (scale b.x) (addf (half b.ch b.wa) (half b.cc b.wb))
def h : FVec F S256x1024 .f32 := addf (mulf (hat b.p1) (tall b.g1)) (tall b.b1)
def act (j : Fin 4) : FVec F S256x1024 .f32 := maximumf (up (low b.h) (b.w1 j)) zeros
def r (j : Fin 4) : FVec F S256x1024 .bf16 := low (mulf (b.act j) (b.act j))
def mlp : FVec F S256x1024 .f32 := addf (addf (addf (addf zeros (up (b.r 0) (b.w2 0))) (up (b.r 1) (b.w2 1))) (up (b.r 2) (b.w2 2))) (up (b.r 3) (b.w2 3))
def p2 : FVec F S256x1024 .f32 := addf (scale b.h) b.mlp
def err : FVec F S256x1024 .f32 := subf (addf (mulf (hat b.p2) (tall b.g2)) (tall b.b2)) b.tg
def dy : FVec F S256x1024 .f32 := mulf b.err (broadcast S256x1024 (Scalar.ofBits .f32 0x3A800000#32))
def loss (acc : FVec F S8x128 .f32) : FVec F S8x128 .f32 :=
  addf (shapeCast S8x128 acc shapeCasts_S8x128_S8x128) (broadcast S8x128 (Scalar.mulf (Scalar.ofBits .f32 0x3F000000#32) (total (rowMean (mulf b.err b.err)))))
def dg2 (acc : FVec F S1x1024 .f32) : FVec F S1x1024 .f32 := addf (shapeCast S1x1024 acc shapeCasts_S1x1024_S1x1024) (colSum (mulf b.dy (hat b.p2)))
def db2 (acc : FVec F S1x1024 .f32) : FVec F S1x1024 .f32 := addf (shapeCast S1x1024 acc shapeCasts_S1x1024_S1x1024) (colSum b.dy)
def dp2 : FVec F S256x1024 .f32 := lnBwd (mulf b.dy (tall b.g2)) (hat b.p2) (rstd b.p2)
/-- The activation's cotangent, of the activation's square `rb` read back. -/
def da (j : Fin 4) : FVec F S256x1024 .bf16 :=
  low (mulf (down (low b.dp2) (b.w2 j)) (mulf (broadcast S256x1024 (Scalar.ofBits .f32 0x40000000#32)) (root (rb j))))
def back : FVec F S256x1024 .f32 :=
  addf (addf (addf (addf zeros (down (b.da rb 0) (b.w1 0))) (down (b.da rb 1) (b.w1 1))) (down (b.da rb 2) (b.w1 2))) (down (b.da rb 3) (b.w1 3))
def dh : FVec F S256x1024 .f32 := addf (scale b.dp2) (b.back rb)
def dg1 (acc : FVec F S1x1024 .f32) : FVec F S1x1024 .f32 := addf (shapeCast S1x1024 acc shapeCasts_S1x1024_S1x1024) (colSum (mulf (b.dh rb) (hat b.p1)))
def db1 (acc : FVec F S1x1024 .f32) : FVec F S1x1024 .f32 := addf (shapeCast S1x1024 acc shapeCasts_S1x1024_S1x1024) (colSum (b.dh rb))
def dp1 : FVec F S256x1024 .f32 := lnBwd (mulf (b.dh rb) (tall b.g1)) (hat b.p1) (rstd b.p1)
def dcat : FVec F S256x1024 .f32 := down (low (b.dp1 rb)) b.wo
def dwoA (acc : FVec F S512x1024 .f32) : FVec F S512x1024 .f32 := shapeCast S512x1024 (addf acc (outer b.ch (low (b.dp1 rb)))) shapeCasts_S512x1024_S512x1024
def dwoB (acc : FVec F S512x1024 .f32) : FVec F S512x1024 .f32 := shapeCast S512x1024 (addf acc (outer b.cc (low (b.dp1 rb)))) shapeCasts_S512x1024_S512x1024

end Block

/-! Their entries over the reals. -/
section
variable [Facts₀] {X Y : FVec Ideal S256x1024 .f32} {f g : ℕ → ℕ → ℝ}

theorem zeros_is : Mat (zeros (F := Ideal)) fun _ _ => 0 := fun _ => zero_is
theorem rowMean_is (h : Mat X f) : Mat (rowMean X) fun i _ => mean (f i) := Mat.of fun r j => by
  unfold rowMean
  pointwise []
  rw [width_is, sum_is (g := f r) fun k => h (ix2 r k), coe_div (by norm_num)]
  rfl
theorem wide_is {v : FVec Ideal S256x1 .f32} {u : ℕ → ℝ} (h : Mat v fun i _ => u i) : Mat (wide v) fun i _ => u i := Mat.of fun r j => by
  unfold wide
  pointwise []
  exact h _
theorem tall_is {v : FVec Ideal S1x1024 .f32} {u : ℕ → ℝ} (h : Mat v fun _ j => u j) : Mat (tall v) fun _ j => u j := Mat.of fun r j => by
  unfold tall
  pointwise []
  exact h _
theorem colSum_is (h : Mat X f) : Mat (colSum X) fun _ j => ∑ i ∈ Finset.range 256, f i j := Mat.of fun r j => by
  unfold colSum
  pointwise []
  exact sum_is (g := fun k => f k j) fun k => h (ix2 k j)
theorem scale_is (h : Mat X f) : Mat (scale X) fun i n => alpha * f i n := (Mat.const alpha_is).mul h
theorem root_is {R : FVec Ideal S256x1024 .bf16} {s : ℕ → ℕ → ℝ} (h : Mat R s) (h0 : ∀ i j, 0 ≤ s i j) : Mat (root R) fun i n => Real.sqrt (s i n) := Mat.of fun r j => by
  unfold root
  pointwise []
  exact (congrArg Ideal.sqrt (h (ix2 r j))).trans (coe_sqrt (h0 _ _))
theorem half_is' {a : FVec Ideal S256x512 .bf16} {w : FVec Ideal S512x1024 .bf16} {s t : ℕ → ℕ → ℝ} (ha : Mat a s) (hw : Mat w t) : Mat (half a w) fun i n => ∑ k ∈ Finset.range 512, s i k * t k n := Mat.of fun r j => by
  unfold half
  pointwise []
  exact dot_is (g := fun k => s r k) (d := fun k => t k j) (fun k => ha (ix2 r k)) fun k => hw (ix2 k j)
theorem up_is {a : FVec Ideal S256x1024 .bf16} {w : FVec Ideal S1024x1024 .bf16} {s t : ℕ → ℕ → ℝ} (ha : Mat a s) (hw : Mat w t) : Mat (up a w) fun i n => ∑ k ∈ Finset.range 1024, s i k * t k n := Mat.of fun r j => by
  unfold up
  pointwise []
  exact dot_is (g := fun k => s r k) (d := fun k => t k j) (fun k => ha (ix2 r k)) fun k => hw (ix2 k j)
theorem down_is {a : FVec Ideal S256x1024 .bf16} {w : FVec Ideal S1024x1024 .bf16} {s t : ℕ → ℕ → ℝ} (ha : Mat a s) (hw : Mat w t) : Mat (down a w) fun i n => ∑ k ∈ Finset.range 1024, s i k * t n k := Mat.of fun r j => by
  unfold down
  pointwise []
  exact dot_is (g := fun k => s r k) (d := fun k => t j k) (fun k => ha (ix2 r k)) fun k => hw (ix2 j k)
theorem outer_is {a : FVec Ideal S256x512 .bf16} {w : FVec Ideal S256x1024 .bf16} {s t : ℕ → ℕ → ℝ} (ha : Mat a s) (hw : Mat w t) : Mat (outer a w) fun k n => ∑ i ∈ Finset.range 256, s i k * t i n := Mat.of fun r j => by
  unfold outer
  pointwise []
  exact dot_is (g := fun k => s k r) (d := fun k => t k j) (fun k => ha (ix2 k r)) fun k => hw (ix2 k j)
theorem total_of {v : FVec Ideal S256x1 .f32} {u : ℕ → ℝ} (h : Mat v fun i _ => u i) : total v = ((∑ i ∈ Finset.range 256, u i : ℝ) : EReal) := by
  unfold total
  pointwise []
  refine sum_is fun k => ?_
  rw [Fin.sum_univ_one]
  exact h (ix2 k 0)

theorem cent_is (h : Mat X f) : Mat (Rows.cent X) fun i => Layer.cent (f i) := h.sub (wide_is (rowMean_is h))
theorem rstd_is (h : Mat X f) : Mat (Rows.rstd X) fun i _ => Layer.rstd (f i) :=
  ((rowMean_is ((cent_is h).mul (cent_is h))).add (Mat.const eps_is)).rsqrt fun i _ => var_pos (f i)
theorem hat_is (h : Mat X f) : Mat (Rows.hat X) fun i => Layer.hat (f i) := (cent_is h).mul (wide_is (rstd_is h))
theorem lnBwd_is {D : FVec Ideal S256x1024 .f32} {d : ℕ → ℕ → ℝ} (hD : Mat D d) (h : Mat X f) : Mat (Rows.lnBwd D (Rows.hat X) (Rows.rstd X)) fun i => Layer.lnBwd (d i) (f i) :=
  (wide_is (rstd_is h)).mul ((hD.sub (wide_is (rowMean_is hD))).sub ((hat_is h).mul (wide_is (rowMean_is (hD.mul (hat_is h))))))
end

/-- The block's entries are the first rows of `S`, and its weights those of `S`. -/
structure Holds (b : Block Ideal) (S : Args) : Prop where
  ch : Mat b.ch S.ch
  cc : Mat b.cc S.cc
  x : Mat b.x S.x
  tg : Mat b.tg S.tg
  wa : Mat b.wa S.wo
  wb : Mat b.wb fun k n => S.wo (512 + k) n
  wo : Mat b.wo S.wo
  w1 : ∀ j : Fin 4, Mat (b.w1 j) fun n f => S.w1 n (1024 * j.val + f)
  w2 : ∀ j : Fin 4, Mat (b.w2 j) fun f n => S.w2 (1024 * j.val + f) n
  g1 : Mat b.g1 fun _ => S.g1
  b1 : Mat b.b1 fun _ => S.b1
  g2 : Mat b.g2 fun _ => S.g2
  b2 : Mat b.b2 fun _ => S.b2

namespace Holds
variable [Facts₀] {b : Block Ideal} {S : Args} (H : Holds b S)
include H

theorem p1 : Mat b.p1 S.p1 := (scale_is H.x).add ((half_is' H.ch H.wa).add (half_is' H.cc H.wb))
theorem h : Mat b.h S.h := ((hat_is H.p1).mul (tall_is H.g1)).add (tall_is H.b1)
theorem hl : Mat (low b.h) S.h := H.h
theorem act (j : Fin 4) : Mat (b.act j) fun i f => S.act i (1024 * j.val + f) := (up_is H.hl (H.w1 j)).max zeros_is
theorem r (j : Fin 4) : Mat (b.r j) fun i f => S.r i (1024 * j.val + f) := (H.act j).mul (H.act j)
theorem mlp : Mat b.mlp fun i n => ∑ f ∈ Finset.range 4096, S.r i f * S.w2 f n :=
  (((((zeros_is.add (up_is (H.r 0) (H.w2 0))).add (up_is (H.r 1) (H.w2 1))).add (up_is (H.r 2) (H.w2 2))).add (up_is (H.r 3) (H.w2 3)))).congr fun i n _ _ => by
    rw [sum_four]
    simp
theorem p2 : Mat b.p2 S.p2 := (scale_is H.h).add H.mlp
theorem err : Mat b.err S.err := (((hat_is H.p2).mul (tall_is H.g2)).add (tall_is H.b2)).sub H.tg
theorem dy : Mat b.dy S.dy := H.err.mul (Mat.const share_is)
theorem loss {acc : FVec Ideal S8x128 .f32} {T : ℝ} (ha : Mat acc fun _ _ => T) : Mat (b.loss acc) fun _ _ => T + S.loss 256 := Mat.of fun i j => by
  have e := total_of (rowMean_is (H.err.mul H.err))
  unfold Block.loss
  pointwise []
  show acc (ix2 i j) + Ideal.ofBits .f32 0x3F000000#32 * total (rowMean (mulf b.err b.err)) = _
  rw [half_is, ha]
  refine (congrArg _ (congrArg _ e)).trans ?_
  rw [← EReal.coe_mul, ← EReal.coe_add]
  rfl
theorem dg2 {acc : FVec Ideal S1x1024 .f32} {T : ℕ → ℝ} (ha : Mat acc fun _ => T) : Mat (b.dg2 acc) fun _ n => T n + S.dg2 256 n := Mat.of fun i j => by
  have e := colSum_is (H.dy.mul (hat_is H.p2)) (ix2 i j)
  unfold Block.dg2
  pointwise []
  rw [EReal.coe_add]
  exact congrArg₂ (· + ·) (ha _) e
theorem db2 {acc : FVec Ideal S1x1024 .f32} {T : ℕ → ℝ} (ha : Mat acc fun _ => T) : Mat (b.db2 acc) fun _ n => T n + S.db2 256 n := Mat.of fun i j => by
  have e := colSum_is H.dy (ix2 i j)
  unfold Block.db2
  pointwise []
  rw [EReal.coe_add]
  exact congrArg₂ (· + ·) (ha _) e
theorem dp2 : Mat b.dp2 S.dp2 := lnBwd_is (H.dy.mul (tall_is H.g2)) H.p2
theorem dp2l : Mat (low b.dp2) S.dp2 := H.dp2
theorem da (j : Fin 4) : Mat (b.da b.r j) fun i f => S.da i (1024 * j.val + f) :=
  ((down_is H.dp2l (H.w2 j)).mul ((Mat.const two_is).mul (root_is (H.r j) fun i _ => S.r_nonneg i _))).congr fun i f _ _ => by
    rw [S.sqrt_r]
    rfl
theorem back : Mat (b.back b.r) fun i n => ∑ f ∈ Finset.range 4096, S.da i f * S.w1 n f :=
  (((((zeros_is.add (down_is (H.da 0) (H.w1 0))).add (down_is (H.da 1) (H.w1 1))).add (down_is (H.da 2) (H.w1 2))).add (down_is (H.da 3) (H.w1 3)))).congr fun i n _ _ => by
    rw [sum_four]
    simp
theorem dh : Mat (b.dh b.r) S.dh := (scale_is H.dp2).add H.back
theorem dg1 {acc : FVec Ideal S1x1024 .f32} {T : ℕ → ℝ} (ha : Mat acc fun _ => T) : Mat (b.dg1 b.r acc) fun _ n => T n + S.dg1 256 n := Mat.of fun i j => by
  have e := colSum_is (H.dh.mul (hat_is H.p1)) (ix2 i j)
  unfold Block.dg1
  pointwise []
  rw [EReal.coe_add]
  exact congrArg₂ (· + ·) (ha _) e
theorem db1 {acc : FVec Ideal S1x1024 .f32} {T : ℕ → ℝ} (ha : Mat acc fun _ => T) : Mat (b.db1 b.r acc) fun _ n => T n + S.db1 256 n := Mat.of fun i j => by
  have e := colSum_is H.dh (ix2 i j)
  unfold Block.db1
  pointwise []
  rw [EReal.coe_add]
  exact congrArg₂ (· + ·) (ha _) e
theorem dp1 : Mat (b.dp1 b.r) S.dp1 := lnBwd_is (H.dh.mul (tall_is H.g1)) H.p1
theorem dp1l : Mat (low (b.dp1 b.r)) S.dp1 := H.dp1
theorem dcat : Mat (b.dcat b.r) S.dcat := down_is H.dp1l H.wo
theorem dwoA {acc : FVec Ideal S512x1024 .f32} {T : ℕ → ℕ → ℝ} (ha : Mat acc T) : Mat (b.dwoA b.r acc) fun k n => T k n + S.dwo 256 k n := Mat.of fun k n => by
  have e := outer_is H.ch H.dp1l (ix2 k n)
  unfold Block.dwoA
  pointwise []
  rw [EReal.coe_add]
  refine congrArg₂ (· + ·) (ha _) (e.trans (congrArg _ (Finset.sum_congr rfl fun i _ => ?_)))
  rw [Args.cat, if_pos k.isLt]
  rfl
theorem dwoB {acc : FVec Ideal S512x1024 .f32} {T : ℕ → ℕ → ℝ} (ha : Mat acc T) : Mat (b.dwoB b.r acc) fun k n => T k n + S.dwo 256 (512 + k) n := Mat.of fun k n => by
  have e := outer_is H.cc H.dp1l (ix2 k n)
  unfold Block.dwoB
  pointwise []
  rw [EReal.coe_add]
  refine congrArg₂ (· + ·) (ha _) (e.trans (congrArg _ (Finset.sum_congr rfl fun i _ => ?_)))
  rw [Args.cat, if_neg (by omega), Nat.add_sub_cancel_left]
  rfl

end Holds

end Cert.Kernel2Ideal.Rows
end
-- ==== Proof.LayerBridge.lean ====
/- What a grid point stores, from the blocks it loads. -/
module

public import proofs.«01_k».proof.Proof.LayerBlock
public import proofs.«01_k».proof.Proof.Gen.Kernel2Ideal.Frame
public import Idealize.ShloMosaic.Lib.Pipeline.ValueKit
public import Idealize.ShloMosaic.Lib.Pipeline.ReadBack

@[expose] public section

noncomputable section

namespace Cert.Kernel2Ideal.Rows

open Cert.Kernel2Ideal Cert.Kernel2Ideal.Gen Idealize.ShloMosaic Idealize.ShloMosaic.TcCoe Idealize.ShloMosaic.Tactic Idealize.SL.Sem

variable {F : FTy → Type} [FloatOps F]

/-- What a point's loads give. -/
def loads (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : Block F where
  ch := View.readAt (Elt F) arg1.view (Rect.unit ![0, 0] S256x512.size inb_S256x512_S256x512_0_0 : Rect S256x512).toLoadRect (harg1.unread x0)
  cc := View.readAt (Elt F) arg2.view (Rect.unit ![0, 0] S256x512.size inb_S256x512_S256x512_0_0 : Rect S256x512).toLoadRect (harg2.unread x1)
  x := View.readAt (Elt F) arg3.view (Rect.unit ![0, 0] S256x1024.size inb_S256x1024_S256x1024_0_0 : Rect S256x1024).toLoadRect (harg3.unread x2)
  tg := View.readAt (Elt F) arg4.view (Rect.unit ![0, 0] S256x1024.size inb_S256x1024_S256x1024_0_0 : Rect S256x1024).toLoadRect (harg4.unread x3)
  wa := View.readAt (Elt F) arg5.view (Rect.unit ![0, 0] S512x1024.size inb_S1024x1024_S512x1024_0_0 : Rect S1024x1024).toLoadRect (harg5.unread x4)
  wb := View.readAt (Elt F) arg5.view (Rect.unit ![512, 0] S512x1024.size inb_S1024x1024_S512x1024_512_0 : Rect S1024x1024).toLoadRect (harg5.unread x4)
  wo := View.readAt (Elt F) arg5.view (Rect.unit ![0, 0] S1024x1024.size inb_S1024x1024_S1024x1024_0_0 : Rect S1024x1024).toLoadRect (harg5.unread x4)
  w1 := ![View.readAt (Elt F) arg6.view (Rect.unit ![0, 0] S1024x1024.size inb_S1024x4096_S1024x1024_0_0 : Rect S1024x4096).toLoadRect (harg6.unread x5),
    View.readAt (Elt F) arg6.view (Rect.unit ![0, 1024] S1024x1024.size inb_S1024x4096_S1024x1024_0_1024 : Rect S1024x4096).toLoadRect (harg6.unread x5),
    View.readAt (Elt F) arg6.view (Rect.unit ![0, 2048] S1024x1024.size inb_S1024x4096_S1024x1024_0_2048 : Rect S1024x4096).toLoadRect (harg6.unread x5),
    View.readAt (Elt F) arg6.view (Rect.unit ![0, 3072] S1024x1024.size inb_S1024x4096_S1024x1024_0_3072 : Rect S1024x4096).toLoadRect (harg6.unread x5)]
  w2 := ![View.readAt (Elt F) arg7.view (Rect.unit ![0, 0] S1024x1024.size inb_S4096x1024_S1024x1024_0_0 : Rect S4096x1024).toLoadRect (harg7.unread x6),
    View.readAt (Elt F) arg7.view (Rect.unit ![1024, 0] S1024x1024.size inb_S4096x1024_S1024x1024_1024_0 : Rect S4096x1024).toLoadRect (harg7.unread x6),
    View.readAt (Elt F) arg7.view (Rect.unit ![2048, 0] S1024x1024.size inb_S4096x1024_S1024x1024_2048_0 : Rect S4096x1024).toLoadRect (harg7.unread x6),
    View.readAt (Elt F) arg7.view (Rect.unit ![3072, 0] S1024x1024.size inb_S4096x1024_S1024x1024_3072_0 : Rect S4096x1024).toLoadRect (harg7.unread x6)]
  g1 := View.readAt (Elt F) arg8.view (Rect.unit ![0, 0] S1x1024.size inb_S1x1024_S1x1024_0_0 : Rect S1x1024).toLoadRect (harg8.unread x7)
  b1 := View.readAt (Elt F) arg9.view (Rect.unit ![0, 0] S1x1024.size inb_S1x1024_S1x1024_0_0 : Rect S1x1024).toLoadRect (harg9.unread x8)
  g2 := View.readAt (Elt F) arg10.view (Rect.unit ![0, 0] S1x1024.size inb_S1x1024_S1x1024_0_0 : Rect S1x1024).toLoadRect (harg10.unread x9)
  b2 := View.readAt (Elt F) arg11.view (Rect.unit ![0, 0] S1x1024.size inb_S1x1024_S1x1024_0_0 : Rect S1x1024).toLoadRect (harg11.unread x10)

/-- The same, off the blocks themselves. -/
def blockOf (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : Block F where
  ch := x0
  cc := x1
  x := x2
  tg := x3
  wa := View.ld (Val := Elt F) (e' := .bf16) x4 (Rect.unit ![0, 0] S512x1024.size inb_S1024x1024_S512x1024_0_0 : Rect S1024x1024)
  wb := View.ld (Val := Elt F) (e' := .bf16) x4 (Rect.unit ![512, 0] S512x1024.size inb_S1024x1024_S512x1024_512_0 : Rect S1024x1024)
  wo := x4
  w1 := ![View.ld (Val := Elt F) (e' := .bf16) x5 (Rect.unit ![0, 0] S1024x1024.size inb_S1024x4096_S1024x1024_0_0 : Rect S1024x4096),
    View.ld (Val := Elt F) (e' := .bf16) x5 (Rect.unit ![0, 1024] S1024x1024.size inb_S1024x4096_S1024x1024_0_1024 : Rect S1024x4096),
    View.ld (Val := Elt F) (e' := .bf16) x5 (Rect.unit ![0, 2048] S1024x1024.size inb_S1024x4096_S1024x1024_0_2048 : Rect S1024x4096),
    View.ld (Val := Elt F) (e' := .bf16) x5 (Rect.unit ![0, 3072] S1024x1024.size inb_S1024x4096_S1024x1024_0_3072 : Rect S1024x4096)]
  w2 := ![View.ld (Val := Elt F) (e' := .bf16) x6 (Rect.unit ![0, 0] S1024x1024.size inb_S4096x1024_S1024x1024_0_0 : Rect S4096x1024),
    View.ld (Val := Elt F) (e' := .bf16) x6 (Rect.unit ![1024, 0] S1024x1024.size inb_S4096x1024_S1024x1024_1024_0 : Rect S4096x1024),
    View.ld (Val := Elt F) (e' := .bf16) x6 (Rect.unit ![2048, 0] S1024x1024.size inb_S4096x1024_S1024x1024_2048_0 : Rect S4096x1024),
    View.ld (Val := Elt F) (e' := .bf16) x6 (Rect.unit ![3072, 0] S1024x1024.size inb_S4096x1024_S1024x1024_3072_0 : Rect S4096x1024)]
  g1 := x7
  b1 := x8
  g2 := x9
  b2 := x10

section
variable {A B : ℕ} {e : EltTy} (a : Memref sig .tc .vmem ⟨2, ![A, B]⟩ e) (ha : a.IsWhole) (x : Vec F ⟨2, ![A, B]⟩ e)
theorem readAt_part (r : Rect ⟨2, ![A, B]⟩) : View.readAt (Elt F) a.view r.toLoadRect (ha.unread x) = View.ld (Val := Elt F) (e' := e) x r := by
  rw [View.readAt_eq_ld, ha.read_unread]
theorem readAt_all (inb : ∀ k, (![0, 0] : Fin 2 → ℕ) k + (![A, B] : Fin 2 → ℕ) k ≤ (![A, B] : Fin 2 → ℕ) k) :
    View.readAt (Elt F) a.view (Rect.unit ![0, 0] ![A, B] inb : Rect ⟨2, ![A, B]⟩).toLoadRect (ha.unread x) = x := by
  rw [View.readAt_eq_ld, ha.read_unread]
  exact View.ld_unit_lit _ _ (fun k => by match k with | 0 => rfl | 1 => rfl)
end

theorem loads_eq (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) :
    loads arg1 harg1 arg2 harg2 arg3 harg3 arg4 harg4 arg5 harg5 arg6 harg6 arg7 harg7 arg8 harg8 arg9 harg9 arg10 harg10 arg11 harg11 x0 x1 x2 x3 x4 x5 x6 x7 x8 x9 x10 = blockOf x0 x1 x2 x3 x4 x5 x6 x7 x8 x9 x10 := by
  unfold loads blockOf
  congr 1
  · exact readAt_all arg1 harg1 x0 _
  · exact readAt_all arg2 harg2 x1 _
  · exact readAt_all arg3 harg3 x2 _
  · exact readAt_all arg4 harg4 x3 _
  · exact readAt_part arg5 harg5 x4 _
  · exact readAt_part arg5 harg5 x4 _
  · exact readAt_all arg5 harg5 x4 _
  · exact congrArg₂ Matrix.vecCons (readAt_part arg6 harg6 x5 _) (congrArg₂ Matrix.vecCons (readAt_part arg6 harg6 x5 _) (congrArg₂ Matrix.vecCons (readAt_part arg6 harg6 x5 _) (congrArg₂ Matrix.vecCons (readAt_part arg6 harg6 x5 _) rfl)))
  · exact congrArg₂ Matrix.vecCons (readAt_part arg7 harg7 x6 _) (congrArg₂ Matrix.vecCons (readAt_part arg7 harg7 x6 _) (congrArg₂ Matrix.vecCons (readAt_part arg7 harg7 x6 _) (congrArg₂ Matrix.vecCons (readAt_part arg7 harg7 x6 _) rfl)))
  · exact readAt_all arg8 harg8 x7 _
  · exact readAt_all arg9 harg9 x8 _
  · exact readAt_all arg10 harg10 x9 _
  · exact readAt_all arg11 harg11 x10 _

/-! The pieces a point stores. -/
section
variable (b : Block F) (rb : Fin 4 → FVec F S256x1024 .bf16)
def pc11 : List (View.Piece (Elt F) S256x1024 .bf16) := [⟨Rect.unit ![0, 0] S256x1024.size inb_S256x1024_S256x1024_0_0, low b.h⟩]
def pc12 : List (View.Piece (Elt F) S256x4096 .bf16) :=
  [⟨Rect.unit ![0, 3072] S256x1024.size inb_S256x4096_S256x1024_0_3072, b.r 3⟩, ⟨Rect.unit ![0, 2048] S256x1024.size inb_S256x4096_S256x1024_0_2048, b.r 2⟩,
   ⟨Rect.unit ![0, 1024] S256x1024.size inb_S256x4096_S256x1024_0_1024, b.r 1⟩, ⟨Rect.unit ![0, 0] S256x1024.size inb_S256x4096_S256x1024_0_0, b.r 0⟩]
def pc13 : List (View.Piece (Elt F) S256x4096 .bf16) :=
  [⟨Rect.unit ![0, 3072] S256x1024.size inb_S256x4096_S256x1024_0_3072, b.da rb 3⟩, ⟨Rect.unit ![0, 2048] S256x1024.size inb_S256x4096_S256x1024_0_2048, b.da rb 2⟩,
   ⟨Rect.unit ![0, 1024] S256x1024.size inb_S256x4096_S256x1024_0_1024, b.da rb 1⟩, ⟨Rect.unit ![0, 0] S256x1024.size inb_S256x4096_S256x1024_0_0, b.da rb 0⟩]
def pc14 : List (View.Piece (Elt F) S256x1024 .bf16) := [⟨Rect.unit ![0, 0] S256x1024.size inb_S256x1024_S256x1024_0_0, low b.dp2⟩]
def pc15 : List (View.Piece (Elt F) S256x1024 .f32) := [⟨Rect.unit ![0, 0] S256x1024.size inb_S256x1024_S256x1024_0_0, b.dp1 rb⟩]
def pc16 : List (View.Piece (Elt F) S256x1024 .f32) := [⟨Rect.unit ![0, 0] S256x1024.size inb_S256x1024_S256x1024_0_0, b.dcat rb⟩]
def row (v : FVec F S1x1024 .f32) : List (View.Piece (Elt F) S1x1024 .f32) := [⟨Rect.unit ![0, 0] S1x1024.size inb_S1x1024_S1x1024_0_0, v⟩]
def pc21 (v : FVec F S8x128 .f32) : List (View.Piece (Elt F) S8x128 .f32) := [⟨Rect.unit ![0, 0] S8x128.size inb_S8x128_S8x128_0_0, v⟩]
def pcS (u v : FVec F S512x1024 .f32) : List (View.Piece (Elt F) S1024x1024 .f32) :=
  [⟨Rect.unit ![512, 0] S512x1024.size inb_S1024x1024_S512x1024_512_0, v⟩, ⟨Rect.unit ![0, 0] S512x1024.size inb_S1024x1024_S512x1024_0_0, u⟩]

/-- The activation's square is read back as it was stored. -/
theorem readBack (a : Memref sig .tc .vmem S256x4096 .bf16) :
    ![a.view.readCov (pc12 b) (Rect.unit ![0, 0] S256x1024.size inb_S256x4096_S256x1024_0_0 : Rect S256x4096).toLoadRect,
      a.view.readCov (pc12 b) (Rect.unit ![0, 1024] S256x1024.size inb_S256x4096_S256x1024_0_1024 : Rect S256x4096).toLoadRect,
      a.view.readCov (pc12 b) (Rect.unit ![0, 2048] S256x1024.size inb_S256x4096_S256x1024_0_2048 : Rect S256x4096).toLoadRect,
      a.view.readCov (pc12 b) (Rect.unit ![0, 3072] S256x1024.size inb_S256x4096_S256x1024_0_3072 : Rect S256x4096).toLoadRect] = b.r := by
  unfold pc12
  simp (disch := decide) only [↓ View.readCov_skip, ↓ View.readCov_cons_toLoadRect]
  funext j
  match j with
  | 0 => rfl
  | 1 => rfl
  | 2 => rfl
  | 3 => rfl
end

/-! The accumulators' start. -/
def zRow : FVec F S1x1024 .f32 := broadcast S1x1024 (Scalar.ofBits .f32 0x00000000#32)
def zLoss : FVec F S8x128 .f32 := broadcast S8x128 (Scalar.ofBits .f32 0x00000000#32)
def zHalf : FVec F S512x1024 .f32 := broadcast S512x1024 (Scalar.ofBits .f32 0x00000000#32)
theorem start17 (c : Dev nD) (a : Memref sig .tc .vmem S1x1024 .f32) : kernelRun0_A.sl.v217 (F := F) c a = zRow := by
  unfold kernelRun0_A.sl.v217 kernelRun0_A.sl.H17_1
  rw [View.readCov_cons_toLoadRect]
  rfl
theorem start18 (c : Dev nD) (a : Memref sig .tc .vmem S1x1024 .f32) : kernelRun0_A.sl.v224 (F := F) c a = zRow := by
  unfold kernelRun0_A.sl.v224 kernelRun0_A.sl.H18_1
  rw [View.readCov_cons_toLoadRect]
  rfl
theorem start19 (c : Dev nD) (a : Memref sig .tc .vmem S1x1024 .f32) : kernelRun0_A.sl.v123 (F := F) c a = zRow := by
  unfold kernelRun0_A.sl.v123 kernelRun0_A.sl.H19_1
  rw [View.readCov_cons_toLoadRect]
  rfl
theorem start20 (c : Dev nD) (a : Memref sig .tc .vmem S1x1024 .f32) : kernelRun0_A.sl.v130 (F := F) c a = zRow := by
  unfold kernelRun0_A.sl.v130 kernelRun0_A.sl.H20_1
  rw [View.readCov_cons_toLoadRect]
  rfl
theorem start21 (c : Dev nD) (a : Memref sig .tc .vmem S8x128 .f32) : kernelRun0_A.sl.v106 (F := F) c a = zLoss := by
  unfold kernelRun0_A.sl.v106 kernelRun0_A.sl.H21_1
  rw [View.readCov_cons_toLoadRect]
  rfl
theorem pay6 : k0_pay6 (F := F) = broadcast S1024x1024 (Scalar.ofBits .f32 0x00000000#32) := shapeCast_self _ _
theorem startA (c : Dev nD) (a : Memref sig .tc .vmem S1024x1024 .f32) : kernelRun0_A.sl.v254 (F := F) c a = zHalf := by
  unfold kernelRun0_A.sl.v254 kernelRun0_A.sl.HS0_1
  simp (disch := decide) only [↓ View.readCov_fill, pay6]
  rfl

/-- What is read back of the activation's square. -/
def backA (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : Fin 4 → FVec F S256x1024 .bf16 :=
  ![kernelRun0_A.sl.v160 c arg1 harg1 arg2 harg2 arg3 harg3 arg5 harg5 arg6 harg6 arg8 harg8 arg9 harg9 arg13 x0 x1 x2 x4 x5 x7 x8, kernelRun0_A.sl.v174 c arg1 harg1 arg2 harg2 arg3 harg3 arg5 harg5 arg6 harg6 arg8 harg8 arg9 harg9 arg13 x0 x1 x2 x4 x5 x7 x8, kernelRun0_A.sl.v188 c arg1 harg1 arg2 harg2 arg3 harg3 arg5 harg5 arg6 harg6 arg8 harg8 arg9 harg9 arg13 x0 x1 x2 x4 x5 x7 x8, kernelRun0_A.sl.v202 c arg1 harg1 arg2 harg2 arg3 harg3 arg5 harg5 arg6 harg6 arg8 harg8 arg9 harg9 arg13 x0 x1 x2 x4 x5 x7 x8]
theorem rawA (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10 = ![arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 0] S256x1024.size inb_S256x4096_S256x1024_0_0 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 1024] S256x1024.size inb_S256x4096_S256x1024_0_1024 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 2048] S256x1024.size inb_S256x4096_S256x1024_0_2048 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 3072] S256x1024.size inb_S256x4096_S256x1024_0_3072 : Rect S256x4096).toLoadRect] := by sl_kernel_rfl
theorem backA_eq (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10 = (blockOf x0 x1 x2 x3 x4 x5 x6 x7 x8 x9 x10).r := by
  rw [rawA, readBack, loads_eq]

section
variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : cond0_0 i) (hc1 : ¬cond0_1 i) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32)

theorem l11_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).1 = pc11 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l12_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.1 = pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l13_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.1 = pc13 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l14_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.1 = pc14 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l15_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.1 = pc15 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l16_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.2.1 = pc16 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l17_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.2.2.1 = row (Block.dg1 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (kernelRun0_A.sl.v217 c arg18)) ++ kernelRun0_A.sl.H17_1 := by sl_kernel_rfl
theorem l18_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.2.2.2.1 = row (Block.db1 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (kernelRun0_A.sl.v224 c arg19)) ++ kernelRun0_A.sl.H18_1 := by sl_kernel_rfl
theorem l19_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.2.2.2.2.1 = row (Block.dg2 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v123 c arg20)) ++ kernelRun0_A.sl.H19_1 := by sl_kernel_rfl
theorem l20_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.2.2.2.2.2.1 = row (Block.db2 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v130 c arg21)) ++ kernelRun0_A.sl.H20_1 := by sl_kernel_rfl
theorem l21_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.2.2.2.2.2.2.1 = pc21 (Block.loss (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v106 c arg22)) ++ kernelRun0_A.sl.H21_1 := by sl_kernel_rfl
theorem l22_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10).2.2.2.2.2.2.2.2.2.2.2.1 = pcS (Block.dwoA (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (kernelRun0_A.sl.v254 c arg24)) (Block.dwoB (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backA c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (kernelRun0_A.sl.v261 c arg1 harg1 arg2 harg2 arg3 harg3 arg4 harg4 arg5 harg5 arg6 harg6 arg7 harg7 arg8 harg8 arg9 harg9 arg10 harg10 arg11 harg11 arg13 arg24 x0 x1 x2 x3 x4 x5 x6 x7 x8 x9 x10)) ++ kernelRun0_A.sl.HS0_1 := by sl_kernel_rfl
theorem startB : kernelRun0_A.sl.v261 c arg1 harg1 arg2 harg2 arg3 harg3 arg4 harg4 arg5 harg5 arg6 harg6 arg7 harg7 arg8 harg8 arg9 harg9 arg10 harg10 arg11 harg11 arg13 arg24 x0 x1 x2 x3 x4 x5 x6 x7 x8 x9 x10 = zHalf := by
  unfold kernelRun0_A.sl.v261 kernelRun0_A.sl.HS0_2 kernelRun0_A.sl.HS0_1
  simp (disch := decide) only [↓ View.readCov_skip, ↓ View.readCov_fill, pay6]
  rfl
theorem out11_A : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = low (Block.h (blockOf x0 x1 x2 x3 x4 x5 x6 x7 x8 x9 x10)) := by
  unfold out0_A_11
  rw [View.read_writes_junk_eq_canon, l11_A, loads_eq]
  exact View.canon_cons_unit_lit _ _ _ (by decide)
theorem out12_A : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = View.canon (pc12 (blockOf x0 x1 x2 x3 x4 x5 x6 x7 x8 x9 x10)) := by
  unfold out0_A_12
  rw [View.read_writes_junk_eq_canon, l12_A, loads_eq]
theorem out13_A : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = View.canon (pc13 (blockOf x0 x1 x2 x3 x4 x5 x6 x7 x8 x9 x10) (Block.r (blockOf x0 x1 x2 x3 x4 x5 x6 x7 x8 x9 x10))) := by
  unfold out0_A_13
  rw [View.read_writes_junk_eq_canon, l13_A, loads_eq, backA_eq]
theorem out14_A : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = low (Block.dp2 (blockOf x0 x1 x2 x3 x4 x5 x6 x7 x8 x9 x10)) := by
  unfold out0_A_14
  rw [View.read_writes_junk_eq_canon, l14_A, loads_eq]
  exact View.canon_cons_unit_lit _ _ _ (by decide)
theorem out15_A : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = Block.dp1 (blockOf x0 x1 x2 x3 x4 x5 x6 x7 x8 x9 x10) (Block.r (blockOf x0 x1 x2 x3 x4 x5 x6 x7 x8 x9 x10)) := by
  unfold out0_A_15
  rw [View.read_writes_junk_eq_canon, l15_A, loads_eq, backA_eq]
  exact View.canon_cons_unit_lit _ _ _ (by decide)
theorem out16_A : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = Block.dcat (blockOf x0 x1 x2 x3 x4 x5 x6 x7 x8 x9 x10) (Block.r (blockOf x0 x1 x2 x3 x4 x5 x6 x7 x8 x9 x10)) := by
  unfold out0_A_16
  rw [View.read_writes_junk_eq_canon, l16_A, loads_eq, backA_eq]
  exact View.canon_cons_unit_lit _ _ _ (by decide)
theorem out17_A : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = Block.dg1 (blockOf x0 x1 x2 x3 x4 x5 x6 x7 x8 x9 x10) (Block.r (blockOf x0 x1 x2 x3 x4 x5 x6 x7 x8 x9 x10)) zRow := by
  unfold out0_A_17
  rw [View.read_writes_junk_eq_canon, l17_A, loads_eq, backA_eq, start17]
  exact View.canon_cons_unit_lit _ _ _ (by decide)
theorem out18_A : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = Block.db1 (blockOf x0 x1 x2 x3 x4 x5 x6 x7 x8 x9 x10) (Block.r (blockOf x0 x1 x2 x3 x4 x5 x6 x7 x8 x9 x10)) zRow := by
  unfold out0_A_18
  rw [View.read_writes_junk_eq_canon, l18_A, loads_eq, backA_eq, start18]
  exact View.canon_cons_unit_lit _ _ _ (by decide)
theorem out19_A : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = Block.dg2 (blockOf x0 x1 x2 x3 x4 x5 x6 x7 x8 x9 x10) zRow := by
  unfold out0_A_19
  rw [View.read_writes_junk_eq_canon, l19_A, loads_eq, start19]
  exact View.canon_cons_unit_lit _ _ _ (by decide)
theorem out20_A : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = Block.db2 (blockOf x0 x1 x2 x3 x4 x5 x6 x7 x8 x9 x10) zRow := by
  unfold out0_A_20
  rw [View.read_writes_junk_eq_canon, l20_A, loads_eq, start20]
  exact View.canon_cons_unit_lit _ _ _ (by decide)
theorem out21_A : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = Block.loss (blockOf x0 x1 x2 x3 x4 x5 x6 x7 x8 x9 x10) zLoss := by
  unfold out0_A_21
  rw [View.read_writes_junk_eq_canon, l21_A, loads_eq, start21]
  exact View.canon_cons_unit_lit _ _ _ (by decide)
theorem scr_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 = View.canon (pcS (Block.dwoA (blockOf x0 x1 x2 x3 x4 x5 x6 x7 x8 x9 x10) (Block.r (blockOf x0 x1 x2 x3 x4 x5 x6 x7 x8 x9 x10)) zHalf) (Block.dwoB (blockOf x0 x1 x2 x3 x4 x5 x6 x7 x8 x9 x10) (Block.r (blockOf x0 x1 x2 x3 x4 x5 x6 x7 x8 x9 x10)) zHalf) ++ kernelRun0_A.sl.HS0_1) := by
  unfold sout0_A_0
  rw [View.read_writes_junk_eq_canon, l22_A, loads_eq, backA_eq, startA, startB]
end

/-- What is read back of the activation's square. -/
def backB (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : Fin 4 → FVec F S256x1024 .bf16 :=
  ![kernelRun0_B.sl.v160 c arg1 harg1 arg2 harg2 arg3 harg3 arg5 harg5 arg6 harg6 arg8 harg8 arg9 harg9 arg13 x0 x1 x2 x4 x5 x7 x8, kernelRun0_B.sl.v174 c arg1 harg1 arg2 harg2 arg3 harg3 arg5 harg5 arg6 harg6 arg8 harg8 arg9 harg9 arg13 x0 x1 x2 x4 x5 x7 x8, kernelRun0_B.sl.v188 c arg1 harg1 arg2 harg2 arg3 harg3 arg5 harg5 arg6 harg6 arg8 harg8 arg9 harg9 arg13 x0 x1 x2 x4 x5 x7 x8, kernelRun0_B.sl.v202 c arg1 harg1 arg2 harg2 arg3 harg3 arg5 harg5 arg6 harg6 arg8 harg8 arg9 harg9 arg13 x0 x1 x2 x4 x5 x7 x8]
theorem rawB (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10 = ![arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 0] S256x1024.size inb_S256x4096_S256x1024_0_0 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 1024] S256x1024.size inb_S256x4096_S256x1024_0_1024 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 2048] S256x1024.size inb_S256x4096_S256x1024_0_2048 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 3072] S256x1024.size inb_S256x4096_S256x1024_0_3072 : Rect S256x4096).toLoadRect] := by sl_kernel_rfl
theorem backB_eq (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10 = (blockOf x0 x1 x2 x3 x4 x5 x6 x7 x8 x9 x10).r := by
  rw [rawB, readBack, loads_eq]

section
variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : ¬cond0_1 i) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32)

theorem l11_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).1 = pc11 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l12_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.1 = pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l13_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.1 = pc13 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l14_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.1 = pc14 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l15_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.1 = pc15 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l16_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.1 = pc16 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l17_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.1 = row (Block.dg1 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg18.view (Rect.unit ![0, 0] S1x1024.size inb_S1x1024_S1x1024_0_0 : Rect S1x1024).toLoadRect (harg18.unread xo17))) := by sl_kernel_rfl
theorem l18_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.1 = row (Block.db1 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg19.view (Rect.unit ![0, 0] S1x1024.size inb_S1x1024_S1x1024_0_0 : Rect S1x1024).toLoadRect (harg19.unread xo18))) := by sl_kernel_rfl
theorem l19_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.1 = row (Block.dg2 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (View.readAt (Elt F) arg20.view (Rect.unit ![0, 0] S1x1024.size inb_S1x1024_S1x1024_0_0 : Rect S1x1024).toLoadRect (harg20.unread xo19))) := by sl_kernel_rfl
theorem l20_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.1 = row (Block.db2 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (View.readAt (Elt F) arg21.view (Rect.unit ![0, 0] S1x1024.size inb_S1x1024_S1x1024_0_0 : Rect S1x1024).toLoadRect (harg21.unread xo20))) := by sl_kernel_rfl
theorem l21_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.1 = pc21 (Block.loss (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (View.readAt (Elt F) arg22.view (Rect.unit ![0, 0] S8x128.size inb_S8x128_S8x128_0_0 : Rect S8x128).toLoadRect (harg22.unread xo21))) := by sl_kernel_rfl
theorem l22_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1 = pcS (Block.dwoA (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg24.view (Rect.unit ![0, 0] S512x1024.size inb_S1024x1024_S512x1024_0_0 : Rect S1024x1024).toLoadRect (harg24.unread xs0))) (Block.dwoB (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backB c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg24.view (Rect.unit ![512, 0] S512x1024.size inb_S1024x1024_S512x1024_512_0 : Rect S1024x1024).toLoadRect (harg24.unread xs0))) := by sl_kernel_rfl
theorem out11_B : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = low (Block.h (blockOf x0 x1 x2 x3 x4 x5 x6 x7 x8 x9 x10)) := by
  unfold out0_B_11
  rw [View.read_writes_junk_eq_canon, l11_B, loads_eq]
  exact View.canon_cons_unit_lit _ _ _ (by decide)
theorem out12_B : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = View.canon (pc12 (blockOf x0 x1 x2 x3 x4 x5 x6 x7 x8 x9 x10)) := by
  unfold out0_B_12
  rw [View.read_writes_junk_eq_canon, l12_B, loads_eq]
theorem out13_B : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = View.canon (pc13 (blockOf x0 x1 x2 x3 x4 x5 x6 x7 x8 x9 x10) (Block.r (blockOf x0 x1 x2 x3 x4 x5 x6 x7 x8 x9 x10))) := by
  unfold out0_B_13
  rw [View.read_writes_junk_eq_canon, l13_B, loads_eq, backB_eq]
theorem out14_B : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = low (Block.dp2 (blockOf x0 x1 x2 x3 x4 x5 x6 x7 x8 x9 x10)) := by
  unfold out0_B_14
  rw [View.read_writes_junk_eq_canon, l14_B, loads_eq]
  exact View.canon_cons_unit_lit _ _ _ (by decide)
theorem out15_B : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dp1 (blockOf x0 x1 x2 x3 x4 x5 x6 x7 x8 x9 x10) (Block.r (blockOf x0 x1 x2 x3 x4 x5 x6 x7 x8 x9 x10)) := by
  unfold out0_B_15
  rw [View.read_writes_junk_eq_canon, l15_B, loads_eq, backB_eq]
  exact View.canon_cons_unit_lit _ _ _ (by decide)
theorem out16_B : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dcat (blockOf x0 x1 x2 x3 x4 x5 x6 x7 x8 x9 x10) (Block.r (blockOf x0 x1 x2 x3 x4 x5 x6 x7 x8 x9 x10)) := by
  unfold out0_B_16
  rw [View.read_writes_junk_eq_canon, l16_B, loads_eq, backB_eq]
  exact View.canon_cons_unit_lit _ _ _ (by decide)
theorem out17_B : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dg1 (blockOf x0 x1 x2 x3 x4 x5 x6 x7 x8 x9 x10) (Block.r (blockOf x0 x1 x2 x3 x4 x5 x6 x7 x8 x9 x10)) xo17 := by
  unfold out0_B_17
  rw [View.read_writes_junk_eq_canon, l17_B, loads_eq, backB_eq, readAt_all]
  exact View.canon_cons_unit_lit _ _ _ (by decide)
theorem out18_B : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.db1 (blockOf x0 x1 x2 x3 x4 x5 x6 x7 x8 x9 x10) (Block.r (blockOf x0 x1 x2 x3 x4 x5 x6 x7 x8 x9 x10)) xo18 := by
  unfold out0_B_18
  rw [View.read_writes_junk_eq_canon, l18_B, loads_eq, backB_eq, readAt_all]
  exact View.canon_cons_unit_lit _ _ _ (by decide)
theorem out19_B : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dg2 (blockOf x0 x1 x2 x3 x4 x5 x6 x7 x8 x9 x10) xo19 := by
  unfold out0_B_19
  rw [View.read_writes_junk_eq_canon, l19_B, loads_eq, readAt_all]
  exact View.canon_cons_unit_lit _ _ _ (by decide)
theorem out20_B : out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.db2 (blockOf x0 x1 x2 x3 x4 x5 x6 x7 x8 x9 x10) xo20 := by
  unfold out0_B_20
  rw [View.read_writes_junk_eq_canon, l20_B, loads_eq, readAt_all]
  exact View.canon_cons_unit_lit _ _ _ (by decide)
theorem out21_B : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.loss (blockOf x0 x1 x2 x3 x4 x5 x6 x7 x8 x9 x10) xo21 := by
  unfold out0_B_21
  rw [View.read_writes_junk_eq_canon, l21_B, loads_eq, readAt_all]
  exact View.canon_cons_unit_lit _ _ _ (by decide)
theorem scr_B : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = View.canon (pcS (Block.dwoA (blockOf x0 x1 x2 x3 x4 x5 x6 x7 x8 x9 x10) (Block.r (blockOf x0 x1 x2 x3 x4 x5 x6 x7 x8 x9 x10)) (View.ld (Val := Elt F) (e' := .f32) xs0 (Rect.unit ![0, 0] S512x1024.size inb_S1024x1024_S512x1024_0_0 : Rect S1024x1024))) (Block.dwoB (blockOf x0 x1 x2 x3 x4 x5 x6 x7 x8 x9 x10) (Block.r (blockOf x0 x1 x2 x3 x4 x5 x6 x7 x8 x9 x10)) (View.ld (Val := Elt F) (e' := .f32) xs0 (Rect.unit ![512, 0] S512x1024.size inb_S1024x1024_S512x1024_512_0 : Rect S1024x1024)))) := by
  unfold sout0_B_0
  rw [View.read_writes_junk_eq_canon, l22_B, loads_eq, backB_eq, readAt_part, readAt_part]
end

/-- What is read back of the activation's square. -/
def backC (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : Fin 4 → FVec F S256x1024 .bf16 :=
  ![kernelRun0_C.sl.v160 c arg1 harg1 arg2 harg2 arg3 harg3 arg5 harg5 arg6 harg6 arg8 harg8 arg9 harg9 arg13 x0 x1 x2 x4 x5 x7 x8, kernelRun0_C.sl.v174 c arg1 harg1 arg2 harg2 arg3 harg3 arg5 harg5 arg6 harg6 arg8 harg8 arg9 harg9 arg13 x0 x1 x2 x4 x5 x7 x8, kernelRun0_C.sl.v188 c arg1 harg1 arg2 harg2 arg3 harg3 arg5 harg5 arg6 harg6 arg8 harg8 arg9 harg9 arg13 x0 x1 x2 x4 x5 x7 x8, kernelRun0_C.sl.v202 c arg1 harg1 arg2 harg2 arg3 harg3 arg5 harg5 arg6 harg6 arg8 harg8 arg9 harg9 arg13 x0 x1 x2 x4 x5 x7 x8]
theorem rawC (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10 = ![arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 0] S256x1024.size inb_S256x4096_S256x1024_0_0 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 1024] S256x1024.size inb_S256x4096_S256x1024_0_1024 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 2048] S256x1024.size inb_S256x4096_S256x1024_0_2048 : Rect S256x4096).toLoadRect, arg13.view.readCov (pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10)) (Rect.unit ![0, 3072] S256x1024.size inb_S256x4096_S256x1024_0_3072 : Rect S256x4096).toLoadRect] := by sl_kernel_rfl
theorem backC_eq (c : Dev nD) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg13 : Memref sig .tc .vmem S256x4096 .bf16) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) : backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10 = (blockOf x0 x1 x2 x3 x4 x5 x6 x7 x8 x9 x10).r := by
  rw [rawC, readBack, loads_eq]

section
variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i) (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32)

theorem l11_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).1 = pc11 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l12_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.1 = pc12 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l13_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.1 = pc13 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l14_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.1 = pc14 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) := by sl_kernel_rfl
theorem l15_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.1 = pc15 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l16_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.1 = pc16 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) := by sl_kernel_rfl
theorem l17_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.1 = row (Block.dg1 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg18.view (Rect.unit ![0, 0] S1x1024.size inb_S1x1024_S1x1024_0_0 : Rect S1x1024).toLoadRect (harg18.unread xo17))) := by sl_kernel_rfl
theorem l18_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.1 = row (Block.db1 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg19.view (Rect.unit ![0, 0] S1x1024.size inb_S1x1024_S1x1024_0_0 : Rect S1x1024).toLoadRect (harg19.unread xo18))) := by sl_kernel_rfl
theorem l19_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.1 = row (Block.dg2 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (View.readAt (Elt F) arg20.view (Rect.unit ![0, 0] S1x1024.size inb_S1x1024_S1x1024_0_0 : Rect S1x1024).toLoadRect (harg20.unread xo19))) := by sl_kernel_rfl
theorem l20_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.1 = row (Block.db2 (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (View.readAt (Elt F) arg21.view (Rect.unit ![0, 0] S1x1024.size inb_S1x1024_S1x1024_0_0 : Rect S1x1024).toLoadRect (harg21.unread xo20))) := by sl_kernel_rfl
theorem l21_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.1 = pc21 (Block.loss (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (View.readAt (Elt F) arg22.view (Rect.unit ![0, 0] S8x128.size inb_S8x128_S8x128_0_0 : Rect S8x128).toLoadRect (harg22.unread xo21))) := by sl_kernel_rfl
theorem l22_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1 = pcS (Block.dwoA (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg24.view (Rect.unit ![0, 0] S512x1024.size inb_S1024x1024_S512x1024_0_0 : Rect S1024x1024).toLoadRect (harg24.unread xs0))) (Block.dwoB (loads arg1 harg1 arg2 harg2 arg3 harg3 arg4 harg4 arg5 harg5 arg6 harg6 arg7 harg7 arg8 harg8 arg9 harg9 arg10 harg10 arg11 harg11 x0 x1 x2 x3 x4 x5 x6 x7 x8 x9 x10) (backC c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (View.readAt (Elt F) arg24.view (Rect.unit ![512, 0] S512x1024.size inb_S1024x1024_S512x1024_512_0 : Rect S1024x1024).toLoadRect (harg24.unread xs0))) := by sl_kernel_rfl
theorem out11_C : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = low (Block.h (blockOf x0 x1 x2 x3 x4 x5 x6 x7 x8 x9 x10)) := by
  unfold out0_C_11
  rw [View.read_writes_junk_eq_canon, l11_C, loads_eq]
  exact View.canon_cons_unit_lit _ _ _ (by decide)
theorem out12_C : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = View.canon (pc12 (blockOf x0 x1 x2 x3 x4 x5 x6 x7 x8 x9 x10)) := by
  unfold out0_C_12
  rw [View.read_writes_junk_eq_canon, l12_C, loads_eq]
theorem out13_C : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = View.canon (pc13 (blockOf x0 x1 x2 x3 x4 x5 x6 x7 x8 x9 x10) (Block.r (blockOf x0 x1 x2 x3 x4 x5 x6 x7 x8 x9 x10))) := by
  unfold out0_C_13
  rw [View.read_writes_junk_eq_canon, l13_C, loads_eq, backC_eq]
theorem out14_C : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = low (Block.dp2 (blockOf x0 x1 x2 x3 x4 x5 x6 x7 x8 x9 x10)) := by
  unfold out0_C_14
  rw [View.read_writes_junk_eq_canon, l14_C, loads_eq]
  exact View.canon_cons_unit_lit _ _ _ (by decide)
theorem out15_C : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dp1 (blockOf x0 x1 x2 x3 x4 x5 x6 x7 x8 x9 x10) (Block.r (blockOf x0 x1 x2 x3 x4 x5 x6 x7 x8 x9 x10)) := by
  unfold out0_C_15
  rw [View.read_writes_junk_eq_canon, l15_C, loads_eq, backC_eq]
  exact View.canon_cons_unit_lit _ _ _ (by decide)
theorem out16_C : out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dcat (blockOf x0 x1 x2 x3 x4 x5 x6 x7 x8 x9 x10) (Block.r (blockOf x0 x1 x2 x3 x4 x5 x6 x7 x8 x9 x10)) := by
  unfold out0_C_16
  rw [View.read_writes_junk_eq_canon, l16_C, loads_eq, backC_eq]
  exact View.canon_cons_unit_lit _ _ _ (by decide)
theorem out17_C : out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dg1 (blockOf x0 x1 x2 x3 x4 x5 x6 x7 x8 x9 x10) (Block.r (blockOf x0 x1 x2 x3 x4 x5 x6 x7 x8 x9 x10)) xo17 := by
  unfold out0_C_17
  rw [View.read_writes_junk_eq_canon, l17_C, loads_eq, backC_eq, readAt_all]
  exact View.canon_cons_unit_lit _ _ _ (by decide)
theorem out18_C : out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.db1 (blockOf x0 x1 x2 x3 x4 x5 x6 x7 x8 x9 x10) (Block.r (blockOf x0 x1 x2 x3 x4 x5 x6 x7 x8 x9 x10)) xo18 := by
  unfold out0_C_18
  rw [View.read_writes_junk_eq_canon, l18_C, loads_eq, backC_eq, readAt_all]
  exact View.canon_cons_unit_lit _ _ _ (by decide)
theorem out19_C : out0_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.dg2 (blockOf x0 x1 x2 x3 x4 x5 x6 x7 x8 x9 x10) xo19 := by
  unfold out0_C_19
  rw [View.read_writes_junk_eq_canon, l19_C, loads_eq, readAt_all]
  exact View.canon_cons_unit_lit _ _ _ (by decide)
theorem out20_C : out0_C_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.db2 (blockOf x0 x1 x2 x3 x4 x5 x6 x7 x8 x9 x10) xo20 := by
  unfold out0_C_20
  rw [View.read_writes_junk_eq_canon, l20_C, loads_eq, readAt_all]
  exact View.canon_cons_unit_lit _ _ _ (by decide)
theorem out21_C : out0_C_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = Block.loss (blockOf x0 x1 x2 x3 x4 x5 x6 x7 x8 x9 x10) xo21 := by
  unfold out0_C_21
  rw [View.read_writes_junk_eq_canon, l21_C, loads_eq, readAt_all]
  exact View.canon_cons_unit_lit _ _ _ (by decide)
theorem scr_C : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 = View.canon (pcS (Block.dwoA (blockOf x0 x1 x2 x3 x4 x5 x6 x7 x8 x9 x10) (Block.r (blockOf x0 x1 x2 x3 x4 x5 x6 x7 x8 x9 x10)) (View.ld (Val := Elt F) (e' := .f32) xs0 (Rect.unit ![0, 0] S512x1024.size inb_S1024x1024_S512x1024_0_0 : Rect S1024x1024))) (Block.dwoB (blockOf x0 x1 x2 x3 x4 x5 x6 x7 x8 x9 x10) (Block.r (blockOf x0 x1 x2 x3 x4 x5 x6 x7 x8 x9 x10)) (View.ld (Val := Elt F) (e' := .f32) xs0 (Rect.unit ![512, 0] S512x1024.size inb_S1024x1024_S512x1024_512_0 : Rect S1024x1024)))) := by
  unfold sout0_C_0
  rw [View.read_writes_junk_eq_canon, l22_C, loads_eq, backC_eq, readAt_part, readAt_part]
end

end Cert.Kernel2Ideal.Rows
end
-- ==== Proof.LayerPoints.lean ====
/- The grid's sixteen points: what each works on, and what it leaves. -/
module

public import proofs.«01_k».proof.Proof.LayerBridge
public import proofs.«01_k».proof.Proof.Gen.Kernel2Ideal.Value
public import Idealize.ShloMosaic.Lib.Pipeline.ValueKit

@[expose] public section

noncomputable section

namespace Cert.Kernel2Ideal.Rows

open Cert.Kernel2Ideal Cert.Kernel2Ideal.Gen Cert.Layer Idealize.ShloMosaic Idealize.ShloMosaic.TcCoe Idealize.SL.Sem
open Idealize.ShloMosaic.Pipeline (Dat)

/-! Four blocks of columns, and two of rows, as one array. -/
theorem join12 {b : Block Ideal} {x : ℕ → ℕ → ℝ} (h : ∀ j : Fin 4, Mat (b.r j) fun i f => x i (1024 * j.val + f)) : Mat (View.canon (pc12 b)) x := fun y => by
  unfold pc12
  canon_tiles z h
  · refine (h 3 z).trans ?_
    rw [h0, h1]; simp
  · refine (h 2 z).trans ?_
    rw [h0, h1]; simp
  · refine (h 1 z).trans ?_
    rw [h0, h1]; simp
  · refine (h 0 z).trans ?_
    rw [h0, h1]; simp
theorem join13 {b : Block Ideal} {rb : Fin 4 → FVec Ideal S256x1024 .bf16} {x : ℕ → ℕ → ℝ} (h : ∀ j : Fin 4, Mat (b.da rb j) fun i f => x i (1024 * j.val + f)) : Mat (View.canon (pc13 b rb)) x := fun y => by
  unfold pc13
  canon_tiles z h
  · refine (h 3 z).trans ?_
    rw [h0, h1]; simp
  · refine (h 2 z).trans ?_
    rw [h0, h1]; simp
  · refine (h 1 z).trans ?_
    rw [h0, h1]; simp
  · refine (h 0 z).trans ?_
    rw [h0, h1]; simp
theorem joinS {u v : FVec Ideal S512x1024 .f32} {x : ℕ → ℕ → ℝ} (L : List (View.Piece (Elt Ideal) S1024x1024 .f32)) (hu : Mat u x) (hv : Mat v fun k n => x (512 + k) n) :
    Mat (View.canon (pcS u v ++ L)) x := fun y => by
  refine View.canon_append_of_piecesOf (fun i => ((x (i 0).val (i 1).val : ℝ) : EReal)) L (pcS u v) ⟨fun z => ?_, fun z => ?_, trivial⟩ y (View.cover_of_tiled _ ![512, 1024] (by rfl) y)
  · refine (hv z).trans ?_
    congr 2
    · exact (Nat.one_mul _).symm
    · exact ((Nat.zero_add _).trans (Nat.one_mul _)).symm
  · refine (hu z).trans ?_
    congr 2
    · exact ((Nat.zero_add _).trans (Nat.one_mul _)).symm
    · exact ((Nat.zero_add _).trans (Nat.one_mul _)).symm
theorem joinS' {u v : FVec Ideal S512x1024 .f32} {x : ℕ → ℕ → ℝ} (hu : Mat u x) (hv : Mat v fun k n => x (512 + k) n) : Mat (View.canon (pcS u v)) x :=
  joinS [] hu hv

section
variable (m : (ℓ : Loc nD τ sig) → Buf (Elt Ideal) ℓ) (c : Dev nD) (S : Args)

/-- The arguments' entries. -/
structure Entries : Prop where
  ch : Mat (a := 4096) (b := 512) (m ((c : Thread nD τ).loc main_arg0)) (S.ch)
  cc : Mat (a := 4096) (b := 512) (m ((c : Thread nD τ).loc main_arg1)) (S.cc)
  x : Mat (a := 4096) (b := 1024) (m ((c : Thread nD τ).loc main_arg2)) (S.x)
  tg : Mat (a := 4096) (b := 1024) (m ((c : Thread nD τ).loc main_arg3)) (S.tg)
  wo : Mat (a := 1024) (b := 1024) (m ((c : Thread nD τ).loc main_arg4)) (S.wo)
  w1 : Mat (a := 1024) (b := 4096) (m ((c : Thread nD τ).loc main_arg5)) (S.w1)
  w2 : Mat (a := 4096) (b := 1024) (m ((c : Thread nD τ).loc main_arg6)) (S.w2)
  g1 : Mat (a := 1) (b := 1024) (m ((c : Thread nD τ).loc main_arg7)) (fun _ => S.g1)
  b1 : Mat (a := 1) (b := 1024) (m ((c : Thread nD τ).loc main_arg8)) (fun _ => S.b1)
  g2 : Mat (a := 1) (b := 1024) (m ((c : Thread nD τ).loc main_arg9)) (fun _ => S.g2)
  b2 : Mat (a := 1) (b := 1024) (m ((c : Thread nD τ).loc main_arg10)) (fun _ => S.b2)

/-- Where the windows stand. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0] ∧ win0_18.index t = ![0, 0] ∧ win0_19.index t = ![0, 0] ∧ win0_20.index t = ![0, 0] ∧ win0_21.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0] ∧ win0_18.index t = ![0, 0] ∧ win0_19.index t = ![0, 0] ∧ win0_20.index t = ![0, 0] ∧ win0_21.index t = ![0, 0])

theorem lt16 (t : Fin cfg0.N) : t.val < 16 := lt_of_lt_of_eq t.isLt (show cfg0.N = 16 from N_0)

variable {m c S} (E : Entries m c S) (t : Fin cfg0.N)
include E
theorem read0 : Mat (a := 256) (b := 512) (iblk m c 0 t) (S.from' (256 * t.val)).ch := Mat.of fun r j => by
  have ht := lt16 t
  have e : iblk m c 0 t (ix2 r j) = m ((c : Thread nD τ).loc main_arg0) (ix2 ⟨256 * t.val + r.val, by omega⟩ j) := by
    rw [← V_main_arg0 m c]
    blk_ext [iblk, idx t]
  exact e.trans (E.ch _)
theorem read1 : Mat (a := 256) (b := 512) (iblk m c 1 t) (S.from' (256 * t.val)).cc := Mat.of fun r j => by
  have ht := lt16 t
  have e : iblk m c 1 t (ix2 r j) = m ((c : Thread nD τ).loc main_arg1) (ix2 ⟨256 * t.val + r.val, by omega⟩ j) := by
    rw [← V_main_arg1 m c]
    blk_ext [iblk, idx t]
  exact e.trans (E.cc _)
theorem read2 : Mat (a := 256) (b := 1024) (iblk m c 2 t) (S.from' (256 * t.val)).x := Mat.of fun r j => by
  have ht := lt16 t
  have e : iblk m c 2 t (ix2 r j) = m ((c : Thread nD τ).loc main_arg2) (ix2 ⟨256 * t.val + r.val, by omega⟩ j) := by
    rw [← V_main_arg2 m c]
    blk_ext [iblk, idx t]
  exact e.trans (E.x _)
theorem read3 : Mat (a := 256) (b := 1024) (iblk m c 3 t) (S.from' (256 * t.val)).tg := Mat.of fun r j => by
  have ht := lt16 t
  have e : iblk m c 3 t (ix2 r j) = m ((c : Thread nD τ).loc main_arg3) (ix2 ⟨256 * t.val + r.val, by omega⟩ j) := by
    rw [← V_main_arg3 m c]
    blk_ext [iblk, idx t]
  exact e.trans (E.tg _)
theorem read4 : Mat (a := 1024) (b := 1024) (iblk m c 4 t) (S.wo) := Mat.of fun r j => by
  have e : iblk m c 4 t (ix2 r j) = m ((c : Thread nD τ).loc main_arg4) (ix2 r j) := by
    rw [← V_main_arg4 m c]
    blk_ext [iblk, idx t]
  exact e.trans (E.wo _)
theorem read5 : Mat (a := 1024) (b := 4096) (iblk m c 5 t) (S.w1) := Mat.of fun r j => by
  have e : iblk m c 5 t (ix2 r j) = m ((c : Thread nD τ).loc main_arg5) (ix2 r j) := by
    rw [← V_main_arg5 m c]
    blk_ext [iblk, idx t]
  exact e.trans (E.w1 _)
theorem read6 : Mat (a := 4096) (b := 1024) (iblk m c 6 t) (S.w2) := Mat.of fun r j => by
  have e : iblk m c 6 t (ix2 r j) = m ((c : Thread nD τ).loc main_arg6) (ix2 r j) := by
    rw [← V_main_arg6 m c]
    blk_ext [iblk, idx t]
  exact e.trans (E.w2 _)
theorem read7 : Mat (a := 1) (b := 1024) (iblk m c 7 t) (fun _ => S.g1) := Mat.of fun r j => by
  have e : iblk m c 7 t (ix2 r j) = m ((c : Thread nD τ).loc main_arg7) (ix2 r j) := by
    rw [← V_main_arg7 m c]
    blk_ext [iblk, idx t]
  exact e.trans (E.g1 _)
theorem read8 : Mat (a := 1) (b := 1024) (iblk m c 8 t) (fun _ => S.b1) := Mat.of fun r j => by
  have e : iblk m c 8 t (ix2 r j) = m ((c : Thread nD τ).loc main_arg8) (ix2 r j) := by
    rw [← V_main_arg8 m c]
    blk_ext [iblk, idx t]
  exact e.trans (E.b1 _)
theorem read9 : Mat (a := 1) (b := 1024) (iblk m c 9 t) (fun _ => S.g2) := Mat.of fun r j => by
  have e : iblk m c 9 t (ix2 r j) = m ((c : Thread nD τ).loc main_arg9) (ix2 r j) := by
    rw [← V_main_arg9 m c]
    blk_ext [iblk, idx t]
  exact e.trans (E.g2 _)
theorem read10 : Mat (a := 1) (b := 1024) (iblk m c 10 t) (fun _ => S.b2) := Mat.of fun r j => by
  have e : iblk m c 10 t (ix2 r j) = m ((c : Thread nD τ).loc main_arg10) (ix2 r j) := by
    rw [← V_main_arg10 m c]
    blk_ext [iblk, idx t]
  exact e.trans (E.b2 _)
omit E in
theorem partL {A B A' B' : ℕ} {X : FVec Ideal ⟨2, ![A, B]⟩ .bf16} {x : ℕ → ℕ → ℝ} (h : Mat X x) (o p : ℕ) (inb : ∀ k, (![o, p] : Fin 2 → ℕ) k + (![A', B'] : Fin 2 → ℕ) k ≤ (![A, B] : Fin 2 → ℕ) k) :
    Mat (a := A') (b := B') (View.ld (Val := Elt Ideal) (e' := .bf16) X (Rect.unit ![o, p] ![A', B'] inb : Rect ⟨2, ![A, B]⟩)) fun i j => x (o + i) (p + j) := Mat.of fun i j =>
  have e : View.ld (Val := Elt Ideal) (e' := .bf16) X (Rect.unit ![o, p] ![A', B'] inb : Rect ⟨2, ![A, B]⟩) (ix2 i j) = X (ix2 ⟨o + i.val, lt_of_lt_of_le (Nat.add_lt_add_left i.isLt o) (inb 0)⟩ ⟨p + j.val, lt_of_lt_of_le (Nat.add_lt_add_left j.isLt p) (inb 1)⟩) :=
    View.ld_unit_apply_of (Val := Elt Ideal) (e := .bf16) (S := ⟨2, ![A, B]⟩) X ![o, p] ![A', B'] inb _ _ (Fin.forall_fin_two.2 ⟨rfl, rfl⟩)
  e.trans (h _)
omit E in
theorem partF {A B A' B' : ℕ} {X : FVec Ideal ⟨2, ![A, B]⟩ .f32} {x : ℕ → ℕ → ℝ} (h : Mat X x) (o p : ℕ) (inb : ∀ k, (![o, p] : Fin 2 → ℕ) k + (![A', B'] : Fin 2 → ℕ) k ≤ (![A, B] : Fin 2 → ℕ) k) :
    Mat (a := A') (b := B') (View.ld (Val := Elt Ideal) (e' := .f32) X (Rect.unit ![o, p] ![A', B'] inb : Rect ⟨2, ![A, B]⟩)) fun i j => x (o + i) (p + j) := Mat.of fun i j =>
  have e : View.ld (Val := Elt Ideal) (e' := .f32) X (Rect.unit ![o, p] ![A', B'] inb : Rect ⟨2, ![A, B]⟩) (ix2 i j) = X (ix2 ⟨o + i.val, lt_of_lt_of_le (Nat.add_lt_add_left i.isLt o) (inb 0)⟩ ⟨p + j.val, lt_of_lt_of_le (Nat.add_lt_add_left j.isLt p) (inb 1)⟩) :=
    View.ld_unit_apply_of (Val := Elt Ideal) (e := .f32) (S := ⟨2, ![A, B]⟩) X ![o, p] ![A', B'] inb _ _ (Fin.forall_fin_two.2 ⟨rfl, rfl⟩)
  e.trans (h _)

theorem holds : Holds (blockOf (iblk m c 0 t) (iblk m c 1 t) (iblk m c 2 t) (iblk m c 3 t) (iblk m c 4 t) (iblk m c 5 t) (iblk m c 6 t) (iblk m c 7 t) (iblk m c 8 t) (iblk m c 9 t) (iblk m c 10 t)) (S.from' (256 * t.val)) where
  ch := read0 E t
  cc := read1 E t
  x := read2 E t
  tg := read3 E t
  wa := (partL (read4 E t) 0 0 _).congr fun i j _ _ => by simp [Args.from']
  wb := (partL (read4 E t) 512 0 _).congr fun i j _ _ => by simp [Args.from']
  wo := read4 E t
  w1 := fun j => by
    match j with
    | 0 => exact (partL (read5 E t) 0 0 _).congr fun i j _ _ => by simp [Args.from']
    | 1 => exact (partL (read5 E t) 0 1024 _).congr fun i j _ _ => by simp [Args.from']
    | 2 => exact (partL (read5 E t) 0 2048 _).congr fun i j _ _ => by simp [Args.from']
    | 3 => exact (partL (read5 E t) 0 3072 _).congr fun i j _ _ => by simp [Args.from']
  w2 := fun j => by
    match j with
    | 0 => exact (partL (read6 E t) 0 0 _).congr fun i j _ _ => by simp [Args.from']
    | 1 => exact (partL (read6 E t) 1024 0 _).congr fun i j _ _ => by simp [Args.from']
    | 2 => exact (partL (read6 E t) 2048 0 _).congr fun i j _ _ => by simp [Args.from']
    | 3 => exact (partL (read6 E t) 3072 0 _).congr fun i j _ _ => by simp [Args.from']
  g1 := read7 E t
  b1 := read8 E t
  g2 := read9 E t
  b2 := read10 E t

variable (m c S)
omit E
/-- What the points up to `n` leave: the last block's rows, and the sums over all rows so far. -/
structure Left (n : ℕ) (hn : n < cfg0.N) : Prop where
  h : Mat (a := 256) (b := 1024) (outsAt0 m c n hn).1 ((S.from' (256 * n)).h)
  r : Mat (a := 256) (b := 4096) (outsAt0 m c n hn).2.1 ((S.from' (256 * n)).r)
  da : Mat (a := 256) (b := 4096) (outsAt0 m c n hn).2.2.1 ((S.from' (256 * n)).da)
  dp2 : Mat (a := 256) (b := 1024) (outsAt0 m c n hn).2.2.2.1 ((S.from' (256 * n)).dp2)
  dp1 : Mat (a := 256) (b := 1024) (outsAt0 m c n hn).2.2.2.2.1 ((S.from' (256 * n)).dp1)
  dcat : Mat (a := 256) (b := 1024) (outsAt0 m c n hn).2.2.2.2.2.1 ((S.from' (256 * n)).dcat)
  dg1 : Mat (a := 1) (b := 1024) (outsAt0 m c n hn).2.2.2.2.2.2.1 (fun _ => S.dg1 (256 * n + 256))
  db1 : Mat (a := 1) (b := 1024) (outsAt0 m c n hn).2.2.2.2.2.2.2.1 (fun _ => S.db1 (256 * n + 256))
  dg2 : Mat (a := 1) (b := 1024) (outsAt0 m c n hn).2.2.2.2.2.2.2.2.1 (fun _ => S.dg2 (256 * n + 256))
  db2 : Mat (a := 1) (b := 1024) (outsAt0 m c n hn).2.2.2.2.2.2.2.2.2.1 (fun _ => S.db2 (256 * n + 256))
  loss : Mat (a := 8) (b := 128) (outsAt0 m c n hn).2.2.2.2.2.2.2.2.2.2.1 (fun _ _ => S.loss (256 * n + 256))
  dwo : Mat (a := 1024) (b := 1024) (outsAt0 m c n hn).2.2.2.2.2.2.2.2.2.2.2 (S.dwo (256 * n + 256))

variable {m c S}
include E
theorem left (n : ℕ) (hn : n < cfg0.N) : Left m c S n hn := by
  have hN := lt_of_lt_of_eq hn (show cfg0.N = 16 from N_0)
  induction n with
  | zero =>
    have H := holds E ⟨0, hn⟩
    have e := outsAt0_A m c ⟨0, hn⟩ (by rfl) (by simp)
    dsimp only at e H
    have z1 : Mat (zRow (F := Ideal)) fun _ _ => 0 := Mat.const zero_is
    have z2 : Mat (zLoss (F := Ideal)) fun _ _ => 0 := Mat.const zero_is
    have z3 : Mat (zHalf (F := Ideal)) fun _ _ => 0 := Mat.const zero_is
    rw [out11_A, out12_A, out13_A, out14_A, out15_A, out16_A, out17_A, out18_A, out19_A, out20_A, out21_A, scr_A] at e
    constructor <;> rw [e] <;> dsimp only
    · exact H.h
    · exact join12 H.r
    · exact join13 H.da
    · exact H.dp2
    · exact H.dp1
    · exact H.dcat
    · exact (H.dg1 z1).congr fun _ j _ _ => by rw [Nat.mul_zero, Args.dg1_add, show S.dg1 0 j = 0 by simp [Args.dg1]]
    · exact (H.db1 z1).congr fun _ j _ _ => by rw [Nat.mul_zero, Args.db1_add, show S.db1 0 j = 0 by simp [Args.db1]]
    · exact (H.dg2 z1).congr fun _ j _ _ => by rw [Nat.mul_zero, Args.dg2_add, show S.dg2 0 j = 0 by simp [Args.dg2]]
    · exact (H.db2 z1).congr fun _ j _ _ => by rw [Nat.mul_zero, Args.db2_add, show S.db2 0 j = 0 by simp [Args.db2]]
    · exact (H.loss z2).congr fun _ j _ _ => by rw [Nat.mul_zero, Args.loss_add, show S.loss 0 = 0 by simp [Args.loss]]
    · refine joinS _ ((H.dwoA z3).congr fun k j _ _ => ?_) ((H.dwoB z3).congr fun k j _ _ => ?_)
      · rw [Nat.mul_zero, Args.dwo_add, show S.dwo 0 k j = 0 by simp [Args.dwo]]
      · rw [Nat.mul_zero, Args.dwo_add, show S.dwo 0 (512 + k) j = 0 by simp [Args.dwo]]
  | succ n ih =>
    have P := ih (Nat.lt_of_succ_lt hn) (by omega)
    have H := holds E ⟨n + 1, hn⟩
    have e256 : 256 * (n + 1) = 256 * n + 256 := by omega
    dsimp only at H
    have p17 : Mat (a := 1) (b := 1024) (outsAt0 m c (n + 1 - 1) (Nat.lt_of_le_of_lt (Nat.sub_le _ _) hn)).2.2.2.2.2.2.1 (fun _ => S.dg1 (256 * n + 256)) := P.dg1
    have p18 : Mat (a := 1) (b := 1024) (outsAt0 m c (n + 1 - 1) (Nat.lt_of_le_of_lt (Nat.sub_le _ _) hn)).2.2.2.2.2.2.2.1 (fun _ => S.db1 (256 * n + 256)) := P.db1
    have p19 : Mat (a := 1) (b := 1024) (outsAt0 m c (n + 1 - 1) (Nat.lt_of_le_of_lt (Nat.sub_le _ _) hn)).2.2.2.2.2.2.2.2.1 (fun _ => S.dg2 (256 * n + 256)) := P.dg2
    have p20 : Mat (a := 1) (b := 1024) (outsAt0 m c (n + 1 - 1) (Nat.lt_of_le_of_lt (Nat.sub_le _ _) hn)).2.2.2.2.2.2.2.2.2.1 (fun _ => S.db2 (256 * n + 256)) := P.db2
    have p21 : Mat (a := 8) (b := 128) (outsAt0 m c (n + 1 - 1) (Nat.lt_of_le_of_lt (Nat.sub_le _ _) hn)).2.2.2.2.2.2.2.2.2.2.1 (fun _ _ => S.loss (256 * n + 256)) := P.loss
    have p22 : Mat (a := 1024) (b := 1024) (outsAt0 m c (n + 1 - 1) (Nat.lt_of_le_of_lt (Nat.sub_le _ _) hn)).2.2.2.2.2.2.2.2.2.2.2 (S.dwo (256 * n + 256)) := P.dwo
    by_cases h1 : (n + 1) % 16 = 15
    · have e := outsAt0_C m c ⟨n + 1, hn⟩ (by dsimp only; omega) h1
      dsimp only at e
      rw [out11_C, out12_C, out13_C, out14_C, out15_C, out16_C, out17_C, out18_C, out19_C, out20_C, out21_C, scr_C] at e
      constructor <;> rw [e] <;> dsimp only
      · exact H.h
      · exact join12 H.r
      · exact join13 H.da
      · exact H.dp2
      · exact H.dp1
      · exact H.dcat
      · exact (H.dg1 p17).congr fun _ j _ _ => by rw [e256]; exact (Args.dg1_add ..).symm
      · exact (H.db1 p18).congr fun _ j _ _ => by rw [e256]; exact (Args.db1_add ..).symm
      · exact (H.dg2 p19).congr fun _ j _ _ => by rw [e256]; exact (Args.dg2_add ..).symm
      · exact (H.db2 p20).congr fun _ j _ _ => by rw [e256]; exact (Args.db2_add ..).symm
      · exact (H.loss p21).congr fun _ j _ _ => by rw [e256]; exact (Args.loss_add ..).symm
      · exact joinS' ((H.dwoA (partF p22 0 0 _)).congr (y := S.dwo (256 * (n + 1) + 256)) fun k j _ _ => by rw [e256, Args.dwo_add S (256 * n + 256)]; simp) ((H.dwoB (partF p22 512 0 _)).congr fun k j _ _ => by rw [e256, Args.dwo_add S (256 * n + 256)]; simp)
    · have e := outsAt0_B m c ⟨n + 1, hn⟩ (by dsimp only; omega) h1
      dsimp only at e
      rw [out11_B, out12_B, out13_B, out14_B, out15_B, out16_B, out17_B, out18_B, out19_B, out20_B, out21_B, scr_B] at e
      constructor <;> rw [e] <;> dsimp only
      · exact H.h
      · exact join12 H.r
      · exact join13 H.da
      · exact H.dp2
      · exact H.dp1
      · exact H.dcat
      · exact (H.dg1 p17).congr fun _ j _ _ => by rw [e256]; exact (Args.dg1_add ..).symm
      · exact (H.db1 p18).congr fun _ j _ _ => by rw [e256]; exact (Args.db1_add ..).symm
      · exact (H.dg2 p19).congr fun _ j _ _ => by rw [e256]; exact (Args.dg2_add ..).symm
      · exact (H.db2 p20).congr fun _ j _ _ => by rw [e256]; exact (Args.db2_add ..).symm
      · exact (H.loss p21).congr fun _ j _ _ => by rw [e256]; exact (Args.loss_add ..).symm
      · exact joinS' ((H.dwoA (partF p22 0 0 _)).congr (y := S.dwo (256 * (n + 1) + 256)) fun k j _ _ => by rw [e256, Args.dwo_add S (256 * n + 256)]; simp) ((H.dwoB (partF p22 512 0 _)).congr fun k j _ _ => by rw [e256, Args.dwo_add S (256 * n + 256)]; simp)

end

end Cert.Kernel2Ideal.Rows
end
-- ==== Proof.LayerFold.lean ====
/- The arrays the call leaves, over the reals. -/
module

public import proofs.«01_k».proof.Proof.LayerPoints

@[expose] public section

noncomputable section

namespace Cert.Kernel2Ideal.Rows

open Cert.Kernel2Ideal Cert.Kernel2Ideal.Gen Cert.Layer Idealize.ShloMosaic Idealize.ShloMosaic.TcCoe Idealize.SL.Sem
open Idealize.ShloMosaic.Pipeline (Dat)

variable {m : (ℓ : Loc nD τ sig) → Buf (Elt Ideal) ℓ} {c : Dev nD} {S : Args} (E : Entries m c S)
include E

theorem final11 : (dats m 0 c).arrAt 11 cfg0.N = fun i : S4096x1024.Idx => ((S.h (i 0).val (i 1).val : ℝ) : EReal) := by
  refine (dats m 0 c).arrAt_eq_of_covers 11 _ (by decide +kernel) fun t hf y => ?_
  have ht := lt16 t
  have H := (left E t.val t.isLt).h y
  blk_simp [idx t]
  rw [after0_11, Nat.mul_comm]
  exact H
theorem final12 : (dats m 0 c).arrAt 12 cfg0.N = fun i : S4096x4096.Idx => ((S.r (i 0).val (i 1).val : ℝ) : EReal) := by
  refine (dats m 0 c).arrAt_eq_of_covers 12 _ (by decide +kernel) fun t hf y => ?_
  have ht := lt16 t
  have H := (left E t.val t.isLt).r y
  blk_simp [idx t]
  rw [after0_12, Nat.mul_comm]
  exact H
theorem final13 : (dats m 0 c).arrAt 13 cfg0.N = fun i : S4096x4096.Idx => ((S.da (i 0).val (i 1).val : ℝ) : EReal) := by
  refine (dats m 0 c).arrAt_eq_of_covers 13 _ (by decide +kernel) fun t hf y => ?_
  have ht := lt16 t
  have H := (left E t.val t.isLt).da y
  blk_simp [idx t]
  rw [after0_13, Nat.mul_comm]
  exact H
theorem final14 : (dats m 0 c).arrAt 14 cfg0.N = fun i : S4096x1024.Idx => ((S.dp2 (i 0).val (i 1).val : ℝ) : EReal) := by
  refine (dats m 0 c).arrAt_eq_of_covers 14 _ (by decide +kernel) fun t hf y => ?_
  have ht := lt16 t
  have H := (left E t.val t.isLt).dp2 y
  blk_simp [idx t]
  rw [after0_14, Nat.mul_comm]
  exact H
theorem final15 : (dats m 0 c).arrAt 15 cfg0.N = fun i : S4096x1024.Idx => ((S.dp1 (i 0).val (i 1).val : ℝ) : EReal) := by
  refine (dats m 0 c).arrAt_eq_of_covers 15 _ (by decide +kernel) fun t hf y => ?_
  have ht := lt16 t
  have H := (left E t.val t.isLt).dp1 y
  blk_simp [idx t]
  rw [after0_15, Nat.mul_comm]
  exact H
theorem final16 : (dats m 0 c).arrAt 16 cfg0.N = fun i : S4096x1024.Idx => ((S.dcat (i 0).val (i 1).val : ℝ) : EReal) := by
  refine (dats m 0 c).arrAt_eq_of_covers 16 _ (by decide +kernel) fun t hf y => ?_
  have ht := lt16 t
  have H := (left E t.val t.isLt).dcat y
  blk_simp [idx t]
  rw [after0_16, Nat.mul_comm]
  exact H
theorem final17 : (dats m 0 c).arrAt 17 cfg0.N = fun i : S1x1024.Idx => ((S.dg1 4096 (i 1).val : ℝ) : EReal) := by
  refine (dats m 0 c).arrAt_eq_of_after_last 17 t0_15 (by decide +kernel) _ fun y => ?_
  have H := (left E 15 t0_15.isLt).dg1 y
  rw [after0_17]
  blk_simp [idx t0_15]
  refine H.trans ?_
  rfl
theorem final18 : (dats m 0 c).arrAt 18 cfg0.N = fun i : S1x1024.Idx => ((S.db1 4096 (i 1).val : ℝ) : EReal) := by
  refine (dats m 0 c).arrAt_eq_of_after_last 18 t0_15 (by decide +kernel) _ fun y => ?_
  have H := (left E 15 t0_15.isLt).db1 y
  rw [after0_18]
  blk_simp [idx t0_15]
  refine H.trans ?_
  rfl
theorem final19 : (dats m 0 c).arrAt 19 cfg0.N = fun i : S1x1024.Idx => ((S.dg2 4096 (i 1).val : ℝ) : EReal) := by
  refine (dats m 0 c).arrAt_eq_of_after_last 19 t0_15 (by decide +kernel) _ fun y => ?_
  have H := (left E 15 t0_15.isLt).dg2 y
  rw [after0_19]
  blk_simp [idx t0_15]
  refine H.trans ?_
  rfl
theorem final20 : (dats m 0 c).arrAt 20 cfg0.N = fun i : S1x1024.Idx => ((S.db2 4096 (i 1).val : ℝ) : EReal) := by
  refine (dats m 0 c).arrAt_eq_of_after_last 20 t0_15 (by decide +kernel) _ fun y => ?_
  have H := (left E 15 t0_15.isLt).db2 y
  rw [after0_20]
  blk_simp [idx t0_15]
  refine H.trans ?_
  rfl
theorem final21 : (dats m 0 c).arrAt 21 cfg0.N = fun i : S8x128.Idx => ((S.loss 4096 : ℝ) : EReal) := by
  refine (dats m 0 c).arrAt_eq_of_after_last 21 t0_15 (by decide +kernel) _ fun y => ?_
  have H := (left E 15 t0_15.isLt).loss y
  rw [after0_21]
  blk_simp [idx t0_15]
  refine H.trans ?_
  rfl

end Cert.Kernel2Ideal.Rows
end
-- ==== Proof.LayerCopyRun.lean ====
/- The last point of the grid, run once more for the result that the body copies out itself. -/
module

public import proofs.«01_k».proof.Proof.Gen.Kernel2Ideal.Frame

@[expose] public section

set_option maxRecDepth 16384

noncomputable section

namespace Cert.Kernel2Ideal.Rows

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the last point, as run for the windows' contents, and beside them what it leaves in the result it copies out itself: a function of what
    that result and the second scratch held before, for what they held is not known. -/
noncomputable def copyRun (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    Σ' (L11 : List (View.Piece (Elt F) S256x1024 .bf16)), Σ' (L12 : List (View.Piece (Elt F) S256x4096 .bf16)), Σ' (L13 : List (View.Piece (Elt F) S256x4096 .bf16)), Σ' (L14 : List (View.Piece (Elt F) S256x1024 .bf16)), Σ' (L15 : List (View.Piece (Elt F) S256x1024 .f32)), Σ' (L16 : List (View.Piece (Elt F) S256x1024 .f32)), Σ' (L17 : List (View.Piece (Elt F) S1x1024 .f32)), Σ' (L18 : List (View.Piece (Elt F) S1x1024 .f32)), Σ' (L19 : List (View.Piece (Elt F) S1x1024 .f32)), Σ' (L20 : List (View.Piece (Elt F) S1x1024 .f32)), Σ' (L21 : List (View.Piece (Elt F) S8x128 .f32)), Σ' (LS0 : List (View.Piece (Elt F) S1024x1024 .f32)), { g : HbBuf0 (F := F) c hbM0_0 → Buf (Elt F) (arg25.view.loc (c : Thread nD τ)) → HbBuf0 (F := F) c hbM0_0 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo17 ∗ owns (c : Thread nD τ) arg19 fullShare xo18 ∗ owns (c : Thread nD τ) arg20 fullShare xo19 ∗ owns (c : Thread nD τ) arg21 fullShare xo20 ∗ owns (c : Thread nD τ) arg22 fullShare xo21 ∗ owns (c : Thread nD τ) arg24 fullShare xs0 ∗ (∃ d, owns (c : Thread nD τ) arg25 fullShare d) ∗ semVal ((c : Thread nD τ), SemLoc.dma 32) 0 ∗ (∃ f, hbPt0 c hbM0_0 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg24.view.loc (c : Thread nD τ) ↦[arg24.view.set]{fullShare} arg24.view.writes (Elt F) f LS0) ∗ (∃ d, owns (c : Thread nD τ) arg25 fullShare d) ∗ semVal ((c : Thread nD τ), SemLoc.dma 32) 0 ∗ (∃ f fs, hbPt0 c hbM0_0 (g f fs)) ∗ (∃ W', owes (c : Thread nD τ) 0 W')) -∗ K ⟨⟩))
          ⊢ wp frame (wpE (defs₀ (F := F)) Variants.none c none) Set.univ (cc0_sublayers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (Memref.whole main_v0_11) (Memref.isWhole_whole _) arg24 harg24 arg25 harg25 cc0_scratch2) K } := by
  refine ⟨?_, ?_, ?_, ?_, ?_, ?_, ?_, ?_, ?_, ?_, ?_, ?_, ?_, fun W K => ?run⟩
  case run =>
    simp only [cc0_sublayers_eq_skeleton]; unfold cc0_sublayers_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%ds1, %fs1, -, HS1⟩, Hq0, ⟨%fw0, Hh0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg18.eq_unread hf17; obtain rfl := harg19.eq_unread hf18; obtain rfl := harg20.eq_unread hf19; obtain rfl := harg21.eq_unread hf20; obtain rfl := harg22.eq_unread hf21; obtain rfl := harg24.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    isplitl [HS1]
    · iexists _, _; isplitr; swap; · iexact HS1
      ipureintro; rfl
    isplitl [Hq0]; · iexact Hq0
    isplitl [Hh0]; · iexists fw0, fs1; iexact Hh0
    iexists _; iexact HW

end Cert.Kernel2Ideal.Rows

end
-- ==== Proof.LayerCopy.lean ====
/- What the last point of the grid leaves in the result that the body copies out itself, and the run of the program with that result named. -/
module

public import proofs.«01_k».proof.Proof.LayerCopyRun
public import Idealize.ShloMosaic.Lib.VecWindow

@[expose] public section

set_option maxRecDepth 16384

noncomputable section

namespace Cert.Kernel2Ideal.Rows

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body run at a point whose windows hold `x0 …`: it leaves the pieces `L11 …` in the outputs and the scratch, and `g` of what was there before in the result it copies out. -/
def LastRun (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32)
    (L11 : List (View.Piece (Elt F) S256x1024 .bf16)) (L12 : List (View.Piece (Elt F) S256x4096 .bf16)) (L13 : List (View.Piece (Elt F) S256x4096 .bf16)) (L14 : List (View.Piece (Elt F) S256x1024 .bf16)) (L15 : List (View.Piece (Elt F) S256x1024 .f32)) (L16 : List (View.Piece (Elt F) S256x1024 .f32)) (L17 : List (View.Piece (Elt F) S1x1024 .f32)) (L18 : List (View.Piece (Elt F) S1x1024 .f32)) (L19 : List (View.Piece (Elt F) S1x1024 .f32)) (L20 : List (View.Piece (Elt F) S1x1024 .f32)) (L21 : List (View.Piece (Elt F) S8x128 .f32)) (LS0 : List (View.Piece (Elt F) S1024x1024 .f32)) (g : HbBuf0 (F := F) c hbM0_0 → Buf (Elt F) (arg25.view.loc (c : Thread nD τ)) → HbBuf0 (F := F) c hbM0_0) : Prop :=

      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo17 ∗ owns (c : Thread nD τ) arg19 fullShare xo18 ∗ owns (c : Thread nD τ) arg20 fullShare xo19 ∗ owns (c : Thread nD τ) arg21 fullShare xo20 ∗ owns (c : Thread nD τ) arg22 fullShare xo21 ∗ owns (c : Thread nD τ) arg24 fullShare xs0 ∗ (∃ d, owns (c : Thread nD τ) arg25 fullShare d) ∗ semVal ((c : Thread nD τ), SemLoc.dma 32) 0 ∗ (∃ f, hbPt0 c hbM0_0 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg24.view.loc (c : Thread nD τ) ↦[arg24.view.set]{fullShare} arg24.view.writes (Elt F) f LS0) ∗ (∃ d, owns (c : Thread nD τ) arg25 fullShare d) ∗ semVal ((c : Thread nD τ), SemLoc.dma 32) 0 ∗ (∃ f fs, hbPt0 c hbM0_0 (g f fs)) ∗ (∃ W', owes (c : Thread nD τ) 0 W')) -∗ K ⟨⟩))
          ⊢ wp frame (wpE (defs₀ (F := F)) Variants.none c none) Set.univ (cc0_sublayers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (Memref.whole main_v0_11) (Memref.isWhole_whole _) arg24 harg24 arg25 harg25 cc0_scratch2) K

theorem LastRun.congr (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32)
    {L11 L11' : List (View.Piece (Elt F) S256x1024 .bf16)} {L12 L12' : List (View.Piece (Elt F) S256x4096 .bf16)} {L13 L13' : List (View.Piece (Elt F) S256x4096 .bf16)} {L14 L14' : List (View.Piece (Elt F) S256x1024 .bf16)} {L15 L15' : List (View.Piece (Elt F) S256x1024 .f32)} {L16 L16' : List (View.Piece (Elt F) S256x1024 .f32)} {L17 L17' : List (View.Piece (Elt F) S1x1024 .f32)} {L18 L18' : List (View.Piece (Elt F) S1x1024 .f32)} {L19 L19' : List (View.Piece (Elt F) S1x1024 .f32)} {L20 L20' : List (View.Piece (Elt F) S1x1024 .f32)} {L21 L21' : List (View.Piece (Elt F) S8x128 .f32)} {LS0 LS0' : List (View.Piece (Elt F) S1024x1024 .f32)} {g g' : HbBuf0 (F := F) c hbM0_0 → Buf (Elt F) (arg25.view.loc (c : Thread nD τ)) → HbBuf0 (F := F) c hbM0_0}
    (e11 : L11 = L11') (e12 : L12 = L12') (e13 : L13 = L13') (e14 : L14 = L14') (e15 : L15 = L15') (e16 : L16 = L16') (e17 : L17 = L17') (e18 : L18 = L18') (e19 : L19 = L19') (e20 : L20 = L20') (e21 : L21 = L21') (eS0 : LS0 = LS0') (eg : g = g') (h : LastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 x0 x1 x2 x3 x4 x5 x6 x7 x8 x9 x10 xo17 xo18 xo19 xo20 xo21 xs0 L11 L12 L13 L14 L15 L16 L17 L18 L19 L20 L21 LS0 g) :
    LastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 x0 x1 x2 x3 x4 x5 x6 x7 x8 x9 x10 xo17 xo18 xo19 xo20 xo21 xs0 L11' L12' L13' L14' L15' L16' L17' L18' L19' L20' L21' LS0' g' := by
  subst e11 e12 e13 e14 e15 e16 e17 e18 e19 e20 e21 eS0 eg
  exact h

theorem pieces11 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).1 := by sl_kernel_rfl
theorem pieces12 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.1 := by sl_kernel_rfl
theorem pieces13 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.1 := by sl_kernel_rfl
theorem pieces14 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.1 := by sl_kernel_rfl
theorem pieces15 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.1 := by sl_kernel_rfl
theorem pieces16 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.1 := by sl_kernel_rfl
theorem pieces17 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.1 := by sl_kernel_rfl
theorem pieces18 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.1 := by sl_kernel_rfl
theorem pieces19 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.1 := by sl_kernel_rfl
theorem pieces20 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.1 := by sl_kernel_rfl
theorem pieces21 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.1 := by sl_kernel_rfl
theorem piecesS0 (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1 = (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1 := by sl_kernel_rfl

/-- The accumulator `L` read whole, narrowed into the second scratch and copied from there: the narrowed accumulator. -/
theorem copies (c : Dev nD) (arg24 : Memref sig .tc .vmem S1024x1024 .f32) (arg25 : Memref sig .tc .vmem S1024x1024 .bf16) (L : List (View.Piece (Elt F) S1024x1024 .f32))
    (f : HbBuf0 (F := F) c hbM0_0) (fs : Buf (Elt F) (arg25.view.loc (c : Thread nD τ))) :
    View.write (Elt F) (View.whole main_v0_11) f (ReadAs.same.apply (View.read (Elt F) arg25.view (arg25.view.writes (Elt F) fs
        [⟨(Rect.unit ![0, 0] S1024x1024.size inb_S1024x1024_S1024x1024_0_0 : Rect S1024x1024), k0_pay48 (arg24.view.readCov L (Rect.unit ![0, 0] S1024x1024.size inb_S1024x1024_S1024x1024_0_0 : Rect S1024x1024).toLoadRect)⟩]))) Finset.univ
      = k0_pay48 (VS0_0.read (Elt F) (VS0_0.writes (Elt F) VS0_0.junk L)) := by
  refine (View.write_whole_univ _ _ _).trans ?_
  refine (View.read_writes_full (s := S1024x1024) arg25.view fs _ _ []).trans ?_
  refine congrArg k0_pay48 ?_
  refine (View.readAt_full (s := S1024x1024) arg24.view _ _).trans ?_
  rw [View.read_writes_junk_eq_canon, View.read_writes_junk_eq_canon]

/-- What is copied out: the accumulator narrowed, whatever was there before. -/
theorem copied (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) (f : HbBuf0 (F := F) c hbM0_0) (fs : Buf (Elt F) (arg25.view.loc (c : Thread nD τ))) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.2.1 f fs = k0_pay48 (VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1)) := by
  have e : (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.2.1 f fs = View.write (Elt F) (View.whole main_v0_11) f
      (ReadAs.same.apply (View.read (Elt F) arg25.view (arg25.view.writes (Elt F) fs
        [⟨(Rect.unit ![0, 0] S1024x1024.size inb_S1024x1024_S1024x1024_0_0 : Rect S1024x1024), k0_pay48 (arg24.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1 (Rect.unit ![0, 0] S1024x1024.size inb_S1024x1024_S1024x1024_0_0 : Rect S1024x1024).toLoadRect)⟩]))) Finset.univ := by sl_kernel_rfl
  exact e.trans (copies c arg24 arg25 _ f fs)

/-- The run of the last point for the windows' pieces, and the accumulator narrowed in the result that the body copies out. -/
theorem lastRun (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S8x128 .f32) (harg22 : arg22.IsWhole) (arg24 : Memref sig .tc .vmem S1024x1024 .f32) (harg24 : arg24.IsWhole) (arg25 : Memref sig .tc .vmem S1024x1024 .bf16) (harg25 : arg25.IsWhole) (hc0 : ¬cond0_0 i) (hc1 : cond0_1 i)
    (x0 : Vec F S256x512 .bf16) (x1 : Vec F S256x512 .bf16) (x2 : Vec F S256x1024 .f32) (x3 : Vec F S256x1024 .f32) (x4 : Vec F S1024x1024 .bf16) (x5 : Vec F S1024x4096 .bf16) (x6 : Vec F S4096x1024 .bf16) (x7 : Vec F S1x1024 .f32) (x8 : Vec F S1x1024 .f32) (x9 : Vec F S1x1024 .f32) (x10 : Vec F S1x1024 .f32) (xo17 : Vec F S1x1024 .f32) (xo18 : Vec F S1x1024 .f32) (xo19 : Vec F S1x1024 .f32) (xo20 : Vec F S1x1024 .f32) (xo21 : Vec F S8x128 .f32) (xs0 : Vec F S1024x1024 .f32) :
    LastRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 x0 x1 x2 x3 x4 x5 x6 x7 x8 x9 x10 xo17 xo18 xo19 xo20 xo21 xs0 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.1 (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1
      (fun _ _ => k0_pay48 (VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.1))) :=
  LastRun.congr c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 x0 x1 x2 x3 x4 x5 x6 x7 x8 x9 x10 xo17 xo18 xo19 xo20 xo21 xs0 (pieces11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (pieces21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0) (piecesS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0)
    (funext fun f => funext fun fs => copied c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0 f fs) (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 hc0 hc1 x0 x1 x2 x3 x4 x5 x6 x7 x8 x9 x10 xo17 xo18 xo19 xo20 xo21 xs0).2.2.2.2.2.2.2.2.2.2.2.2.2

end Cert.Kernel2Ideal.Rows

end
-- ==== Proof.LayerLast.lean ====
/- The last point of the grid, with what it leaves in scratch and in the result that the body copies out named. -/
module

public import proofs.«01_k».proof.Proof.LayerCopy
public import Idealize.ShloMosaic.Lib.Pipeline.FrameValue

@[expose] public section

set_option maxRecDepth 16384

noncomputable section

namespace Cert.Kernel2Ideal.Rows

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The accumulator as the point `n` leaves it, narrowed. -/
def narrowed (c : Dev nD) (n : ℕ) (hn : n < cfg0.N) : HbBuf0 (F := F) c hbM0_0 := k0_pay48 ((outsAt0 m c n hn).2.2.2.2.2.2.2.2.2.2.2)

/-- After the last point: the accumulator at what that point left, and narrowed in the result that the body copies out. -/
def PhiLast (c : Dev nD) (n : ℕ) (hn : n < cfg0.N) : sProp 𝕄 :=
  iprop(iprop(owns (c : Thread nD τ) scM0_0 fullShare ((outsAt0 m c n hn).2.2.2.2.2.2.2.2.2.2.2) ∗ (∃ d, owns (c : Thread nD τ) scM0_1 fullShare d)) ∗ (∃ r, prngReg c r) ∗ iprop(semVal ((c : Thread nD τ), SemLoc.dma 32) 0) ∗ iprop(emp) ∗ hbPt0 c hbM0_0 (narrowed m c n hn))

/-- What the last point returns. -/
def bodyLast (c : Dev nD) (t : Fin cfg0.N) : sProp 𝕄 :=
  iprop(PhiLast m c t.val t.isLt ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 28800000 in
/-- The body at the last point, the accumulator narrowed in the result it copies out. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyLast m c t) := by
  unfold bodyPre bodyLast bodyAt0 PhiLast narrowed
  simp only [before0_0, before0_1, before0_2, before0_3, before0_4, before0_5, before0_6, before0_7, before0_8, before0_9, before0_10]
  rw [after0_0, after0_1, after0_2, after0_3, after0_4, after0_5, after0_6, after0_7, after0_8, after0_9, after0_10, after0_11, after0_12, after0_13, after0_14, after0_15, after0_16, after0_17, after0_18, after0_19, after0_20, after0_21]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  have hz : t.val ≠ 0 := by omega
  rw [PhiS_castSucc m c t, PhiS_pos m c _ _ hz]
  rw [outsAt0_C m c t h0 h1]
  simp only [before0_17_C m c t h0 h1, before0_18_C m c t h0 h1, before0_19_C m c t h0 h1, before0_20_C m c t h0 h1, before0_21_C m c t h0 h1]
  unfold out0_C_11 out0_C_12 out0_C_13 out0_C_14 out0_C_15 out0_C_16 out0_C_17 out0_C_18 out0_C_19 out0_C_20 out0_C_21 sout0_C_0; (try dsimp only)
  iintro ⟨⟨⟨HS0, HS1⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (lastRun c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [H19]; · iexact H19
  isplitl [H20]; · iexact H20
  isplitl [H21]; · iexact H21
  isplitl [HS0]; · iexact HS0
  isplitl [HS1]; · iexact HS1
  isplitl [Hq0]; · iexact Hq0
  isplitl [Hh0]; · iexact Hh0
  isplitl [HW]; · iexact HW
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, HS1, Hq0, ⟨%fh, %fs, Hh0⟩, ⟨%W', HW'⟩⟩
  isplitl [HS0 HS1 Hg Hq0 Hh0]
  · isplitl [HS0 HS1]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact HS1
    isplitl [Hg]
    · iexact Hg
    isplitl [Hq0]
    · iexact Hq0
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H21
  ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Kernel2Ideal.Rows

end
-- ==== Proof.LayerLaunch.lean ====
/- The run of the whole program with every result named, the one that the body copies out among them. -/
module

public import proofs.«01_k».proof.Proof.LayerLast
public import proofs.«01_k».proof.Proof.Gen.Kernel2Ideal.Value
public import Idealize.ShloMosaic.Lib.Pipeline.FrameValue

@[expose] public section

set_option maxRecDepth 16384

noncomputable section

namespace Cert.Kernel2Ideal.Rows

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The invariant: the run's own, and after the last point the accumulator narrowed in the result that the body copies out. -/
def PhiG (c : Dev nD) : (n : ℕ) → n ≤ cfg0.N → sProp 𝕄
  | 0, h => PhiS m c 0 h
  | n + 1, hn => if n = 15 then PhiLast m c n hn else PhiS m c (n + 1) hn

theorem PhiG_before (c : Dev nD) : (n : ℕ) → (h : n ≤ cfg0.N) → n < 16 → PhiG m c n h = PhiS m c n h
  | 0, _, _ => rfl
  | n + 1, _, l => if_neg (by omega)

theorem PhiG_last (c : Dev nD) (n : ℕ) (hn : n < cfg0.N) (h : n = 15) : PhiG m c (n + 1) hn = PhiLast m c n hn := if_pos h

/-- The proof data of the pipeline with that invariant. -/
def datsG (_ : Fin 1) (c : Dev nD) : Dat τ (Elt F) Unit ℕ (Pipeline.UD sig nD τ) ℕ cfg0 c :=
  { dats m 0 c with Φ := fun t => PhiG m c t.val (Nat.le_of_lt_succ t.isLt) }

theorem beforeG (c : Dev nD) (w : Fin cfg0.W) (t : Fin cfg0.N) (d) : (datsG m 0 c).before w t d = (dats m 0 c).before w t d := rfl
theorem afterG (c : Dev nD) (w : Fin cfg0.W) (t : Fin cfg0.N) : (datsG m 0 c).after w t = (dats m 0 c).after w t := rfl
theorem owesG (c : Dev nD) (t : Fin (cfg0.N + 1)) : (datsG m 0 c).owesAt () t = (dats m 0 c).owesAt () t := rfl
theorem arrG (c : Dev nD) (w : Fin cfg0.W) (n : ℕ) : (datsG m 0 c).arrAt w n = (dats m 0 c).arrAt w n := by
  induction n with
  | zero => rfl
  | succ n ih =>
    unfold Dat.arrAt
    rw [ih]
    rfl

/-- What the body is called with at a point, and what it returns. -/
def bodyPreG (c : Dev nD) (t : Fin cfg0.N) : sProp 𝕄 :=
  iprop((datsG m 0 c).Φ t.castSucc ∗ (datsG m 0 c).owesAt () t.castSucc
    ∗ (∃ d, owns (c : Thread nD τ) (ms0_0 t) fullShare ((datsG m 0 c).before 0 t d))
    ∗ (∃ d, owns (c : Thread nD τ) (ms0_1 t) fullShare ((datsG m 0 c).before 1 t d))
    ∗ (∃ d, owns (c : Thread nD τ) (ms0_2 t) fullShare ((datsG m 0 c).before 2 t d))
    ∗ (∃ d, owns (c : Thread nD τ) (ms0_3 t) fullShare ((datsG m 0 c).before 3 t d))
    ∗ (∃ d, owns (c : Thread nD τ) (ms0_4 t) fullShare ((datsG m 0 c).before 4 t d))
    ∗ (∃ d, owns (c : Thread nD τ) (ms0_5 t) fullShare ((datsG m 0 c).before 5 t d))
    ∗ (∃ d, owns (c : Thread nD τ) (ms0_6 t) fullShare ((datsG m 0 c).before 6 t d))
    ∗ (∃ d, owns (c : Thread nD τ) (ms0_7 t) fullShare ((datsG m 0 c).before 7 t d))
    ∗ (∃ d, owns (c : Thread nD τ) (ms0_8 t) fullShare ((datsG m 0 c).before 8 t d))
    ∗ (∃ d, owns (c : Thread nD τ) (ms0_9 t) fullShare ((datsG m 0 c).before 9 t d))
    ∗ (∃ d, owns (c : Thread nD τ) (ms0_10 t) fullShare ((datsG m 0 c).before 10 t d))
    ∗ (∃ d, owns (c : Thread nD τ) (ms0_11 t) fullShare ((datsG m 0 c).before 11 t d))
    ∗ (∃ d, owns (c : Thread nD τ) (ms0_12 t) fullShare ((datsG m 0 c).before 12 t d))
    ∗ (∃ d, owns (c : Thread nD τ) (ms0_13 t) fullShare ((datsG m 0 c).before 13 t d))
    ∗ (∃ d, owns (c : Thread nD τ) (ms0_14 t) fullShare ((datsG m 0 c).before 14 t d))
    ∗ (∃ d, owns (c : Thread nD τ) (ms0_15 t) fullShare ((datsG m 0 c).before 15 t d))
    ∗ (∃ d, owns (c : Thread nD τ) (ms0_16 t) fullShare ((datsG m 0 c).before 16 t d))
    ∗ (∃ d, owns (c : Thread nD τ) (ms0_17 t) fullShare ((datsG m 0 c).before 17 t d))
    ∗ (∃ d, owns (c : Thread nD τ) (ms0_18 t) fullShare ((datsG m 0 c).before 18 t d))
    ∗ (∃ d, owns (c : Thread nD τ) (ms0_19 t) fullShare ((datsG m 0 c).before 19 t d))
    ∗ (∃ d, owns (c : Thread nD τ) (ms0_20 t) fullShare ((datsG m 0 c).before 20 t d))
    ∗ (∃ d, owns (c : Thread nD τ) (ms0_21 t) fullShare ((datsG m 0 c).before 21 t d)))

def bodyPostG (c : Dev nD) (t : Fin cfg0.N) : sProp 𝕄 :=
  iprop((datsG m 0 c).Φ t.succ ∗ (datsG m 0 c).owesAt () t.succ
    ∗ owns (c : Thread nD τ) (ms0_0 t) fullShare ((datsG m 0 c).after 0 t)
    ∗ owns (c : Thread nD τ) (ms0_1 t) fullShare ((datsG m 0 c).after 1 t)
    ∗ owns (c : Thread nD τ) (ms0_2 t) fullShare ((datsG m 0 c).after 2 t)
    ∗ owns (c : Thread nD τ) (ms0_3 t) fullShare ((datsG m 0 c).after 3 t)
    ∗ owns (c : Thread nD τ) (ms0_4 t) fullShare ((datsG m 0 c).after 4 t)
    ∗ owns (c : Thread nD τ) (ms0_5 t) fullShare ((datsG m 0 c).after 5 t)
    ∗ owns (c : Thread nD τ) (ms0_6 t) fullShare ((datsG m 0 c).after 6 t)
    ∗ owns (c : Thread nD τ) (ms0_7 t) fullShare ((datsG m 0 c).after 7 t)
    ∗ owns (c : Thread nD τ) (ms0_8 t) fullShare ((datsG m 0 c).after 8 t)
    ∗ owns (c : Thread nD τ) (ms0_9 t) fullShare ((datsG m 0 c).after 9 t)
    ∗ owns (c : Thread nD τ) (ms0_10 t) fullShare ((datsG m 0 c).after 10 t)
    ∗ owns (c : Thread nD τ) (ms0_11 t) fullShare ((datsG m 0 c).after 11 t)
    ∗ owns (c : Thread nD τ) (ms0_12 t) fullShare ((datsG m 0 c).after 12 t)
    ∗ owns (c : Thread nD τ) (ms0_13 t) fullShare ((datsG m 0 c).after 13 t)
    ∗ owns (c : Thread nD τ) (ms0_14 t) fullShare ((datsG m 0 c).after 14 t)
    ∗ owns (c : Thread nD τ) (ms0_15 t) fullShare ((datsG m 0 c).after 15 t)
    ∗ owns (c : Thread nD τ) (ms0_16 t) fullShare ((datsG m 0 c).after 16 t)
    ∗ owns (c : Thread nD τ) (ms0_17 t) fullShare ((datsG m 0 c).after 17 t)
    ∗ owns (c : Thread nD τ) (ms0_18 t) fullShare ((datsG m 0 c).after 18 t)
    ∗ owns (c : Thread nD τ) (ms0_19 t) fullShare ((datsG m 0 c).after 19 t)
    ∗ owns (c : Thread nD τ) (ms0_20 t) fullShare ((datsG m 0 c).after 20 t)
    ∗ owns (c : Thread nD τ) (ms0_21 t) fullShare ((datsG m 0 c).after 21 t))

theorem sound_bodyG (c : Dev nD) (t : Fin cfg0.N) :
    bodyPreG m c t ⊢ wp frame (wpE (defs₀ (F := F)) Variants.none c none) Set.univ (bodyAt0 t) (fun _ => bodyPostG m c t) := by
  have hN : t.val < 16 := lt_of_lt_of_eq t.isLt (show cfg0.N = 16 from N_0)
  have e : (datsG m 0 c).Φ t.castSucc = (dats m 0 c).Φ t.castSucc := PhiG_before m c t.val _ hN
  unfold bodyPreG bodyPostG
  simp only [beforeG, afterG, owesG]
  rw [e]
  by_cases h : t.val = 15
  · rw [show (datsG m 0 c).Φ t.succ = PhiLast m c t.val t.isLt from PhiG_last m c t.val t.isLt h]
    have q := sound_last m c t (by omega) (by omega)
    unfold bodyPre bodyLast at q
    exact q
  · rw [show (datsG m 0 c).Φ t.succ = (dats m 0 c).Φ t.succ from PhiG_before m c (t.val + 1) t.isLt (by omega)]
    have q := sound_body m c t
    unfold bodyPre bodyPost at q
    exact q

theorem obligationG (c : Dev nD) : BodyObligation (datsG (F := F) m 0 c) (defs₀ (F := F)) Variants.none () Set.univ := fun t => by
  rw [bigSep_W0, bigSep_W0, defs₀_row]
  exact triple_restated (sound_bodyG m c t) rfl .rfl fun _ => .rfl

theorem last_lt : 15 < cfg0.N := lt_of_lt_of_eq (by decide : 15 < 16) (show 16 = cfg0.N from N_0.symm)

/-- The contents at the end of the result that the body copies out. -/
def copiedOut (c : Dev nD) : (b : Ref sig .tc) → Buf (Elt F) ((c.tc : Thread nD τ).loc b) :=
  Function.update (V m c) main_v0_11 (narrowed m c 15 last_lt)

theorem routed_eq (G : (c : Dev nD) → (b : Ref sig .tc) → Buf (Elt F) ((c.tc : Thread nD τ).loc b)) (c : Dev nD) :
    (Pipeline.routed R0 c (G c) : sProp 𝕄) = hbPt0 c hbM0_0 (G c main_v0_11) := by
  unfold Pipeline.routed; rw [BI.bigSep_eq_bigSepL_of_eq [main_v0_11] (by decide) (by decide)]; rfl

theorem PhiDRG_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 32) 0) ∗ iprop(emp) ∗ hbPt0 c hbM0_0 (G c main_v0_11)) := by
  rw [Pipeline.ΦDRG_eq, scopedRest0_eq, ownSems00_eq, hbmPts0_eq, routed_eq]; simp only [scM0_0, scM0_1, owns_whole]; try rfl

theorem inG (c : Dev nD) : Pipeline.ΦDRG osem0 spec0 H0 R0 (V m) (V m) c ⊢ (datsG m 0 c).Φ 0 :=
  (Pipeline.ΦDRG_ΦDR osem0 spec0 H0 R0 (V m) (V m) c).trans (hin m c)

theorem outG (c : Dev nD) : (datsG m 0 c).Φ (Fin.last cfg0.N) ⊢ Pipeline.ΦDRG osem0 spec0 H0 R0 (V m) (copiedOut m) c := by
  have e : (datsG m 0 c).Φ (Fin.last cfg0.N) = PhiLast m c 15 last_lt := PhiG_last m c 15 last_lt rfl
  rw [e, PhiDRG_eq, show copiedOut m c main_v0_11 = narrowed m c 15 last_lt from Function.update_self ..]
  unfold PhiLast
  iintro ⟨⟨HS0, HS1⟩, Hg, Hq0, Hh0⟩
  isplitl [HS0 HS1]
  · isplitl [HS0]
    · iexists _; iexact HS0
    iexact HS1
  isplitl [Hg]; · iexact Hg
  isplitl [Hq0]
  · iexact Hq0
  iexact Hh0

set_option backward.isDefEq.respectTransparency.types false in
theorem run_named : θ_run defs (onTc (τ := τ) (main (F := F))) (s₀ m ρ) (Pipeline.FramePostRG cfgs (datsG m) 0 R0 (V m) (copiedOut m)) :=
  Pipeline.θ_run_frame_dmaRG (Q' := _) cfgs (datsG m) (0 : Fin 1) launch0 osem0 defs₀ Variants.none ownSemFacts0 H0 R0 H0_sub R0_sub m ρ main
    (hbody := fun c => (obligationG m c).loose) (hshare := fun c => (datsG m 0 c).share_full fun _ => rfl)
    (howed := fun _ _ => rfl) (V := V m) (hmain := hmain m Variants.none) (hA := A_eq m) (G := copiedOut m)
    (hin := inG m) (hout := outG m)

theorem of_named {r : PUnit × MemSt nD τ sig (Elt F)} (h : Pipeline.FramePostRG cfgs (datsG m) 0 R0 (V m) (copiedOut m) r) : Pipeline.FramePostR cfgs (dats m) 0 R0 (V m) r :=
  fun c => ⟨fun w => ((h.toR c).1 w).trans (arrG m c w _), (h.toR c).2⟩

theorem copied_named {r : PUnit × MemSt nD τ sig (Elt F)} (h : Pipeline.FramePostRG cfgs (datsG m) 0 R0 (V m) (copiedOut m) r) (c : Dev nD) :
    r.2.mem ((c : Thread nD τ).loc main_v0_11) = narrowed m c 15 last_lt :=
  (h.written c (b := main_v0_11) (by decide)).trans (Function.update_self ..)

/-- At the end every result is named: the eleven that the pipeline writes, and the one that the body copies out. -/
theorem run_all : θ_run defs (onTc (τ := τ) (main (F := F))) ⟨m, fun _ => 0, ρ⟩ fun r => ∀ c : Dev nD,
      r.2.mem ((c : Thread nD τ).loc main_v0_0) = (dats m 0 c).arrAt 11 cfg0.N
      ∧ r.2.mem ((c : Thread nD τ).loc main_v0_1) = (dats m 0 c).arrAt 12 cfg0.N
      ∧ r.2.mem ((c : Thread nD τ).loc main_v0_2) = (dats m 0 c).arrAt 13 cfg0.N
      ∧ r.2.mem ((c : Thread nD τ).loc main_v0_3) = (dats m 0 c).arrAt 14 cfg0.N
      ∧ r.2.mem ((c : Thread nD τ).loc main_v0_4) = (dats m 0 c).arrAt 15 cfg0.N
      ∧ r.2.mem ((c : Thread nD τ).loc main_v0_5) = (dats m 0 c).arrAt 16 cfg0.N
      ∧ r.2.mem ((c : Thread nD τ).loc main_v0_6) = (dats m 0 c).arrAt 17 cfg0.N
      ∧ r.2.mem ((c : Thread nD τ).loc main_v0_7) = (dats m 0 c).arrAt 18 cfg0.N
      ∧ r.2.mem ((c : Thread nD τ).loc main_v0_8) = (dats m 0 c).arrAt 19 cfg0.N
      ∧ r.2.mem ((c : Thread nD τ).loc main_v0_9) = (dats m 0 c).arrAt 20 cfg0.N
      ∧ r.2.mem ((c : Thread nD τ).loc main_v0_10) = (dats m 0 c).arrAt 21 cfg0.N
      ∧ r.2.mem ((c : Thread nD τ).loc main_v0_11) = narrowed m c 15 last_lt
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
    have hR := of_named m h
    ⟨Value.post11 m r hR c, Value.post12 m r hR c, Value.post13 m r hR c, Value.post14 m r hR c, Value.post15 m r hR c, Value.post16 m r hR c, Value.post17 m r hR c, Value.post18 m r hR c, Value.post19 m r hR c, Value.post20 m r hR c, Value.post21 m r hR c,
      copied_named m h c,
      Value.kept_main_arg0 m r hR c, Value.kept_main_arg1 m r hR c, Value.kept_main_arg2 m r hR c, Value.kept_main_arg3 m r hR c, Value.kept_main_arg4 m r hR c, Value.kept_main_arg5 m r hR c, Value.kept_main_arg6 m r hR c, Value.kept_main_arg7 m r hR c, Value.kept_main_arg8 m r hR c, Value.kept_main_arg9 m r hR c, Value.kept_main_arg10 m r hR c⟩)
    (run_named m ρ)

end Cert.Kernel2Ideal.Rows

end
-- ==== Proof.LayerRef.lean ====
/- The reference's values over the reals, one operation after the other. -/
module

public import proofs.«01_k».proof.Proof.LayerOps
public import proofs.«01_k».proof.Proof.Gen.Reference2Ideal.Read

@[expose] public section

noncomputable section

namespace Cert.Reference2Ideal.Values

open Cert.Reference2Ideal Cert.Reference2Ideal.Gen Cert.Reference2Ideal.Read Cert.Layer Idealize.ShloMosaic Idealize.ShloMosaic.TcCoe Idealize.SL.Sem Finset

/-- A rank-one index of extent 4096 is a row. -/
def rowIdx : Fin 4096 ≃ S4096.Idx where
  toFun k := ix1 k
  invFun i := i 0
  left_inv _ := rfl
  right_inv i := (eq_ix1 i).symm

/-- A sum over one index. -/
theorem total_one {z : EReal} (hz : z = ((0 : ℝ) : EReal)) {f : Fin 1 → EReal} {r : ℝ} (h : ∀ k, f k = ((r : ℝ) : EReal)) :
    z + ∑ k, f k = ((r : ℝ) : EReal) := by
  rw [Fin.sum_univ_one, hz, h, EReal.coe_zero, zero_add]

/-- A vector's entries as a column, and as a row. -/
theorem _root_.Cert.Layer.Vc.col {a : ℕ} {X : (⟨1, ![a]⟩ : Shape).Idx → EReal} {x : ℕ → ℝ} (h : Vc X x) {Y : (⟨2, ![a, 1]⟩ : Shape).Idx → EReal}
    (e : ∀ i, ∃ j, Y i = X j ∧ (j 0).val = (i 0).val * 1 + (i 1).val) : Mat Y fun i _ => x i := fun i => by
  obtain ⟨j, hj, hv⟩ := e i
  have h1 : (i 1).val < 1 := (i 1).isLt
  rw [hj, h j, hv, Nat.lt_one_iff.1 h1, Nat.mul_one, Nat.add_zero]
theorem _root_.Cert.Layer.Vc.row {b : ℕ} {X : (⟨1, ![b]⟩ : Shape).Idx → EReal} {x : ℕ → ℝ} (h : Vc X x) {Y : (⟨2, ![1, b]⟩ : Shape).Idx → EReal}
    (e : ∀ i, ∃ j, Y i = X j ∧ (j 0).val = (i 0).val * b + (i 1).val) : Mat Y fun _ n => x n := fun i => by
  obtain ⟨j, hj, hv⟩ := e i
  have h0 : (i 0).val < 1 := (i 0).isLt
  rw [hj, h j, hv, Nat.lt_one_iff.1 h0, Nat.zero_mul, Nat.zero_add]

/-- A choice between a value and zero, where the value is zero on the other side. -/
theorem keep_is (p d : ℝ) (h : p ≤ 0 → d = 0) :
    Scalar.select (FloatOps.cmpf (F := Ideal) (φ := .f32) .ogt ((p : ℝ) : EReal) ((0 : ℝ) : EReal)) ((d : ℝ) : EReal) ((0 : ℝ) : EReal) = ((d : ℝ) : EReal) := by
  by_cases hp : 0 < p
  · have e : FloatOps.cmpf (F := Ideal) (φ := .f32) .ogt ((p : ℝ) : EReal) ((0 : ℝ) : EReal) = 1#1 := by
      show BitVec.ofBool (decide (((0 : ℝ) : EReal) < ((p : ℝ) : EReal))) = 1#1
      rw [decide_eq_true (EReal.coe_lt_coe_iff.2 hp)]
      rfl
    rw [e]
    rfl
  · have e : FloatOps.cmpf (F := Ideal) (φ := .f32) .ogt ((p : ℝ) : EReal) ((0 : ℝ) : EReal) = 0#1 := by
      show BitVec.ofBool (decide (((0 : ℝ) : EReal) < ((p : ℝ) : EReal))) = 0#1
      rw [decide_eq_false (fun h' => hp (EReal.coe_lt_coe_iff.1 h'))]
      rfl
    rw [e, h (not_lt.1 hp)]
    rfl

/-- The arguments' entries are the reals of `S`. -/
structure Reals (x0 x1 : (⟨S4096x512, .bf16⟩ : BufTy).Contents (Elt Ideal)) (x2 x3 : (⟨S4096x1024, .f32⟩ : BufTy).Contents (Elt Ideal)) (x4 : (⟨S1024x1024, .bf16⟩ : BufTy).Contents (Elt Ideal)) (x5 : (⟨S1024x4096, .bf16⟩ : BufTy).Contents (Elt Ideal)) (x6 : (⟨S4096x1024, .bf16⟩ : BufTy).Contents (Elt Ideal)) (x7 x8 x9 x10 : (⟨S1x1024, .f32⟩ : BufTy).Contents (Elt Ideal)) (S : Args) : Prop where
  h0 : Mat x0 S.ch
  h1 : Mat x1 S.cc
  h2 : Mat x2 S.x
  h3 : Mat x3 S.tg
  h2w : Mat x4 S.wo
  h3w : Mat x5 S.w1
  h4w : Mat x6 S.w2
  h7 : Mat x7 (fun _ => S.g1)
  h8 : Mat x8 (fun _ => S.b1)
  h9 : Mat x9 (fun _ => S.g2)
  h10 : Mat x10 (fun _ => S.b2)

theorem v5 : Mat (val_main_v5 (F := Ideal)) (fun _ _ => 0) := fun i => (val_main_v5_apply i).trans zero_is
theorem v6 : Mat (val_main_v6 (F := Ideal)) (fun _ _ => 0) := fun i => (val_main_v6_apply i).trans zero_is
theorem v9 : Mat (val_main_v9 (F := Ideal)) (fun _ _ => alpha) := fun i => (val_main_v9_apply i).trans alpha_is
theorem v15 : Mat (val_main_v15 (F := Ideal)) (fun _ _ => 1024) := fun i => (val_main_v15_apply i).trans width_is
theorem v20 : Mat (val_main_v20 (F := Ideal)) (fun _ _ => 2) := fun i => (val_main_v20_apply i).trans two_is
theorem v24 : Mat (val_main_v24 (F := Ideal)) (fun _ _ => 1024) := fun i => (val_main_v24_apply i).trans width_is
theorem v26 : Mat (val_main_v26 (F := Ideal)) (fun _ _ => eps) := fun i => (val_main_v26_apply i).trans eps_is
theorem v30 : Mat (val_main_v30 (F := Ideal)) (fun _ _ => -(1 / 2)) := fun i => (val_main_v30_apply i).trans neg_half_is
theorem call0_v0 : Mat (val_main_call0_v0 (F := Ideal)) (fun _ _ => 0) := fun i => (val_main_call0_v0_apply i).trans zero_is
theorem v41 : Mat (val_main_v41 (F := Ideal)) (fun _ _ => 0) := fun i => (val_main_v41_apply i).trans zero_is
theorem v45 : Mat (val_main_v45 (F := Ideal)) (fun _ _ => 2) := fun i => (val_main_v45_apply i).trans two_is
theorem v47 : Mat (val_main_v47 (F := Ideal)) (fun _ _ => alpha) := fun i => (val_main_v47_apply i).trans alpha_is
theorem v54 : Mat (val_main_v54 (F := Ideal)) (fun _ _ => 1024) := fun i => (val_main_v54_apply i).trans width_is
theorem v59 : Mat (val_main_v59 (F := Ideal)) (fun _ _ => 2) := fun i => (val_main_v59_apply i).trans two_is
theorem v63 : Mat (val_main_v63 (F := Ideal)) (fun _ _ => 1024) := fun i => (val_main_v63_apply i).trans width_is
theorem v65 : Mat (val_main_v65 (F := Ideal)) (fun _ _ => eps) := fun i => (val_main_v65_apply i).trans eps_is
theorem v69 : Mat (val_main_v69 (F := Ideal)) (fun _ _ => -(1 / 2)) := fun i => (val_main_v69_apply i).trans neg_half_is
theorem v79 : Mat (val_main_v79 (F := Ideal)) (fun _ _ => 2) := fun i => (val_main_v79_apply i).trans two_is
theorem v82 : Vc (val_main_v82 (F := Ideal)) (fun _ => 1024) := fun i => (val_main_v82_apply i).trans width_is
theorem v86 (i : S_.Idx) : (val_main_v86 (F := Ideal)) i = ((1 / 2 * 1 : ℝ) : EReal) := by
  refine (val_main_v86_apply i).trans ((congrArg₂ (fun a b : EReal => a * b) half_is one_is).trans ?_)
  rw [← EReal.coe_mul]
theorem v87 : Vc (val_main_v87 (F := Ideal)) (fun _ => 1 / 2 * 1) := fun i => (val_main_v87_apply i).trans (v86 _)
theorem v88 : Vc (val_main_v88 (F := Ideal)) (fun _ => 1024) := fun i => (val_main_v88_apply i).trans width_is
theorem v89 : Vc (val_main_v89 (F := Ideal)) (fun _ => 1 / 2 * 1 / 1024) := v87.div v88 fun _ => by norm_num
theorem v90 : Mat (val_main_v90 (F := Ideal)) (fun _ _ => 1 / 2 * 1 / 1024) := fun i => (val_main_v90_apply i).trans (v89 _)
theorem v105 : Mat (val_main_v105 (F := Ideal)) (fun _ _ => 1024) := fun i => (val_main_v105_apply i).trans width_is
theorem v114 : Mat (val_main_v114 (F := Ideal)) (fun _ _ => 1024) := fun i => (val_main_v114_apply i).trans width_is
theorem v120 : Mat (val_main_v120 (F := Ideal)) (fun _ _ => alpha) := fun i => (val_main_v120_apply i).trans alpha_is
theorem v123 : Mat (val_main_v123 (F := Ideal)) (fun _ _ => 0) := fun i => (val_main_v123_apply i).trans zero_is
theorem v140 : Mat (val_main_v140 (F := Ideal)) (fun _ _ => 1024) := fun i => (val_main_v140_apply i).trans width_is
theorem v149 : Mat (val_main_v149 (F := Ideal)) (fun _ _ => 1024) := fun i => (val_main_v149_apply i).trans width_is

section
variable {x0 x1 : (⟨S4096x512, .bf16⟩ : BufTy).Contents (Elt Ideal)} {x2 x3 : (⟨S4096x1024, .f32⟩ : BufTy).Contents (Elt Ideal)} {x4 : (⟨S1024x1024, .bf16⟩ : BufTy).Contents (Elt Ideal)} {x5 : (⟨S1024x4096, .bf16⟩ : BufTy).Contents (Elt Ideal)} {x6 : (⟨S4096x1024, .bf16⟩ : BufTy).Contents (Elt Ideal)} {x7 x8 x9 x10 : (⟨S1x1024, .f32⟩ : BufTy).Contents (Elt Ideal)} {S : Args}
variable (H : Reals x0 x1 x2 x3 x4 x5 x6 x7 x8 x9 x10 S)
include H

theorem v0 : Mat (val_main_v0 (F := Ideal) x0) (S.ch) := fun i => H.h0 i
theorem v1 : Mat (val_main_v1 (F := Ideal) x1) (S.cc) := fun i => H.h1 i
theorem v2 : Mat (val_main_v2 (F := Ideal) x4) (S.wo) := fun i => H.h2w i
theorem v3 : Mat (val_main_v3 (F := Ideal) x5) (S.w1) := fun i => H.h3w i
theorem v4 : Mat (val_main_v4 (F := Ideal) x6) (S.w2) := fun i => H.h4w i
theorem v7 : Mat (val_main_v7 (F := Ideal) x0 x1) S.cat := Mat.of fun r j => by
  pointwise [val_main_v7]
  unfold Args.cat
  by_cases h : j.val < 512
  · rw [dif_pos h, if_pos h]
    exact v0 H _
  · rw [dif_neg h, if_neg h]
    exact v1 H _
theorem v8 : Mat (val_main_v8 (F := Ideal) x0 x1 x4) (fun i n => ∑ k ∈ range 1024, S.cat i k * S.wo k n) := fun i => (val_main_v8_apply x0 x1 x4 i).trans (dot_is (fun k => v7 H _) fun k => v2 H _)
theorem v10 : Mat (val_main_v10 (F := Ideal) x2) (fun i n => alpha * S.x i n) := v9.mul H.h2
theorem v11 : Mat (val_main_v11 (F := Ideal) x0 x1 x2 x4) (fun i n => alpha * S.x i n + ∑ k ∈ range 1024, S.cat i k * S.wo k n) := (v10 H).add (v8 H)
theorem v12 : Mat (val_main_v12 (F := Ideal) x0 x1 x2 x4) (S.p1) := ((v11 H).add v5).congr fun i n _ _ => by rw [S.sum_cat, add_zero]; rfl
theorem v13 : Vc (val_main_v13 (F := Ideal) x0 x1 x2 x4) (fun i => ∑ n ∈ range 1024, S.p1 i n) := fun i => (val_main_v13_apply x0 x1 x2 x4 i).trans (total_is zero_is fun k => v12 H _)
theorem v14 : Mat (val_main_v14 (F := Ideal) x0 x1 x2 x4) (fun i _ => ∑ n ∈ range 1024, S.p1 i n) := fun i => (val_main_v14_apply x0 x1 x2 x4 i).trans (v13 H _)
theorem v16 : Mat (val_main_v16 (F := Ideal) x0 x1 x2 x4) (fun i _ => mean (S.p1 i)) := (v14 H).div v15 fun _ _ => by norm_num
theorem v17 : Mat (val_main_v17 (F := Ideal) x0 x1 x2 x4) (fun i _ => mean (S.p1 i)) := fun i => (val_main_v17_apply x0 x1 x2 x4 i).trans (v16 H _)
theorem v18 : Mat (val_main_v18 (F := Ideal) x0 x1 x2 x4) (fun i => cent (S.p1 i)) := (v12 H).sub (v17 H)
theorem v19 : Mat (val_main_v19 (F := Ideal) x0 x1 x2 x4) (fun i n => cent (S.p1 i) n * cent (S.p1 i) n) := (v18 H).mul (v18 H)
theorem v21 : Mat (val_main_v21 (F := Ideal) x0 x1 x2 x4) (fun i n => 2 * cent (S.p1 i) n) := v20.mul (v18 H)
theorem v22 : Vc (val_main_v22 (F := Ideal) x0 x1 x2 x4) (fun i => ∑ n ∈ range 1024, cent (S.p1 i) n * cent (S.p1 i) n) := fun i => (val_main_v22_apply x0 x1 x2 x4 i).trans (total_is zero_is fun k => v19 H _)
theorem v23 : Mat (val_main_v23 (F := Ideal) x0 x1 x2 x4) (fun i _ => ∑ n ∈ range 1024, cent (S.p1 i) n * cent (S.p1 i) n) := fun i => (val_main_v23_apply x0 x1 x2 x4 i).trans (v22 H _)
theorem v25 : Mat (val_main_v25 (F := Ideal) x0 x1 x2 x4) (fun i _ => var (S.p1 i)) := (v23 H).div v24 fun _ _ => by norm_num
theorem v27 : Mat (val_main_v27 (F := Ideal) x0 x1 x2 x4) (fun i _ => var (S.p1 i) + eps) := (v25 H).add v26
theorem v28 : Mat (val_main_v28 (F := Ideal) x0 x1 x2 x4) (fun i _ => rstd (S.p1 i)) := (v27 H).rsqrt fun i _ => var_pos (S.p1 i)
theorem v29 : Mat (val_main_v29 (F := Ideal) x0 x1 x2 x4) (fun i _ => rstd (S.p1 i) / (var (S.p1 i) + eps)) := (v28 H).div (v27 H) fun i _ => (var_pos (S.p1 i)).ne'
theorem v31 : Mat (val_main_v31 (F := Ideal) x0 x1 x2 x4) (fun i _ => -(1 / 2) * (rstd (S.p1 i) / (var (S.p1 i) + eps))) := v30.mul (v29 H)
theorem v32 : Mat (val_main_v32 (F := Ideal) x0 x1 x2 x4) (fun i _ => rstd (S.p1 i)) := fun i => (val_main_v32_apply x0 x1 x2 x4 i).trans (v28 H _)
theorem v33 : Mat (val_main_v33 (F := Ideal) x0 x1 x2 x4) (fun i => hat (S.p1 i)) := (v18 H).mul (v32 H)
theorem v34 : Mat (val_main_v34 (F := Ideal) x7) (fun _ => S.g1) := fun i => (val_main_v34_apply x7 i).trans (H.h7 _)
theorem v35 : Mat (val_main_v35 (F := Ideal) x0 x1 x2 x4 x7) (fun i n => hat (S.p1 i) n * S.g1 n) := (v33 H).mul (v34 H)
theorem v36 : Mat (val_main_v36 (F := Ideal) x8) (fun _ => S.b1) := fun i => (val_main_v36_apply x8 i).trans (H.h8 _)
theorem v37 : Mat (val_main_v37 (F := Ideal) x0 x1 x2 x4 x7 x8) (S.h) := (v35 H).add (v36 H)
theorem v38 : Mat (val_main_v38 (F := Ideal) x0 x1 x2 x4 x5 x7 x8) (S.pre) := fun i => (val_main_v38_apply x0 x1 x2 x4 x5 x7 x8 i).trans (dot_is (fun k => v37 H _) fun k => v3 H _)
theorem v39 : Mat (val_main_v39 (F := Ideal) x0 x1 x2 x4 x5 x7 x8) (S.pre) := ((v38 H).add v6).congr fun i f _ _ => add_zero _
theorem v40 : Mat (val_main_v40 (F := Ideal) x0 x1 x2 x4 x5 x7 x8) (S.act) := (v39 H).max call0_v0
theorem v44 : Mat (val_main_v44 (F := Ideal) x0 x1 x2 x4 x5 x7 x8) (S.r) := (v40 H).mul (v40 H)
theorem v46 : Mat (val_main_v46 (F := Ideal) x0 x1 x2 x4 x5 x7 x8) (fun i f => 2 * S.act i f) := v45.mul (v40 H)
theorem v48 : Mat (val_main_v48 (F := Ideal) x0 x1 x2 x4 x7 x8) (fun i n => alpha * S.h i n) := v47.mul (v37 H)
theorem v49 : Mat (val_main_v49 (F := Ideal) x0 x1 x2 x4 x5 x6 x7 x8) (fun i n => ∑ f ∈ range 4096, S.r i f * S.w2 f n) := fun i => (val_main_v49_apply x0 x1 x2 x4 x5 x6 x7 x8 i).trans (dot_is (fun k => v44 H _) fun k => v4 H _)
theorem v50 : Mat (val_main_v50 (F := Ideal) x0 x1 x2 x4 x5 x6 x7 x8) (S.p2) := (v48 H).add (v49 H)
theorem v51 : Mat (val_main_v51 (F := Ideal) x0 x1 x2 x4 x5 x6 x7 x8) (S.p2) := ((v50 H).add v5).congr fun i n _ _ => add_zero _
theorem v52 : Vc (val_main_v52 (F := Ideal) x0 x1 x2 x4 x5 x6 x7 x8) (fun i => ∑ n ∈ range 1024, S.p2 i n) := fun i => (val_main_v52_apply x0 x1 x2 x4 x5 x6 x7 x8 i).trans (total_is zero_is fun k => v51 H _)
theorem v53 : Mat (val_main_v53 (F := Ideal) x0 x1 x2 x4 x5 x6 x7 x8) (fun i _ => ∑ n ∈ range 1024, S.p2 i n) := fun i => (val_main_v53_apply x0 x1 x2 x4 x5 x6 x7 x8 i).trans (v52 H _)
theorem v55 : Mat (val_main_v55 (F := Ideal) x0 x1 x2 x4 x5 x6 x7 x8) (fun i _ => mean (S.p2 i)) := (v53 H).div v54 fun _ _ => by norm_num
theorem v56 : Mat (val_main_v56 (F := Ideal) x0 x1 x2 x4 x5 x6 x7 x8) (fun i _ => mean (S.p2 i)) := fun i => (val_main_v56_apply x0 x1 x2 x4 x5 x6 x7 x8 i).trans (v55 H _)
theorem v57 : Mat (val_main_v57 (F := Ideal) x0 x1 x2 x4 x5 x6 x7 x8) (fun i => cent (S.p2 i)) := (v51 H).sub (v56 H)
theorem v58 : Mat (val_main_v58 (F := Ideal) x0 x1 x2 x4 x5 x6 x7 x8) (fun i n => cent (S.p2 i) n * cent (S.p2 i) n) := (v57 H).mul (v57 H)
theorem v60 : Mat (val_main_v60 (F := Ideal) x0 x1 x2 x4 x5 x6 x7 x8) (fun i n => 2 * cent (S.p2 i) n) := v59.mul (v57 H)
theorem v61 : Vc (val_main_v61 (F := Ideal) x0 x1 x2 x4 x5 x6 x7 x8) (fun i => ∑ n ∈ range 1024, cent (S.p2 i) n * cent (S.p2 i) n) := fun i => (val_main_v61_apply x0 x1 x2 x4 x5 x6 x7 x8 i).trans (total_is zero_is fun k => v58 H _)
theorem v62 : Mat (val_main_v62 (F := Ideal) x0 x1 x2 x4 x5 x6 x7 x8) (fun i _ => ∑ n ∈ range 1024, cent (S.p2 i) n * cent (S.p2 i) n) := fun i => (val_main_v62_apply x0 x1 x2 x4 x5 x6 x7 x8 i).trans (v61 H _)
theorem v64 : Mat (val_main_v64 (F := Ideal) x0 x1 x2 x4 x5 x6 x7 x8) (fun i _ => var (S.p2 i)) := (v62 H).div v63 fun _ _ => by norm_num
theorem v66 : Mat (val_main_v66 (F := Ideal) x0 x1 x2 x4 x5 x6 x7 x8) (fun i _ => var (S.p2 i) + eps) := (v64 H).add v65
theorem v67 : Mat (val_main_v67 (F := Ideal) x0 x1 x2 x4 x5 x6 x7 x8) (fun i _ => rstd (S.p2 i)) := (v66 H).rsqrt fun i _ => var_pos (S.p2 i)
theorem v68 : Mat (val_main_v68 (F := Ideal) x0 x1 x2 x4 x5 x6 x7 x8) (fun i _ => rstd (S.p2 i) / (var (S.p2 i) + eps)) := (v67 H).div (v66 H) fun i _ => (var_pos (S.p2 i)).ne'
theorem v70 : Mat (val_main_v70 (F := Ideal) x0 x1 x2 x4 x5 x6 x7 x8) (fun i _ => -(1 / 2) * (rstd (S.p2 i) / (var (S.p2 i) + eps))) := v69.mul (v68 H)
theorem v71 : Mat (val_main_v71 (F := Ideal) x0 x1 x2 x4 x5 x6 x7 x8) (fun i _ => rstd (S.p2 i)) := fun i => (val_main_v71_apply x0 x1 x2 x4 x5 x6 x7 x8 i).trans (v67 H _)
theorem v72 : Mat (val_main_v72 (F := Ideal) x0 x1 x2 x4 x5 x6 x7 x8) (fun i => hat (S.p2 i)) := (v57 H).mul (v71 H)
theorem v73 : Mat (val_main_v73 (F := Ideal) x9) (fun _ => S.g2) := fun i => (val_main_v73_apply x9 i).trans (H.h9 _)
theorem v74 : Mat (val_main_v74 (F := Ideal) x0 x1 x2 x4 x5 x6 x7 x8 x9) (fun i n => hat (S.p2 i) n * S.g2 n) := (v72 H).mul (v73 H)
theorem v75 : Mat (val_main_v75 (F := Ideal) x10) (fun _ => S.b2) := fun i => (val_main_v75_apply x10 i).trans (H.h10 _)
theorem v76 : Mat (val_main_v76 (F := Ideal) x0 x1 x2 x4 x5 x6 x7 x8 x9 x10) (fun i n => hat (S.p2 i) n * S.g2 n + S.b2 n) := (v74 H).add (v75 H)
theorem v77 : Mat (val_main_v77 (F := Ideal) x0 x1 x2 x3 x4 x5 x6 x7 x8 x9 x10) (S.err) := (v76 H).sub H.h3
theorem v78 : Mat (val_main_v78 (F := Ideal) x0 x1 x2 x3 x4 x5 x6 x7 x8 x9 x10) (fun i n => S.err i n * S.err i n) := (v77 H).mul (v77 H)
theorem v80 : Mat (val_main_v80 (F := Ideal) x0 x1 x2 x3 x4 x5 x6 x7 x8 x9 x10) (fun i n => 2 * S.err i n) := v79.mul (v77 H)
theorem v81 : Vc (val_main_v81 (F := Ideal) x0 x1 x2 x3 x4 x5 x6 x7 x8 x9 x10) (fun i => ∑ n ∈ range 1024, S.err i n * S.err i n) := fun i => (val_main_v81_apply x0 x1 x2 x3 x4 x5 x6 x7 x8 x9 x10 i).trans (total_is zero_is fun k => v78 H _)
theorem v83 : Vc (val_main_v83 (F := Ideal) x0 x1 x2 x3 x4 x5 x6 x7 x8 x9 x10) (fun i => mean fun n => S.err i n * S.err i n) := (v81 H).div v82 fun _ => by norm_num
theorem v84 (i : S_.Idx) : (val_main_v84 (F := Ideal) x0 x1 x2 x3 x4 x5 x6 x7 x8 x9 x10) i = ((∑ i ∈ range 4096, mean fun n => S.err i n * S.err i n : ℝ) : EReal) := by
  refine (val_main_v84_apply x0 x1 x2 x3 x4 x5 x6 x7 x8 x9 x10 i).trans ?_
  rw [← Equiv.sum_comp rowIdx]
  exact total_is zero_is fun k => v83 H _
theorem v85 (i : S_.Idx) : (val_main_v85 (F := Ideal) x0 x1 x2 x3 x4 x5 x6 x7 x8 x9 x10) i = ((S.loss 4096 : ℝ) : EReal) := by
  refine (val_main_v85_apply x0 x1 x2 x3 x4 x5 x6 x7 x8 x9 x10 i).trans ((congrArg₂ (fun a b : EReal => a * b) half_is (v84 H i)).trans ?_)
  rw [← EReal.coe_mul]
  rfl
theorem v91 : Mat (val_main_v91 (F := Ideal) x0 x1 x2 x3 x4 x5 x6 x7 x8 x9 x10) (S.dy) := (v90.mul (v80 H)).congr fun i n _ _ => by unfold Args.dy; ring
theorem v92 : Vc (val_main_v92 (F := Ideal) x0 x1 x2 x3 x4 x5 x6 x7 x8 x9 x10) (S.db2 4096) := fun i => (val_main_v92_apply x0 x1 x2 x3 x4 x5 x6 x7 x8 x9 x10 i).trans (total_is zero_is fun k => v91 H _)
theorem v93 : Mat (val_main_v93 (F := Ideal) x0 x1 x2 x3 x4 x5 x6 x7 x8 x9 x10) (fun _ => S.db2 4096) := (v92 H).row fun i => ⟨_, val_main_v93_apply x0 x1 x2 x3 x4 x5 x6 x7 x8 x9 x10 i, rfl⟩
theorem v94 : Mat (val_main_v94 (F := Ideal) x0 x1 x2 x3 x4 x5 x6 x7 x8 x9 x10) (fun i n => S.dy i n * hat (S.p2 i) n) := ((v72 H).mul (v91 H)).congr fun i n _ _ => mul_comm _ _
theorem v95 : Vc (val_main_v95 (F := Ideal) x0 x1 x2 x3 x4 x5 x6 x7 x8 x9 x10) (S.dg2 4096) := fun i => (val_main_v95_apply x0 x1 x2 x3 x4 x5 x6 x7 x8 x9 x10 i).trans (total_is zero_is fun k => v94 H _)
theorem v96 : Mat (val_main_v96 (F := Ideal) x0 x1 x2 x3 x4 x5 x6 x7 x8 x9 x10) (fun _ => S.dg2 4096) := (v95 H).row fun i => ⟨_, val_main_v96_apply x0 x1 x2 x3 x4 x5 x6 x7 x8 x9 x10 i, rfl⟩
theorem v97 : Mat (val_main_v97 (F := Ideal) x9) (fun _ => S.g2) := fun i => (val_main_v97_apply x9 i).trans (H.h9 _)
theorem v98 : Mat (val_main_v98 (F := Ideal) x0 x1 x2 x3 x4 x5 x6 x7 x8 x9 x10) (fun i n => S.dy i n * S.g2 n) := (v91 H).mul (v97 H)
theorem v99 : Mat (val_main_v99 (F := Ideal) x0 x1 x2 x3 x4 x5 x6 x7 x8 x9 x10) (fun i n => cent (S.p2 i) n * (S.dy i n * S.g2 n)) := (v57 H).mul (v98 H)
theorem v100 : Vc (val_main_v100 (F := Ideal) x0 x1 x2 x3 x4 x5 x6 x7 x8 x9 x10) (fun i => ∑ n ∈ range 1024, cent (S.p2 i) n * (S.dy i n * S.g2 n)) := fun i => (val_main_v100_apply x0 x1 x2 x3 x4 x5 x6 x7 x8 x9 x10 i).trans (total_is zero_is fun k => v99 H _)
theorem v101 : Mat (val_main_v101 (F := Ideal) x0 x1 x2 x3 x4 x5 x6 x7 x8 x9 x10) (fun i _ => ∑ n ∈ range 1024, cent (S.p2 i) n * (S.dy i n * S.g2 n)) := (v100 H).col fun i => ⟨_, val_main_v101_apply x0 x1 x2 x3 x4 x5 x6 x7 x8 x9 x10 i, rfl⟩
theorem v102 : Mat (val_main_v102 (F := Ideal) x0 x1 x2 x4 x5 x6 x7 x8) (fun i _ => rstd (S.p2 i)) := fun i => (val_main_v102_apply x0 x1 x2 x4 x5 x6 x7 x8 i).trans (v67 H _)
theorem v103 : Mat (val_main_v103 (F := Ideal) x0 x1 x2 x3 x4 x5 x6 x7 x8 x9 x10) (fun i n => S.dy i n * S.g2 n * rstd (S.p2 i)) := (v98 H).mul (v102 H)
theorem v104 : Mat (val_main_v104 (F := Ideal) x0 x1 x2 x3 x4 x5 x6 x7 x8 x9 x10) (fun i _ => (∑ k ∈ range 1024, cent (S.p2 i) k * (fun n => S.dy i n * S.g2 n) k) * (-(1 / 2) * (rstd (S.p2 i) / (var (S.p2 i) + eps)))) := (v101 H).mul (v70 H)
theorem v106 : Mat (val_main_v106 (F := Ideal) x0 x1 x2 x3 x4 x5 x6 x7 x8 x9 x10) (fun i _ => (∑ k ∈ range 1024, cent (S.p2 i) k * (fun n => S.dy i n * S.g2 n) k) * (-(1 / 2) * (rstd (S.p2 i) / (var (S.p2 i) + eps))) / 1024) := (v104 H).div v105 fun _ _ => by norm_num
theorem v107 : Vc (val_main_v107 (F := Ideal) x0 x1 x2 x3 x4 x5 x6 x7 x8 x9 x10) (fun i => (∑ k ∈ range 1024, cent (S.p2 i) k * (fun n => S.dy i n * S.g2 n) k) * (-(1 / 2) * (rstd (S.p2 i) / (var (S.p2 i) + eps))) / 1024) := fun i => (val_main_v107_apply x0 x1 x2 x3 x4 x5 x6 x7 x8 x9 x10 i).trans (total_one zero_is fun k => v106 H _)
theorem v108 : Mat (val_main_v108 (F := Ideal) x0 x1 x2 x3 x4 x5 x6 x7 x8 x9 x10) (fun i _ => (∑ k ∈ range 1024, cent (S.p2 i) k * (fun n => S.dy i n * S.g2 n) k) * (-(1 / 2) * (rstd (S.p2 i) / (var (S.p2 i) + eps))) / 1024) := fun i => (val_main_v108_apply x0 x1 x2 x3 x4 x5 x6 x7 x8 x9 x10 i).trans (v107 H _)
theorem v109 : Mat (val_main_v109 (F := Ideal) x0 x1 x2 x3 x4 x5 x6 x7 x8 x9 x10) (fun i n => (∑ k ∈ range 1024, cent (S.p2 i) k * (fun n => S.dy i n * S.g2 n) k) * (-(1 / 2) * (rstd (S.p2 i) / (var (S.p2 i) + eps))) / 1024 * (2 * cent (S.p2 i) n)) := (v108 H).mul (v60 H)
theorem v110 : Mat (val_main_v110 (F := Ideal) x0 x1 x2 x3 x4 x5 x6 x7 x8 x9 x10) (fun i => through (fun n => S.dy i n * S.g2 n) (S.p2 i)) := (v103 H).add (v109 H)
theorem v111 : Mat (val_main_v111 (F := Ideal) x0 x1 x2 x3 x4 x5 x6 x7 x8 x9 x10) (fun i n => -through (fun n => S.dy i n * S.g2 n) (S.p2 i) n) := (v110 H).neg
theorem v112 : Vc (val_main_v112 (F := Ideal) x0 x1 x2 x3 x4 x5 x6 x7 x8 x9 x10) (fun i => ∑ n ∈ range 1024, -through (fun n => S.dy i n * S.g2 n) (S.p2 i) n) := fun i => (val_main_v112_apply x0 x1 x2 x3 x4 x5 x6 x7 x8 x9 x10 i).trans (total_is zero_is fun k => v111 H _)
theorem v113 : Mat (val_main_v113 (F := Ideal) x0 x1 x2 x3 x4 x5 x6 x7 x8 x9 x10) (fun i _ => ∑ n ∈ range 1024, -through (fun n => S.dy i n * S.g2 n) (S.p2 i) n) := (v112 H).col fun i => ⟨_, val_main_v113_apply x0 x1 x2 x3 x4 x5 x6 x7 x8 x9 x10 i, rfl⟩
theorem v115 : Mat (val_main_v115 (F := Ideal) x0 x1 x2 x3 x4 x5 x6 x7 x8 x9 x10) (fun i _ => (∑ n ∈ range 1024, -through (fun n => S.dy i n * S.g2 n) (S.p2 i) n) / 1024) := (v113 H).div v114 fun _ _ => by norm_num
theorem v116 : Vc (val_main_v116 (F := Ideal) x0 x1 x2 x3 x4 x5 x6 x7 x8 x9 x10) (fun i => (∑ n ∈ range 1024, -through (fun n => S.dy i n * S.g2 n) (S.p2 i) n) / 1024) := fun i => (val_main_v116_apply x0 x1 x2 x3 x4 x5 x6 x7 x8 x9 x10 i).trans (total_one zero_is fun k => v115 H _)
theorem v117 : Mat (val_main_v117 (F := Ideal) x0 x1 x2 x3 x4 x5 x6 x7 x8 x9 x10) (fun i _ => (∑ n ∈ range 1024, -through (fun n => S.dy i n * S.g2 n) (S.p2 i) n) / 1024) := fun i => (val_main_v117_apply x0 x1 x2 x3 x4 x5 x6 x7 x8 x9 x10 i).trans (v116 H _)
theorem v118 : Mat (val_main_v118 (F := Ideal) x0 x1 x2 x3 x4 x5 x6 x7 x8 x9 x10) (S.dp2) := ((v110 H).add (v117 H)).congr fun i n _ _ => lnBwd_eq _ _ n
theorem v119 : Mat (val_main_v119 (F := Ideal) x0 x1 x2 x3 x4 x5 x6 x7 x8 x9 x10) (fun i f => ∑ n ∈ range 1024, S.dp2 i n * S.w2 f n) := fun i => (val_main_v119_apply x0 x1 x2 x3 x4 x5 x6 x7 x8 x9 x10 i).trans (dot_is (fun k => v118 H _) fun k => v4 H _)
theorem v121 : Mat (val_main_v121 (F := Ideal) x0 x1 x2 x3 x4 x5 x6 x7 x8 x9 x10) (fun i n => alpha * S.dp2 i n) := v120.mul (v118 H)
theorem v122 : Mat (val_main_v122 (F := Ideal) x0 x1 x2 x3 x4 x5 x6 x7 x8 x9 x10) (S.da) := (v119 H).mul (v46 H)
theorem v124 : Mat (val_main_v124 (F := Ideal) x0 x1 x2 x3 x4 x5 x6 x7 x8 x9 x10) S.da := fun i => by
  refine (val_main_v124_apply x0 x1 x2 x3 x4 x5 x6 x7 x8 x9 x10 i).trans ?_
  rw [val_main_v42_apply x0 x1 x2 x4 x5 x7 x8 i, v122 H i, v123 i, v39 H i, v41 i]
  exact keep_is (S.pre (i 0).val (i 1).val) (S.da (i 0).val (i 1).val) fun h => by
    unfold Args.da Args.act
    rw [max_eq_right h, mul_zero, mul_zero]
theorem v125 : Mat (val_main_v125 (F := Ideal) x0 x1 x2 x3 x4 x5 x6 x7 x8 x9 x10) (fun i n => ∑ f ∈ range 4096, S.da i f * S.w1 n f) := fun i => (val_main_v125_apply x0 x1 x2 x3 x4 x5 x6 x7 x8 x9 x10 i).trans (dot_is (fun k => v124 H _) fun k => v3 H _)
theorem v126 : Mat (val_main_v126 (F := Ideal) x0 x1 x2 x3 x4 x5 x6 x7 x8 x9 x10) (S.dh) := (v121 H).add (v125 H)
theorem v127 : Vc (val_main_v127 (F := Ideal) x0 x1 x2 x3 x4 x5 x6 x7 x8 x9 x10) (S.db1 4096) := fun i => (val_main_v127_apply x0 x1 x2 x3 x4 x5 x6 x7 x8 x9 x10 i).trans (total_is zero_is fun k => v126 H _)
theorem v128 : Mat (val_main_v128 (F := Ideal) x0 x1 x2 x3 x4 x5 x6 x7 x8 x9 x10) (fun _ => S.db1 4096) := (v127 H).row fun i => ⟨_, val_main_v128_apply x0 x1 x2 x3 x4 x5 x6 x7 x8 x9 x10 i, rfl⟩
theorem v129 : Mat (val_main_v129 (F := Ideal) x0 x1 x2 x3 x4 x5 x6 x7 x8 x9 x10) (fun i n => S.dh i n * hat (S.p1 i) n) := ((v33 H).mul (v126 H)).congr fun i n _ _ => mul_comm _ _
theorem v130 : Vc (val_main_v130 (F := Ideal) x0 x1 x2 x3 x4 x5 x6 x7 x8 x9 x10) (S.dg1 4096) := fun i => (val_main_v130_apply x0 x1 x2 x3 x4 x5 x6 x7 x8 x9 x10 i).trans (total_is zero_is fun k => v129 H _)
theorem v131 : Mat (val_main_v131 (F := Ideal) x0 x1 x2 x3 x4 x5 x6 x7 x8 x9 x10) (fun _ => S.dg1 4096) := (v130 H).row fun i => ⟨_, val_main_v131_apply x0 x1 x2 x3 x4 x5 x6 x7 x8 x9 x10 i, rfl⟩
theorem v132 : Mat (val_main_v132 (F := Ideal) x7) (fun _ => S.g1) := fun i => (val_main_v132_apply x7 i).trans (H.h7 _)
theorem v133 : Mat (val_main_v133 (F := Ideal) x0 x1 x2 x3 x4 x5 x6 x7 x8 x9 x10) (fun i n => S.dh i n * S.g1 n) := (v126 H).mul (v132 H)
theorem v134 : Mat (val_main_v134 (F := Ideal) x0 x1 x2 x3 x4 x5 x6 x7 x8 x9 x10) (fun i n => cent (S.p1 i) n * (S.dh i n * S.g1 n)) := (v18 H).mul (v133 H)
theorem v135 : Vc (val_main_v135 (F := Ideal) x0 x1 x2 x3 x4 x5 x6 x7 x8 x9 x10) (fun i => ∑ n ∈ range 1024, cent (S.p1 i) n * (S.dh i n * S.g1 n)) := fun i => (val_main_v135_apply x0 x1 x2 x3 x4 x5 x6 x7 x8 x9 x10 i).trans (total_is zero_is fun k => v134 H _)
theorem v136 : Mat (val_main_v136 (F := Ideal) x0 x1 x2 x3 x4 x5 x6 x7 x8 x9 x10) (fun i _ => ∑ n ∈ range 1024, cent (S.p1 i) n * (S.dh i n * S.g1 n)) := (v135 H).col fun i => ⟨_, val_main_v136_apply x0 x1 x2 x3 x4 x5 x6 x7 x8 x9 x10 i, rfl⟩
theorem v137 : Mat (val_main_v137 (F := Ideal) x0 x1 x2 x4) (fun i _ => rstd (S.p1 i)) := fun i => (val_main_v137_apply x0 x1 x2 x4 i).trans (v28 H _)
theorem v138 : Mat (val_main_v138 (F := Ideal) x0 x1 x2 x3 x4 x5 x6 x7 x8 x9 x10) (fun i n => S.dh i n * S.g1 n * rstd (S.p1 i)) := (v133 H).mul (v137 H)
theorem v139 : Mat (val_main_v139 (F := Ideal) x0 x1 x2 x3 x4 x5 x6 x7 x8 x9 x10) (fun i _ => (∑ k ∈ range 1024, cent (S.p1 i) k * (fun n => S.dh i n * S.g1 n) k) * (-(1 / 2) * (rstd (S.p1 i) / (var (S.p1 i) + eps)))) := (v136 H).mul (v31 H)
theorem v141 : Mat (val_main_v141 (F := Ideal) x0 x1 x2 x3 x4 x5 x6 x7 x8 x9 x10) (fun i _ => (∑ k ∈ range 1024, cent (S.p1 i) k * (fun n => S.dh i n * S.g1 n) k) * (-(1 / 2) * (rstd (S.p1 i) / (var (S.p1 i) + eps))) / 1024) := (v139 H).div v140 fun _ _ => by norm_num
theorem v142 : Vc (val_main_v142 (F := Ideal) x0 x1 x2 x3 x4 x5 x6 x7 x8 x9 x10) (fun i => (∑ k ∈ range 1024, cent (S.p1 i) k * (fun n => S.dh i n * S.g1 n) k) * (-(1 / 2) * (rstd (S.p1 i) / (var (S.p1 i) + eps))) / 1024) := fun i => (val_main_v142_apply x0 x1 x2 x3 x4 x5 x6 x7 x8 x9 x10 i).trans (total_one zero_is fun k => v141 H _)
theorem v143 : Mat (val_main_v143 (F := Ideal) x0 x1 x2 x3 x4 x5 x6 x7 x8 x9 x10) (fun i _ => (∑ k ∈ range 1024, cent (S.p1 i) k * (fun n => S.dh i n * S.g1 n) k) * (-(1 / 2) * (rstd (S.p1 i) / (var (S.p1 i) + eps))) / 1024) := fun i => (val_main_v143_apply x0 x1 x2 x3 x4 x5 x6 x7 x8 x9 x10 i).trans (v142 H _)
theorem v144 : Mat (val_main_v144 (F := Ideal) x0 x1 x2 x3 x4 x5 x6 x7 x8 x9 x10) (fun i n => (∑ k ∈ range 1024, cent (S.p1 i) k * (fun n => S.dh i n * S.g1 n) k) * (-(1 / 2) * (rstd (S.p1 i) / (var (S.p1 i) + eps))) / 1024 * (2 * cent (S.p1 i) n)) := (v143 H).mul (v21 H)
theorem v145 : Mat (val_main_v145 (F := Ideal) x0 x1 x2 x3 x4 x5 x6 x7 x8 x9 x10) (fun i => through (fun n => S.dh i n * S.g1 n) (S.p1 i)) := (v138 H).add (v144 H)
theorem v146 : Mat (val_main_v146 (F := Ideal) x0 x1 x2 x3 x4 x5 x6 x7 x8 x9 x10) (fun i n => -through (fun n => S.dh i n * S.g1 n) (S.p1 i) n) := (v145 H).neg
theorem v147 : Vc (val_main_v147 (F := Ideal) x0 x1 x2 x3 x4 x5 x6 x7 x8 x9 x10) (fun i => ∑ n ∈ range 1024, -through (fun n => S.dh i n * S.g1 n) (S.p1 i) n) := fun i => (val_main_v147_apply x0 x1 x2 x3 x4 x5 x6 x7 x8 x9 x10 i).trans (total_is zero_is fun k => v146 H _)
theorem v148 : Mat (val_main_v148 (F := Ideal) x0 x1 x2 x3 x4 x5 x6 x7 x8 x9 x10) (fun i _ => ∑ n ∈ range 1024, -through (fun n => S.dh i n * S.g1 n) (S.p1 i) n) := (v147 H).col fun i => ⟨_, val_main_v148_apply x0 x1 x2 x3 x4 x5 x6 x7 x8 x9 x10 i, rfl⟩
theorem v150 : Mat (val_main_v150 (F := Ideal) x0 x1 x2 x3 x4 x5 x6 x7 x8 x9 x10) (fun i _ => (∑ n ∈ range 1024, -through (fun n => S.dh i n * S.g1 n) (S.p1 i) n) / 1024) := (v148 H).div v149 fun _ _ => by norm_num
theorem v151 : Vc (val_main_v151 (F := Ideal) x0 x1 x2 x3 x4 x5 x6 x7 x8 x9 x10) (fun i => (∑ n ∈ range 1024, -through (fun n => S.dh i n * S.g1 n) (S.p1 i) n) / 1024) := fun i => (val_main_v151_apply x0 x1 x2 x3 x4 x5 x6 x7 x8 x9 x10 i).trans (total_one zero_is fun k => v150 H _)
theorem v152 : Mat (val_main_v152 (F := Ideal) x0 x1 x2 x3 x4 x5 x6 x7 x8 x9 x10) (fun i _ => (∑ n ∈ range 1024, -through (fun n => S.dh i n * S.g1 n) (S.p1 i) n) / 1024) := fun i => (val_main_v152_apply x0 x1 x2 x3 x4 x5 x6 x7 x8 x9 x10 i).trans (v151 H _)
theorem v153 : Mat (val_main_v153 (F := Ideal) x0 x1 x2 x3 x4 x5 x6 x7 x8 x9 x10) (S.dp1) := ((v145 H).add (v152 H)).congr fun i n _ _ => lnBwd_eq _ _ n
theorem v154 : Mat (val_main_v154 (F := Ideal) x0 x1 x2 x3 x4 x5 x6 x7 x8 x9 x10) (fun n k => ∑ i ∈ range 4096, S.dp1 i n * S.cat i k) := fun i => (val_main_v154_apply x0 x1 x2 x3 x4 x5 x6 x7 x8 x9 x10 i).trans (dot_is (fun k => v153 H _) fun k => v7 H _)
theorem v155 : Mat (val_main_v155 (F := Ideal) x0 x1 x2 x3 x4 x5 x6 x7 x8 x9 x10) (fun k n => ∑ i ∈ range 4096, S.dp1 i n * S.cat i k) := fun i => (val_main_v155_apply x0 x1 x2 x3 x4 x5 x6 x7 x8 x9 x10 i).trans (v154 H _)
theorem v156 : Mat (val_main_v156 (F := Ideal) x0 x1 x2 x3 x4 x5 x6 x7 x8 x9 x10) (S.dcat) := fun i => (val_main_v156_apply x0 x1 x2 x3 x4 x5 x6 x7 x8 x9 x10 i).trans (dot_is (fun k => v153 H _) fun k => v2 H _)
theorem v157 : Mat (val_main_v157 (F := Ideal) x0 x1 x2 x3 x4 x5 x6 x7 x8 x9 x10) (S.dcat) := fun i => (val_main_v157_apply x0 x1 x2 x3 x4 x5 x6 x7 x8 x9 x10 i).trans (v156 H _)
theorem v158 : Mat (val_main_v158 (F := Ideal) x0 x1 x2 x3 x4 x5 x6 x7 x8 x9 x10) (fun i k => S.dcat i (512 + k)) := fun i => (val_main_v158_apply x0 x1 x2 x3 x4 x5 x6 x7 x8 x9 x10 i).trans (v156 H _)
theorem v159 : Mat (val_main_v159 (F := Ideal) x0 x1 x2 x4 x7 x8) (S.h) := fun i => v37 H i
theorem v160 : Mat (val_main_v160 (F := Ideal) x0 x1 x2 x4 x5 x7 x8) (S.r) := fun i => v44 H i
theorem v161 : Mat (val_main_v161 (F := Ideal) x0 x1 x2 x3 x4 x5 x6 x7 x8 x9 x10) (S.da) := fun i => v124 H i
theorem v162 : Mat (val_main_v162 (F := Ideal) x0 x1 x2 x3 x4 x5 x6 x7 x8 x9 x10) (S.dp2) := fun i => v118 H i
theorem v163 : Mat (val_main_v163 (F := Ideal) x0 x1 x2 x3 x4 x5 x6 x7 x8 x9 x10) S.dcat := Mat.of fun r j => by
  pointwise [val_main_v163]
  by_cases h : j.val < 512
  · rw [dif_pos h]
    exact v157 H _
  · rw [dif_neg h]
    refine (v158 H _).trans ?_
    show ((S.dcat r (512 + (j.val - 512)) : ℝ) : EReal) = _
    rw [Nat.add_sub_cancel' (not_lt.1 h)]
theorem v164 : Mat (val_main_v164 (F := Ideal) x0 x1 x2 x3 x4 x5 x6 x7 x8 x9 x10) (fun _ _ => S.loss 4096) := fun i => (val_main_v164_apply x0 x1 x2 x3 x4 x5 x6 x7 x8 x9 x10 i).trans (v85 H _)
theorem v165 : Mat (val_main_v165 (F := Ideal) x0 x1 x2 x3 x4 x5 x6 x7 x8 x9 x10) (S.dwo 4096) := fun i => (v155 H i).trans (congrArg _ (sum_congr rfl fun i _ => mul_comm _ _))
end

end Cert.Reference2Ideal.Values
end
-- ==== Proof.LayerAlgebraic.lean ====
/- The value claim of the second call: where the precondition holds, the kernel's program and the reference's end with equal results. -/
module

public import proofs.«01_k».proof.Defs
public import proofs.«01_k».proof.Proof.LayerFinite
public import proofs.«01_k».proof.Proof.LayerFold
public import proofs.«01_k».proof.Proof.LayerLaunch
public import proofs.«01_k».proof.Proof.LayerRef
public import proofs.«01_k».proof.Proof.Gen.Reference2Ideal.Run

@[expose] public section

set_option maxRecDepth 16384

noncomputable section

namespace Cert.Proof.Layer

open Idealize.ShloMosaic Idealize.ShloMosaic.TcCoe Idealize.SL.Sem
open Cert.Kernel2Ideal.Rows (Entries left narrowed last_lt run_all final11 final12 final13 final14 final15 final16 final17 final18 final19 final20 final21)
open Cert.Reference2Ideal.Values (Reals)
open Cert.Layer (Mat Mat.of)

/-- The real number at an entry of an argument. -/
def entry {a b : ℕ} (x : (⟨2, ![a, b]⟩ : Shape).Idx → EReal) (k j : ℕ) : ℝ :=
  if h : k < a ∧ j < b then EReal.toReal (x (ix2 ⟨k, h.1⟩ ⟨j, h.2⟩)) else 0

theorem entry_eq {a b : ℕ} (x : (⟨2, ![a, b]⟩ : Shape).Idx → EReal) (k : Fin a) (j : Fin b) : entry x k j = EReal.toReal (x (ix2 k j)) := dif_pos ⟨k.isLt, j.isLt⟩

theorem mat_of {a b : ℕ} {x : (⟨2, ![a, b]⟩ : Shape).Idx → EReal} (h : ∀ (k : Fin a) (j : Fin b), x (ix2 k j) = ((EReal.toReal (x (ix2 k j)) : ℝ) : EReal)) : Mat x (entry x) :=
  Mat.of fun k j => (h k j).trans (congrArg _ (entry_eq x k j).symm)

theorem row_of {b : ℕ} {x : (⟨2, ![1, b]⟩ : Shape).Idx → EReal} (h : ∀ (k : Fin 1) (j : Fin b), x (ix2 k j) = ((EReal.toReal (x (ix2 k j)) : ℝ) : EReal)) : Mat x (fun _ => entry x 0) :=
  (mat_of h).congr fun r j hr _ => by rw [Nat.lt_one_iff.mp hr]

theorem reals_of {x0 : (⟨⟨2, ![4096, 512]⟩, .bf16⟩ : BufTy).Contents (Elt Ideal)} {x1 : (⟨⟨2, ![4096, 512]⟩, .bf16⟩ : BufTy).Contents (Elt Ideal)} {x2 : (⟨⟨2, ![4096, 1024]⟩, .f32⟩ : BufTy).Contents (Elt Ideal)} {x3 : (⟨⟨2, ![4096, 1024]⟩, .f32⟩ : BufTy).Contents (Elt Ideal)} {x4 : (⟨⟨2, ![1024, 1024]⟩, .bf16⟩ : BufTy).Contents (Elt Ideal)} {x5 : (⟨⟨2, ![1024, 4096]⟩, .bf16⟩ : BufTy).Contents (Elt Ideal)} {x6 : (⟨⟨2, ![4096, 1024]⟩, .bf16⟩ : BufTy).Contents (Elt Ideal)} {x7 : (⟨⟨2, ![1, 1024]⟩, .f32⟩ : BufTy).Contents (Elt Ideal)} {x8 : (⟨⟨2, ![1, 1024]⟩, .f32⟩ : BufTy).Contents (Elt Ideal)} {x9 : (⟨⟨2, ![1, 1024]⟩, .f32⟩ : BufTy).Contents (Elt Ideal)} {x10 : (⟨⟨2, ![1, 1024]⟩, .f32⟩ : BufTy).Contents (Elt Ideal)}
    (h : @Cert.Pre_finite2.fn Cert.Pre_finite2.facts Ideal _ x0 x1 x2 x3 x4 x5 x6 x7 x8 x9 x10 = fun _ => 1#1) :
    Reals x0 x1 x2 x3 x4 x5 x6 x7 x8 x9 x10 ⟨entry x0, entry x1, entry x2, entry x3, entry x4, entry x5, entry x6, entry x7 0, entry x8 0, entry x9 0, entry x10 0⟩ where
  h0 := mat_of (Cert.Pre_finite2.real0 h)
  h1 := mat_of (Cert.Pre_finite2.real1 h)
  h2 := mat_of (Cert.Pre_finite2.real2 h)
  h3 := mat_of (Cert.Pre_finite2.real3 h)
  h2w := mat_of (Cert.Pre_finite2.real4 h)
  h3w := mat_of (Cert.Pre_finite2.real5 h)
  h4w := mat_of (Cert.Pre_finite2.real6 h)
  h7 := row_of (Cert.Pre_finite2.real7 h)
  h8 := row_of (Cert.Pre_finite2.real8 h)
  h9 := row_of (Cert.Pre_finite2.real9 h)
  h10 := row_of (Cert.Pre_finite2.real10 h)

theorem reals_congr {x0 y0 : (⟨⟨2, ![4096, 512]⟩, .bf16⟩ : BufTy).Contents (Elt Ideal)} {x1 y1 : (⟨⟨2, ![4096, 512]⟩, .bf16⟩ : BufTy).Contents (Elt Ideal)} {x2 y2 : (⟨⟨2, ![4096, 1024]⟩, .f32⟩ : BufTy).Contents (Elt Ideal)} {x3 y3 : (⟨⟨2, ![4096, 1024]⟩, .f32⟩ : BufTy).Contents (Elt Ideal)} {x4 y4 : (⟨⟨2, ![1024, 1024]⟩, .bf16⟩ : BufTy).Contents (Elt Ideal)} {x5 y5 : (⟨⟨2, ![1024, 4096]⟩, .bf16⟩ : BufTy).Contents (Elt Ideal)} {x6 y6 : (⟨⟨2, ![4096, 1024]⟩, .bf16⟩ : BufTy).Contents (Elt Ideal)} {x7 y7 : (⟨⟨2, ![1, 1024]⟩, .f32⟩ : BufTy).Contents (Elt Ideal)} {x8 y8 : (⟨⟨2, ![1, 1024]⟩, .f32⟩ : BufTy).Contents (Elt Ideal)} {x9 y9 : (⟨⟨2, ![1, 1024]⟩, .f32⟩ : BufTy).Contents (Elt Ideal)} {x10 y10 : (⟨⟨2, ![1, 1024]⟩, .f32⟩ : BufTy).Contents (Elt Ideal)} {S : Cert.Layer.Args}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (H : Reals x0 x1 x2 x3 x4 x5 x6 x7 x8 x9 x10 S) : Reals y0 y1 y2 y3 y4 y5 y6 y7 y8 y9 y10 S := by
  rw [e0, e1, e2, e3, e4, e5, e6, e7, e8, e9, e10]
  exact H

/-- Narrowing keeps every value. -/
theorem narrow_apply (v : Vec Ideal Cert.Kernel2Ideal.S1024x1024 .f32) (i : Cert.Kernel2Ideal.S1024x1024.Idx) : (Cert.Kernel2Ideal.Gen.k0_pay48 (F := Ideal) v i : EReal) = v i :=
  congrFun (shapeCast_id (truncf (F := Ideal) .bf16 v Cert.Kernel2Ideal.Gen.bitsLt_bf16_f32) Cert.Kernel2Ideal.Gen.shapeCasts_S1024x1024_S1024x1024) i

/-- What the body copies out, entry by entry. -/
theorem narrowed_is {m : (ℓ : Loc Cert.Kernel2Ideal.nD Cert.Kernel2Ideal.τ Cert.Kernel2Ideal.sig) → Buf (Elt Ideal) ℓ} {c : Dev Cert.Kernel2Ideal.nD} {S : Cert.Layer.Args} (E : Entries m c S) :
    narrowed m c 15 last_lt = fun i : Cert.Kernel2Ideal.S1024x1024.Idx => ((S.dwo 4096 (i 0).val (i 1).val : ℝ) : EReal) :=
  funext fun i => (narrow_apply _ i).trans ((left E 15 last_lt).dwo i)

theorem algebraic : Cert.algebraic_Kernel2Ideal_Reference2Ideal_pre_finite2 (hKernel2Ideal := Cert.Kernel2Ideal.Gen.facts) (hReference2Ideal := Cert.Reference2Ideal.Gen.facts) (hPre_finite2 := Cert.Pre_finite2.facts) := by
  intro m g m' g' hpre hargs
  have hR := fun c => reals_of (hpre c)
  have hE : ∀ c, Entries m c _ := fun c => ⟨(hR c).h0, (hR c).h1, (hR c).h2, (hR c).h3, (hR c).h2w, (hR c).h3w, (hR c).h4w, (hR c).h7, (hR c).h8, (hR c).h9, (hR c).h10⟩
  refine ⟨fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N, fun c => (Cert.Kernel2Ideal.Gen.dats m 0 c).arrAt 21 Cert.Kernel2Ideal.cfg0.N, fun c => narrowed m c 15 last_lt,
    (θ_run Cert.Kernel2Ideal.defs _ _).mono (fun r h c => ?_) (run_all (F := Ideal) m g),
    (θ_run Cert.Reference2Ideal.defs _ _).mono (fun r h c => ?_) (Cert.Reference2Ideal.Value.run (F := Ideal) m' g')⟩
  · exact h c
  · obtain ⟨h0, h1, h2, h3, h4, h5, h6, h7, h8, h9, h10, h11, ha⟩ := h c
    obtain ⟨e0, e1, e2, e3, e4, e5, e6, e7, e8, e9, e10⟩ := hargs c
    have H := reals_congr e0 e1 e2 e3 e4 e5 e6 e7 e8 e9 e10 (hR c)
    have E := hE c
    exact ⟨h0.trans ((Cert.Reference2Ideal.Read.val_main_v159_eq _).trans ((funext (Cert.Reference2Ideal.Values.v159 H)).trans (final11 E).symm)),
      h1.trans ((Cert.Reference2Ideal.Read.val_main_v160_eq _).trans ((funext (Cert.Reference2Ideal.Values.v160 H)).trans (final12 E).symm)),
      h2.trans ((Cert.Reference2Ideal.Read.val_main_v161_eq _).trans ((funext (Cert.Reference2Ideal.Values.v161 H)).trans (final13 E).symm)),
      h3.trans ((Cert.Reference2Ideal.Read.val_main_v162_eq _).trans ((funext (Cert.Reference2Ideal.Values.v162 H)).trans (final14 E).symm)),
      h4.trans ((Cert.Reference2Ideal.Read.val_main_v153_eq _).trans ((funext (Cert.Reference2Ideal.Values.v153 H)).trans (final15 E).symm)),
      h5.trans ((Cert.Reference2Ideal.Read.val_main_v163_eq _).trans ((funext (Cert.Reference2Ideal.Values.v163 H)).trans (final16 E).symm)),
      h6.trans ((Cert.Reference2Ideal.Read.val_main_v131_eq _).trans ((funext (Cert.Reference2Ideal.Values.v131 H)).trans (final17 E).symm)),
      h7.trans ((Cert.Reference2Ideal.Read.val_main_v128_eq _).trans ((funext (Cert.Reference2Ideal.Values.v128 H)).trans (final18 E).symm)),
      h8.trans ((Cert.Reference2Ideal.Read.val_main_v96_eq _).trans ((funext (Cert.Reference2Ideal.Values.v96 H)).trans (final19 E).symm)),
      h9.trans ((Cert.Reference2Ideal.Read.val_main_v93_eq _).trans ((funext (Cert.Reference2Ideal.Values.v93 H)).trans (final20 E).symm)),
      h10.trans ((Cert.Reference2Ideal.Read.val_main_v164_eq _).trans ((funext (Cert.Reference2Ideal.Values.v164 H)).trans (final21 E).symm)),
      h11.trans ((Cert.Reference2Ideal.Read.val_main_v165_eq _).trans ((funext (Cert.Reference2Ideal.Values.v165 H)).trans (narrowed_is E).symm)), ha⟩

end Cert.Proof.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Algebraic
public import Idealize.ShloMosaic.Adequacy
public import Idealize.ShloMosaic.Init
public import proofs.«01_k».proof.Proof.LayerAlgebraic

@[expose] public section

noncomputable section

namespace Cert.Proof

open Idealize.ShloMosaic Idealize.SL.Sem Cert.Kernel

/-- The reference declares no semaphore, so its run leaves every counter at zero. -/
theorem frame_r : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run (F := Ideal) m ρ)

/-- The second reference's, likewise. -/
theorem frame_r2 : Cert.quiescent_Reference2Ideal (hReference2Ideal := Cert.Reference2Ideal.Gen.facts) :=
  fun m ρ _ => (θ_run Cert.Reference2Ideal.defs _ _).mono (fun r h => ⟨fun c => (h c).2.2.2.2.2.2.2.2.2.2.2.2, sem_eq_zero_of_no_sems (by decide) r.2⟩) (Cert.Reference2Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_finite.facts, Cert.Pre_finite2.facts,
    fun m ρ _ => Cert.Kernel.Gen.frame m ρ, fun m ρ _ => Cert.KernelIdeal.Gen.frame m ρ, fun m ρ _ => Cert.KernelIdeal.Gen.frame m ρ, frame_r, fun m ρ _ => frame_r m ρ trivial,
    fun m ρ _ => Cert.Kernel2.Gen.frame m ρ, fun m ρ _ => Cert.Kernel2Ideal.Gen.frame m ρ, fun m ρ _ => Cert.Kernel2Ideal.Gen.frame m ρ, frame_r2, fun m ρ _ => frame_r2 m ρ trivial,
    trivial, algebraic, trivial, Layer.algebraic⟩

end Cert.Proof

end
